-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_v19) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S32x2048x1024 : Shape := ⟨3, ![32, 2048, 1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S1024 : Shape := ⟨1, ![1024]⟩
abbrev S128x8 : Shape := ⟨2, ![128, 8]⟩
abbrev S128x8x256 : Shape := ⟨3, ![128, 8, 256]⟩
abbrev S128x2048 : Shape := ⟨2, ![128, 2048]⟩
abbrev S1x2048 : Shape := ⟨2, ![1, 2048]⟩
abbrev S1x1024 : Shape := ⟨2, ![1, 1024]⟩
abbrev S1x512x1024 : Shape := ⟨3, ![1, 512, 1024]⟩
abbrev S128x128 : Shape := ⟨2, ![128, 128]⟩
abbrev S1x128x128 : Shape := ⟨3, ![1, 128, 128]⟩
abbrev S1x256x1024 : Shape := ⟨3, ![1, 256, 1024]⟩
abbrev S256x1024 : Shape := ⟨2, ![256, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩
abbrev S128x256 : Shape := ⟨2, ![128, 256]⟩

abbrev nBuf : Space → Nat
  | .hbm => 19
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S1024x4096, .f32⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S2048x1024, .f32⟩
  | .hbm, ⟨7, _⟩ => ⟨S1024, .f32⟩
  | .hbm, ⟨8, _⟩ => ⟨S1024, .f32⟩
  | .hbm, ⟨9, _⟩ => ⟨S128x8, .f32⟩
  | .hbm, ⟨10, _⟩ => ⟨S128x8x256, .f32⟩
  | .hbm, ⟨11, _⟩ => ⟨S128x2048, .f32⟩
  | .hbm, ⟨12, _⟩ => ⟨S1024x4096, .bf16⟩
  | .hbm, ⟨13, _⟩ => ⟨S1x2048, .f32⟩
  | .hbm, ⟨14, _⟩ => ⟨S1x2048, .f32⟩
  | .hbm, ⟨15, _⟩ => ⟨S2048x1024, .bf16⟩
  | .hbm, ⟨16, _⟩ => ⟨S1x1024, .f32⟩
  | .hbm, ⟨17, _⟩ => ⟨S1x1024, .f32⟩
  | .hbm, ⟨18, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x4096, .bf16⟩
  | .local _ .vmem, ⟨3, _⟩ => ⟨S1x2048, .f32⟩
  | .local _ .vmem, ⟨4, _⟩ => ⟨S1x2048, .f32⟩
  | .local _ .vmem, ⟨5, _⟩ => ⟨S8x128x128, .f32⟩
  | .local _ .vmem, ⟨6, _⟩ => ⟨S128x2048, .f32⟩
  | .local _ .vmem, ⟨7, _⟩ => ⟨S2048x1024, .bf16⟩
  | .local _ .vmem, ⟨8, _⟩ => ⟨S1x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S32x2048x1024 : Shape := ⟨3, ![32, 2048, 1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S1024 : Shape := ⟨1, ![1024]⟩
abbrev S32x2048x4096 : Shape := ⟨3, ![32, 2048, 4096]⟩
abbrev S_ : Shape := ⟨0, ![]⟩
abbrev S32x2048x2048 : Shape := ⟨3, ![32, 2048, 2048]⟩
abbrev S32x2048 : Shape := ⟨2, ![32, 2048]⟩
abbrev S32x2048x1 : Shape := ⟨3, ![32, 2048, 1]⟩
abbrev S1x1x2048 : Shape := ⟨3, ![1, 1, 2048]⟩
abbrev S32x16x128x8x256 : Shape := ⟨5, ![32, 16, 128, 8, 256]⟩
abbrev S128x128 : Shape := ⟨2, ![128, 128]⟩
abbrev S1x128x128 : Shape := ⟨3, ![1, 128, 128]⟩
abbrev S8x32x16x256x128 : Shape := ⟨5, ![8, 32, 16, 256, 128]⟩
abbrev S128x8 : Shape := ⟨2, ![128, 8]⟩
abbrev S1x1x128x8x1 : Shape := ⟨5, ![1, 1, 128, 8, 1]⟩
abbrev S1x1x1024 : Shape := ⟨3, ![1, 1, 1024]⟩

abbrev nBuf : Space → Nat
  | .hbm => 118
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x4096, .f32⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S2048x1024, .f32⟩
  | .hbm, ⟨7, _⟩ => ⟨S1024, .f32⟩
  | .hbm, ⟨8, _⟩ => ⟨S1024, .f32⟩
  | .hbm, ⟨9, _⟩ => ⟨S32x2048x4096, .f32⟩
  | .hbm, ⟨10, _⟩ => ⟨S32x2048x4096, .f32⟩
  | .hbm, ⟨11, _⟩ => ⟨S32x2048x4096, .f32⟩
  | .hbm, ⟨12, _⟩ => ⟨S_, .f32⟩
  | .hbm, ⟨13, _⟩ => ⟨S32x2048x4096, .f32⟩
  | .hbm, ⟨14, _⟩ => ⟨S32x2048x4096, .f32⟩
  | .hbm, ⟨15, _⟩ => ⟨S32x2048x4096, .f32⟩
  | .hbm, ⟨16, _⟩ => ⟨S_, .f32⟩
  | .hbm, ⟨17, _⟩ => ⟨S32x2048x4096, .f32⟩
  | .hbm, ⟨18, _⟩ => ⟨S32x2048x4096, .f32⟩
  | .hbm, ⟨19, _⟩ => ⟨S32x2048x4096, .f32⟩
  | .hbm, ⟨20, _⟩ => ⟨S_, .f32⟩
  | .hbm, ⟨21, _⟩ => ⟨S32x2048x4096, .f32⟩
  | .hbm, ⟨22, _⟩ => ⟨S32x2048x4096, .f32⟩
  | .hbm, ⟨23, _⟩ => ⟨S_, .f32⟩
  | .hbm, ⟨24, _⟩ => ⟨S32x2048x4096, .f32⟩
  | .hbm, ⟨25, _⟩ => ⟨S32x2048x4096, .f32⟩
  | .hbm, ⟨26, _⟩ => ⟨S32x2048x4096, .f32⟩
  | .hbm, ⟨27, _⟩ => ⟨S32x2048x2048, .f32⟩
  | .hbm, ⟨28, _⟩ => ⟨S32x2048x2048, .f32⟩
  | .hbm, ⟨29, _⟩ => ⟨S_, .f32⟩
  | .hbm, ⟨30, _⟩ => ⟨S32x2048, .f32⟩
  | .hbm, ⟨31, _⟩ => ⟨S32x2048x1, .f32⟩
  | .hbm, ⟨32, _⟩ => ⟨S_, .f32⟩
  | .hbm, ⟨33, _⟩ => ⟨S32x2048x1, .f32⟩
  | .hbm, ⟨34, _⟩ => ⟨S32x2048x1, .f32⟩
  | .hbm, ⟨35, _⟩ => ⟨S32x2048x2048, .f32⟩
  | .hbm, ⟨36, _⟩ => ⟨S32x2048x2048, .f32⟩
  | .hbm, ⟨37, _⟩ => ⟨S32x2048x2048, .f32⟩
  | .hbm, ⟨38, _⟩ => ⟨S_, .f32⟩
  | .hbm, ⟨39, _⟩ => ⟨S32x2048, .f32⟩
  | .hbm, ⟨40, _⟩ => ⟨S32x2048x1, .f32⟩
  | .hbm, ⟨41, _⟩ => ⟨S_, .f32⟩
  | .hbm, ⟨42, _⟩ => ⟨S32x2048x1, .f32⟩
  | .hbm, ⟨43, _⟩ => ⟨S32x2048x1, .f32⟩
  | .hbm, ⟨44, _⟩ => ⟨S32x2048x2048, .f32⟩
  | .hbm, ⟨45, _⟩ => ⟨S32x2048x2048, .f32⟩
  | .hbm, ⟨46, _⟩ => ⟨S_, .f32⟩
  | .hbm, ⟨47, _⟩ => ⟨S32x2048x1, .f32⟩
  | .hbm, ⟨48, _⟩ => ⟨S32x2048x1, .f32⟩
  | .hbm, ⟨49, _⟩ => ⟨S32x2048x1, .f32⟩
  | .hbm, ⟨50, _⟩ => ⟨S32x2048x2048, .f32⟩
  | .hbm, ⟨51, _⟩ => ⟨S32x2048x2048, .f32⟩
  | .hbm, ⟨52, _⟩ => ⟨S1x1x2048, .f32⟩
  | .hbm, ⟨53, _⟩ => ⟨S32x2048x2048, .f32⟩
  | .hbm, ⟨54, _⟩ => ⟨S32x2048x2048, .f32⟩
  | .hbm, ⟨55, _⟩ => ⟨S1x1x2048, .f32⟩
  | .hbm, ⟨56, _⟩ => ⟨S32x2048x2048, .f32⟩
  | .hbm, ⟨57, _⟩ => ⟨S32x2048x2048, .f32⟩
  | .hbm, ⟨58, _⟩ => ⟨S32x16x128x8x256, .f32⟩
  | .hbm, ⟨59, _⟩ => ⟨S_, .i1⟩
  | .hbm, ⟨60, _⟩ => ⟨S128x128, .i1⟩
  | .hbm, ⟨61, _⟩ => ⟨S128x128, .i32⟩
  | .hbm, ⟨62, _⟩ => ⟨S_, .i32⟩
  | .hbm, ⟨63, _⟩ => ⟨S128x128, .i32⟩
  | .hbm, ⟨64, _⟩ => ⟨S128x128, .i32⟩
  | .hbm, ⟨65, _⟩ => ⟨S128x128, .i32⟩
  | .hbm, ⟨66, _⟩ => ⟨S128x128, .i1⟩
  | .hbm, ⟨67, _⟩ => ⟨S_, .i1⟩
  | .hbm, ⟨68, _⟩ => ⟨S128x128, .i1⟩
  | .hbm, ⟨69, _⟩ => ⟨S128x128, .i1⟩
  | .hbm, ⟨70, _⟩ => ⟨S1x128x128, .i1⟩
  | .hbm, ⟨71, _⟩ => ⟨S_, .f32⟩
  | .hbm, ⟨72, _⟩ => ⟨S_, .f32⟩
  | .hbm, ⟨73, _⟩ => ⟨S8x128x128, .i1⟩
  | .hbm, ⟨74, _⟩ => ⟨S8x128x128, .f32⟩
  | .hbm, ⟨75, _⟩ => ⟨S8x128x128, .f32⟩
  | .hbm, ⟨76, _⟩ => ⟨S8x32x16x256x128, .f32⟩
  | .hbm, ⟨77, _⟩ => ⟨S32x16x128x8x256, .f32⟩
  | .hbm, ⟨78, _⟩ => ⟨S128x8, .f32⟩
  | .hbm, ⟨79, _⟩ => ⟨S1x1x128x8x1, .f32⟩
  | .hbm, ⟨80, _⟩ => ⟨S32x16x128x8x256, .f32⟩
  | .hbm, ⟨81, _⟩ => ⟨S32x16x128x8x256, .f32⟩
  | .hbm, ⟨82, _⟩ => ⟨S32x2048x2048, .f32⟩
  | .hbm, ⟨83, _⟩ => ⟨S32x2048x2048, .f32⟩
  | .hbm, ⟨84, _⟩ => ⟨S32x2048x1024, .f32⟩
  | .hbm, ⟨85, _⟩ => ⟨S_, .f32⟩
  | .hbm, ⟨86, _⟩ => ⟨S32x2048x1024, .f32⟩
  | .hbm, ⟨87, _⟩ => ⟨S32x2048x1024, .f32⟩
  | .hbm, ⟨88, _⟩ => ⟨S32x2048x1024, .f32⟩
  | .hbm, ⟨89, _⟩ => ⟨S_, .f32⟩
  | .hbm, ⟨90, _⟩ => ⟨S32x2048, .f32⟩
  | .hbm, ⟨91, _⟩ => ⟨S32x2048x1, .f32⟩
  | .hbm, ⟨92, _⟩ => ⟨S_, .f32⟩
  | .hbm, ⟨93, _⟩ => ⟨S32x2048x1, .f32⟩
  | .hbm, ⟨94, _⟩ => ⟨S32x2048x1, .f32⟩
  | .hbm, ⟨95, _⟩ => ⟨S32x2048x1024, .f32⟩
  | .hbm, ⟨96, _⟩ => ⟨S32x2048x1024, .f32⟩
  | .hbm, ⟨97, _⟩ => ⟨S32x2048x1024, .f32⟩
  | .hbm, ⟨98, _⟩ => ⟨S_, .f32⟩
  | .hbm, ⟨99, _⟩ => ⟨S32x2048, .f32⟩
  | .hbm, ⟨100, _⟩ => ⟨S32x2048x1, .f32⟩
  | .hbm, ⟨101, _⟩ => ⟨S_, .f32⟩
  | .hbm, ⟨102, _⟩ => ⟨S32x2048x1, .f32⟩
  | .hbm, ⟨103, _⟩ => ⟨S32x2048x1, .f32⟩
  | .hbm, ⟨104, _⟩ => ⟨S32x2048x1024, .f32⟩
  | .hbm, ⟨105, _⟩ => ⟨S32x2048x1024, .f32⟩
  | .hbm, ⟨106, _⟩ => ⟨S_, .f32⟩
  | .hbm, ⟨107, _⟩ => ⟨S32x2048x1, .f32⟩
  | .hbm, ⟨108, _⟩ => ⟨S32x2048x1, .f32⟩
  | .hbm, ⟨109, _⟩ => ⟨S32x2048x1, .f32⟩
  | .hbm, ⟨110, _⟩ => ⟨S32x2048x1024, .f32⟩
  | .hbm, ⟨111, _⟩ => ⟨S32x2048x1024, .f32⟩
  | .hbm, ⟨112, _⟩ => ⟨S1x1x1024, .f32⟩
  | .hbm, ⟨113, _⟩ => ⟨S32x2048x1024, .f32⟩
  | .hbm, ⟨114, _⟩ => ⟨S32x2048x1024, .f32⟩
  | .hbm, ⟨115, _⟩ => ⟨S1x1x1024, .f32⟩
  | .hbm, ⟨116, _⟩ => ⟨S32x2048x1024, .f32⟩
  | .hbm, ⟨117, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c : Ref sig .tc := ⟨.hbm, 59, rfl⟩
abbrev main_v41 : Ref sig .tc := ⟨.hbm, 60, rfl⟩
abbrev main_call0_v0 : Ref sig .tc := ⟨.hbm, 61, rfl⟩
abbrev main_call0_c : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_c_0 : Ref sig .tc := ⟨.hbm, 67, rfl⟩
abbrev main_call0_v5 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩

abbrev nD : Nat := 1
abbrev τ : Topo := Topo.v7x

variable {F : FTy → Type} [FloatOps F]
-- ==== Kernel2.lean ====
abbrev S32x2048x1024 : Shape := ⟨3, ![32, 2048, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1024x22x256 : Shape := ⟨3, ![1024, 22, 256]⟩
abbrev S22x1024x256 : Shape := ⟨3, ![22, 1024, 256]⟩
abbrev S3x22x256 : Shape := ⟨3, ![3, 22, 256]⟩
abbrev S22x3x256 : Shape := ⟨3, ![22, 3, 256]⟩
abbrev S1x5632 : Shape := ⟨2, ![1, 5632]⟩
abbrev S1x22x256 : Shape := ⟨3, ![1, 22, 256]⟩
abbrev S22x1x256 : Shape := ⟨3, ![22, 1, 256]⟩
abbrev S11x256x1024 : Shape := ⟨3, ![11, 256, 1024]⟩
abbrev S1x1024 : Shape := ⟨2, ![1, 1024]⟩
abbrev S_ : Shape := ⟨0, ![]⟩
abbrev S8x128 : Shape := ⟨2, ![8, 128]⟩
abbrev S1x1024x1024 : Shape := ⟨3, ![1, 1024, 1024]⟩
abbrev S1024x1024 : Shape := ⟨2, ![1024, 1024]⟩
abbrev S22x8x256 : Shape := ⟨3, ![22, 8, 256]⟩
abbrev S2x256x256 : Shape := ⟨3, ![2, 256, 256]⟩
abbrev S256x256 : Shape := ⟨2, ![256, 256]⟩
abbrev S1x256x1024 : Shape := ⟨3, ![1, 256, 1024]⟩
abbrev S256x1024 : Shape := ⟨2, ![256, 1024]⟩
abbrev S1x1024x256 : Shape := ⟨3, ![1, 1024, 256]⟩
abbrev S1024x256 : Shape := ⟨2, ![1024, 256]⟩
abbrev S1x256x256 : Shape := ⟨3, ![1, 256, 256]⟩
abbrev S1x8x256 : Shape := ⟨3, ![1, 8, 256]⟩
abbrev S8x256 : Shape := ⟨2, ![8, 256]⟩
abbrev S264x256 : Shape := ⟨2, ![264, 256]⟩
abbrev S1x3x256 : Shape := ⟨3, ![1, 3, 256]⟩
abbrev S3x256 : Shape := ⟨2, ![3, 256]⟩
abbrev S1x1x256 : Shape := ⟨3, ![1, 1, 256]⟩
abbrev S1x256 : Shape := ⟨2, ![1, 256]⟩
abbrev S1024x1 : Shape := ⟨2, ![1024, 1]⟩

abbrev nBuf : Space → Nat
  | .hbm => 22
  | .vmem => 22
  | .smem => 0
  | _ => 0

abbrev bufTy : (tb : Table) → Fin (tcTables nBuf tb) → BufTy
  | .hbm, ⟨0, _⟩ => ⟨S32x2048x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x5632, .bf16⟩
  | .hbm, ⟨8, _⟩ => ⟨S1024x22x256, .bf16⟩
  | .hbm, ⟨9, _⟩ => ⟨S22x1024x256, .bf16⟩
  | .hbm, ⟨10, _⟩ => ⟨S3x22x256, .f32⟩
  | .hbm, ⟨11, _⟩ => ⟨S22x3x256, .f32⟩
  | .hbm, ⟨12, _⟩ => ⟨S1x5632, .f32⟩
  | .hbm, ⟨13, _⟩ => ⟨S1x22x256, .f32⟩
  | .hbm, ⟨14, _⟩ => ⟨S22x1x256, .f32⟩
  | .hbm, ⟨15, _⟩ => ⟨S2816x1024, .bf16⟩
  | .hbm, ⟨16, _⟩ => ⟨S11x256x1024, .bf16⟩
  | .hbm, ⟨17, _⟩ => ⟨S1x1024, .f32⟩
  | .hbm, ⟨18, _⟩ => ⟨S1x1024, .f32⟩
  | .hbm, ⟨19, _⟩ => ⟨S_, .i32⟩
  | .hbm, ⟨20, _⟩ => ⟨S8x128, .i32⟩
  | .hbm, ⟨21, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S22x1024x256, .bf16⟩
  | .local _ .vmem, ⟨3, _⟩ => ⟨S22x3x256, .f32⟩
  | .local _ .vmem, ⟨4, _⟩ => ⟨S22x1x256, .f32⟩
  | .local _ .vmem, ⟨5, _⟩ => ⟨S11x256x1024, .bf16⟩
  | .local _ .vmem, ⟨6, _⟩ => ⟨S1x1024, .f32⟩
  | .local _ .vmem, ⟨7, _⟩ => ⟨S1x1024, .f32⟩
  | .local _ .vmem, ⟨8, _⟩ => ⟨S8x128, .i32⟩
  | .local _ .vmem, ⟨9, _⟩ => ⟨S1x1024x1024, .f32⟩
  | .local _ .vmem, ⟨10, _⟩ => ⟨S1x1024x1024, .f32⟩
  | .local _ .vmem, ⟨11, _⟩ => ⟨S1024x1024, .f32⟩
  | .local _ .vmem, ⟨12, _⟩ => ⟨S22x8x256, .f32⟩
  | .local _ .vmem, ⟨13, _⟩ => ⟨S1024x1024, .bf16⟩
  | .local _ .vmem, ⟨14, _⟩ => ⟨S2x256x256, .f32⟩
  | .local _ .vmem, ⟨15, _⟩ => ⟨S2x256x256, .f32⟩
  | .local _ .vmem, ⟨16, _⟩ => ⟨S2x256x256, .f32⟩
  | .local _ .vmem, ⟨17, _⟩ => ⟨S2x256x256, .f32⟩
  | .local _ .vmem, ⟨18, _⟩ => ⟨S256x256, .bf16⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_scratch9 : Ref sig .tc := ⟨.vmem, 20, rfl⟩
abbrev cc0_scratch10 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![32, 2], ![false, false]⟩

def k0_mult1 : BitVec 32 :=
  let c0_i32_5 : BitVec 32 := 0#32
  c0_i32_5
def k0_mult2 : BitVec 32 :=
  let c256_i32 : BitVec 32 := 256#32
  c256_i32
def k0_mult3 : BitVec 32 :=
  let c512_i32 : BitVec 32 := 512#32
  c512_i32
def k0_mult4 : BitVec 32 :=
  let c768_i32 : BitVec 32 := 768#32
  c768_i32
def k0_mult5 : BitVec 32 :=
  let c0_i32_148 : BitVec 32 := 0#32
  c0_i32_148
@[reducible] def k0_t1_loop : Scf.Loop 32 :=
  let c0_i32_157 : BitVec 32 := 0#32
  let c2_i32_158 : BitVec 32 := 2#32
  let v237 : BitVec 32 := Scalar.addi c0_i32_157 c2_i32_158
  let c1_i32_159 : BitVec 32 := 1#32
  ⟨c0_i32_157, v237, c1_i32_159⟩
def k0_off1 (k0_t1 : Fin k0_t1_loop.trips) (c0_i32_284 : BitVec 32) (c0_i32_277 : BitVec 32) : Fin 3 → Nat :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let v443 : BitVec 32 := Scalar.addi v442 c0_i32_277
  let c0_i32_278 : BitVec 32 := 0#32
  let v445 : BitVec 1 := Scalar.cmpi .sgt v443 c0_i32_278
  let v446 : BitVec 32 := Scalar.extui v445
  let c0_i32_279 : BitVec 32 := 0#32
  let v447 : BitVec 1 := Scalar.cmpi .slt v443 c0_i32_279
  let v448 : BitVec 32 := Scalar.extui v447
  let v449 : BitVec 32 := Scalar.subi v446 v448
  let c4_i32 : BitVec 32 := 4#32
  let c0_i32_280 : BitVec 32 := 0#32
  let v450 : BitVec 1 := Scalar.cmpi .sgt c4_i32 c0_i32_280
  let v451 : BitVec 32 := Scalar.extui v450
  let c0_i32_281 : BitVec 32 := 0#32
  let v452 : BitVec 1 := Scalar.cmpi .slt c4_i32 c0_i32_281
  let v453 : BitVec 32 := Scalar.extui v452
  let v454 : BitVec 32 := Scalar.subi v451 v453
  let v455 : BitVec 1 := Scalar.cmpi .ne v449 v454
  let v456 : BitVec 32 := Scalar.remsi v443 c4_i32
  let c0_i32_282 : BitVec 32 := 0#32
  let v457 : BitVec 1 := Scalar.cmpi .ne v456 c0_i32_282
  let v458 : BitVec 1 := Scalar.andi v455 v457
  let v444 : BitVec 32 := Scalar.divsi v443 c4_i32
  let c1_i32_283 : BitVec 32 := 1#32
  let v459 : BitVec 32 := Scalar.subi v444 c1_i32_283
  let v460 : BitVec 32 := Scalar.select v458 v459 v444
  let v461 : BitVec 32 := Scalar.addi c0_i32_284 v460
  let v464 : Index := Scalar.indexCast v461
  let c0_288 : Index := 0#32
  let c0_289 : Index := 0#32
  ![v464.toNat, 0, 0]
def k0_off2 (k0_t1 : Fin k0_t1_loop.trips) (c0_i32_284 : BitVec 32) (c0_i32_277 : BitVec 32) : Fin 3 → Nat :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let v443 : BitVec 32 := Scalar.addi v442 c0_i32_277
  let c0_i32_278 : BitVec 32 := 0#32
  let v445 : BitVec 1 := Scalar.cmpi .sgt v443 c0_i32_278
  let v446 : BitVec 32 := Scalar.extui v445
  let c0_i32_279 : BitVec 32 := 0#32
  let v447 : BitVec 1 := Scalar.cmpi .slt v443 c0_i32_279
  let v448 : BitVec 32 := Scalar.extui v447
  let v449 : BitVec 32 := Scalar.subi v446 v448
  let c4_i32 : BitVec 32 := 4#32
  let c0_i32_280 : BitVec 32 := 0#32
  let v450 : BitVec 1 := Scalar.cmpi .sgt c4_i32 c0_i32_280
  let v451 : BitVec 32 := Scalar.extui v450
  let c0_i32_281 : BitVec 32 := 0#32
  let v452 : BitVec 1 := Scalar.cmpi .slt c4_i32 c0_i32_281
  let v453 : BitVec 32 := Scalar.extui v452
  let v454 : BitVec 32 := Scalar.subi v451 v453
  let v455 : BitVec 1 := Scalar.cmpi .ne v449 v454
  let v456 : BitVec 32 := Scalar.remsi v443 c4_i32
  let c0_i32_282 : BitVec 32 := 0#32
  let v457 : BitVec 1 := Scalar.cmpi .ne v456 c0_i32_282
  let v458 : BitVec 1 := Scalar.andi v455 v457
  let v444 : BitVec 32 := Scalar.divsi v443 c4_i32
  let c1_i32_283 : BitVec 32 := 1#32
  let v459 : BitVec 32 := Scalar.subi v444 c1_i32_283
  let v460 : BitVec 32 := Scalar.select v458 v459 v444
  let v461 : BitVec 32 := Scalar.addi c0_i32_284 v460
  let v477 : Index := Scalar.indexCast v461
  let c0_294 : Index := 0#32
  let c0_295 : Index := 0#32
  ![v477.toNat, 0, 0]
def k0_off3 (k0_t1 : Fin k0_t1_loop.trips) (c0_i32_284 : BitVec 32) (c0_i32_277 : BitVec 32) : Fin 3 → Nat :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let v443 : BitVec 32 := Scalar.addi v442 c0_i32_277
  let c0_i32_278 : BitVec 32 := 0#32
  let v445 : BitVec 1 := Scalar.cmpi .sgt v443 c0_i32_278
  let v446 : BitVec 32 := Scalar.extui v445
  let c0_i32_279 : BitVec 32 := 0#32
  let v447 : BitVec 1 := Scalar.cmpi .slt v443 c0_i32_279
  let v448 : BitVec 32 := Scalar.extui v447
  let v449 : BitVec 32 := Scalar.subi v446 v448
  let c4_i32 : BitVec 32 := 4#32
  let c0_i32_280 : BitVec 32 := 0#32
  let v450 : BitVec 1 := Scalar.cmpi .sgt c4_i32 c0_i32_280
  let v451 : BitVec 32 := Scalar.extui v450
  let c0_i32_281 : BitVec 32 := 0#32
  let v452 : BitVec 1 := Scalar.cmpi .slt c4_i32 c0_i32_281
  let v453 : BitVec 32 := Scalar.extui v452
  let v454 : BitVec 32 := Scalar.subi v451 v453
  let v455 : BitVec 1 := Scalar.cmpi .ne v449 v454
  let v456 : BitVec 32 := Scalar.remsi v443 c4_i32
  let c0_i32_282 : BitVec 32 := 0#32
  let v457 : BitVec 1 := Scalar.cmpi .ne v456 c0_i32_282
  let v458 : BitVec 1 := Scalar.andi v455 v457
  let v444 : BitVec 32 := Scalar.divsi v443 c4_i32
  let c1_i32_283 : BitVec 32 := 1#32
  let v459 : BitVec 32 := Scalar.subi v444 c1_i32_283
  let v460 : BitVec 32 := Scalar.select v458 v459 v444
  let v461 : BitVec 32 := Scalar.addi c0_i32_284 v460
  let v480 : Index := Scalar.indexCast v461
  let c0_296 : Index := 0#32
  let c0_297 : Index := 0#32
  ![v480.toNat, 0, 0]
def k0_mult6 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c0_i32_277 : BitVec 32 := 0#32
  let v443 : BitVec 32 := Scalar.addi v442 c0_i32_277
  let c2_i32_313 : BitVec 32 := 2#32
  let v538 : BitVec 32 := Scalar.addi v443 c2_i32_313
  let c4_i32_321 : BitVec 32 := 4#32
  let c0_i32_322 : BitVec 32 := 0#32
  let v556 : BitVec 1 := Scalar.cmpi .eq c4_i32_321 c0_i32_322
  let c1_i32_323 : BitVec 32 := 1#32
  let v557 : BitVec 32 := Scalar.select v556 c1_i32_323 c4_i32_321
  let v558 : BitVec 32 := Scalar.remsi v538 v557
  let c0_i32_325 : BitVec 32 := 0#32
  let v560 : BitVec 1 := Scalar.cmpi .slt v558 c0_i32_325
  let c0_i32_326 : BitVec 32 := 0#32
  let v561 : BitVec 1 := Scalar.cmpi .slt v557 c0_i32_326
  let v562 : BitVec 1 := Scalar.xori v560 v561
  let c0_i32_324 : BitVec 32 := 0#32
  let v559 : BitVec 1 := Scalar.cmpi .ne v558 c0_i32_324
  let v563 : BitVec 1 := Scalar.andi v562 v559
  let v564 : BitVec 32 := Scalar.addi v558 v557
  let v565 : BitVec 32 := Scalar.select v563 v564 v558
  let c256_i32_327 : BitVec 32 := 256#32
  let v566 : BitVec 32 := Scalar.muli v565 c256_i32_327
  v566
def k0_off4 (k0_t1 : Fin k0_t1_loop.trips) (c0_i32_277 : BitVec 32) : Fin 2 → Nat :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let v443 : BitVec 32 := Scalar.addi v442 c0_i32_277
  let c2_i32_313 : BitVec 32 := 2#32
  let v538 : BitVec 32 := Scalar.addi v443 c2_i32_313
  let c4_i32_321 : BitVec 32 := 4#32
  let c0_i32_322 : BitVec 32 := 0#32
  let v556 : BitVec 1 := Scalar.cmpi .eq c4_i32_321 c0_i32_322
  let c1_i32_323 : BitVec 32 := 1#32
  let v557 : BitVec 32 := Scalar.select v556 c1_i32_323 c4_i32_321
  let v558 : BitVec 32 := Scalar.remsi v538 v557
  let c0_i32_325 : BitVec 32 := 0#32
  let v560 : BitVec 1 := Scalar.cmpi .slt v558 c0_i32_325
  let c0_i32_326 : BitVec 32 := 0#32
  let v561 : BitVec 1 := Scalar.cmpi .slt v557 c0_i32_326
  let v562 : BitVec 1 := Scalar.xori v560 v561
  let c0_i32_324 : BitVec 32 := 0#32
  let v559 : BitVec 1 := Scalar.cmpi .ne v558 c0_i32_324
  let v563 : BitVec 1 := Scalar.andi v562 v559
  let v564 : BitVec 32 := Scalar.addi v558 v557
  let v565 : BitVec 32 := Scalar.select v563 v564 v558
  let c256_i32_327 : BitVec 32 := 256#32
  let v566 : BitVec 32 := Scalar.muli v565 c256_i32_327
  let v567 : BitVec 32 := v566
  let v568 : Index := Scalar.indexCast v567
  let c0_328 : Index := 0#32
  ![v568.toNat, 0]
def k0_off5 (k0_t1 : Fin k0_t1_loop.trips) (c0_i32_329 : BitVec 32) (c0_i32_277 : BitVec 32) : Fin 3 → Nat :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let v443 : BitVec 32 := Scalar.addi v442 c0_i32_277
  let c2_i32_313 : BitVec 32 := 2#32
  let v538 : BitVec 32 := Scalar.addi v443 c2_i32_313
  let c0_i32_315 : BitVec 32 := 0#32
  let v540 : BitVec 1 := Scalar.cmpi .sgt v538 c0_i32_315
  let v541 : BitVec 32 := Scalar.extui v540
  let c0_i32_316 : BitVec 32 := 0#32
  let v542 : BitVec 1 := Scalar.cmpi .slt v538 c0_i32_316
  let v543 : BitVec 32 := Scalar.extui v542
  let v544 : BitVec 32 := Scalar.subi v541 v543
  let c4_i32_314 : BitVec 32 := 4#32
  let c0_i32_317 : BitVec 32 := 0#32
  let v545 : BitVec 1 := Scalar.cmpi .sgt c4_i32_314 c0_i32_317
  let v546 : BitVec 32 := Scalar.extui v545
  let c0_i32_318 : BitVec 32 := 0#32
  let v547 : BitVec 1 := Scalar.cmpi .slt c4_i32_314 c0_i32_318
  let v548 : BitVec 32 := Scalar.extui v547
  let v549 : BitVec 32 := Scalar.subi v546 v548
  let v550 : BitVec 1 := Scalar.cmpi .ne v544 v549
  let v551 : BitVec 32 := Scalar.remsi v538 c4_i32_314
  let c0_i32_319 : BitVec 32 := 0#32
  let v552 : BitVec 1 := Scalar.cmpi .ne v551 c0_i32_319
  let v553 : BitVec 1 := Scalar.andi v550 v552
  let v539 : BitVec 32 := Scalar.divsi v538 c4_i32_314
  let c1_i32_320 : BitVec 32 := 1#32
  let v554 : BitVec 32 := Scalar.subi v539 c1_i32_320
  let v555 : BitVec 32 := Scalar.select v553 v554 v539
  let v570 : BitVec 32 := Scalar.addi c0_i32_329 v555
  let v571 : Index := Scalar.indexCast v570
  let c0_330 : Index := 0#32
  let c0_331 : Index := 0#32
  ![v571.toNat, 0, 0]
def k0_mult7 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c0_i32_277 : BitVec 32 := 0#32
  let v443 : BitVec 32 := Scalar.addi v442 c0_i32_277
  let c1_i32_343 : BitVec 32 := 1#32
  let v586 : BitVec 32 := Scalar.subi v443 c1_i32_343
  let c4_i32_351 : BitVec 32 := 4#32
  let c0_i32_352 : BitVec 32 := 0#32
  let v604 : BitVec 1 := Scalar.cmpi .eq c4_i32_351 c0_i32_352
  let c1_i32_353 : BitVec 32 := 1#32
  let v605 : BitVec 32 := Scalar.select v604 c1_i32_353 c4_i32_351
  let v606 : BitVec 32 := Scalar.remsi v586 v605
  let c0_i32_355 : BitVec 32 := 0#32
  let v608 : BitVec 1 := Scalar.cmpi .slt v606 c0_i32_355
  let c0_i32_356 : BitVec 32 := 0#32
  let v609 : BitVec 1 := Scalar.cmpi .slt v605 c0_i32_356
  let v610 : BitVec 1 := Scalar.xori v608 v609
  let c0_i32_354 : BitVec 32 := 0#32
  let v607 : BitVec 1 := Scalar.cmpi .ne v606 c0_i32_354
  let v611 : BitVec 1 := Scalar.andi v610 v607
  let v612 : BitVec 32 := Scalar.addi v606 v605
  let v613 : BitVec 32 := Scalar.select v611 v612 v606
  let c256_i32_357 : BitVec 32 := 256#32
  let v614 : BitVec 32 := Scalar.muli v613 c256_i32_357
  v614
def k0_off6 (k0_t1 : Fin k0_t1_loop.trips) (c0_i32_277 : BitVec 32) : Fin 2 → Nat :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let v443 : BitVec 32 := Scalar.addi v442 c0_i32_277
  let c1_i32_343 : BitVec 32 := 1#32
  let v586 : BitVec 32 := Scalar.subi v443 c1_i32_343
  let c4_i32_351 : BitVec 32 := 4#32
  let c0_i32_352 : BitVec 32 := 0#32
  let v604 : BitVec 1 := Scalar.cmpi .eq c4_i32_351 c0_i32_352
  let c1_i32_353 : BitVec 32 := 1#32
  let v605 : BitVec 32 := Scalar.select v604 c1_i32_353 c4_i32_351
  let v606 : BitVec 32 := Scalar.remsi v586 v605
  let c0_i32_355 : BitVec 32 := 0#32
  let v608 : BitVec 1 := Scalar.cmpi .slt v606 c0_i32_355
  let c0_i32_356 : BitVec 32 := 0#32
  let v609 : BitVec 1 := Scalar.cmpi .slt v605 c0_i32_356
  let v610 : BitVec 1 := Scalar.xori v608 v609
  let c0_i32_354 : BitVec 32 := 0#32
  let v607 : BitVec 1 := Scalar.cmpi .ne v606 c0_i32_354
  let v611 : BitVec 1 := Scalar.andi v610 v607
  let v612 : BitVec 32 := Scalar.addi v606 v605
  let v613 : BitVec 32 := Scalar.select v611 v612 v606
  let c256_i32_357 : BitVec 32 := 256#32
  let v614 : BitVec 32 := Scalar.muli v613 c256_i32_357
  let v615 : BitVec 32 := v614
  let v616 : Index := Scalar.indexCast v615
  let c0_358 : Index := 0#32
  ![v616.toNat, 0]
def k0_off7 (k0_t1 : Fin k0_t1_loop.trips) (c0_i32_277 : BitVec 32) : Fin 3 → Nat :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let v443 : BitVec 32 := Scalar.addi v442 c0_i32_277
  let c1_i32_343 : BitVec 32 := 1#32
  let v586 : BitVec 32 := Scalar.subi v443 c1_i32_343
  let c0_i32_345 : BitVec 32 := 0#32
  let v588 : BitVec 1 := Scalar.cmpi .sgt v586 c0_i32_345
  let v589 : BitVec 32 := Scalar.extui v588
  let c0_i32_346 : BitVec 32 := 0#32
  let v590 : BitVec 1 := Scalar.cmpi .slt v586 c0_i32_346
  let v591 : BitVec 32 := Scalar.extui v590
  let v592 : BitVec 32 := Scalar.subi v589 v591
  let c4_i32_344 : BitVec 32 := 4#32
  let c0_i32_347 : BitVec 32 := 0#32
  let v593 : BitVec 1 := Scalar.cmpi .sgt c4_i32_344 c0_i32_347
  let v594 : BitVec 32 := Scalar.extui v593
  let c0_i32_348 : BitVec 32 := 0#32
  let v595 : BitVec 1 := Scalar.cmpi .slt c4_i32_344 c0_i32_348
  let v596 : BitVec 32 := Scalar.extui v595
  let v597 : BitVec 32 := Scalar.subi v594 v596
  let v598 : BitVec 1 := Scalar.cmpi .ne v592 v597
  let v599 : BitVec 32 := Scalar.remsi v586 c4_i32_344
  let c0_i32_349 : BitVec 32 := 0#32
  let v600 : BitVec 1 := Scalar.cmpi .ne v599 c0_i32_349
  let v601 : BitVec 1 := Scalar.andi v598 v600
  let v587 : BitVec 32 := Scalar.divsi v586 c4_i32_344
  let c1_i32_350 : BitVec 32 := 1#32
  let v602 : BitVec 32 := Scalar.subi v587 c1_i32_350
  let v603 : BitVec 32 := Scalar.select v601 v602 v587
  let v619 : Index := Scalar.indexCast v603
  let c0_361 : Index := 0#32
  let c0_362 : Index := 0#32
  ![v619.toNat, 0, 0]
def k0_mult8 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c1_i32_365 : BitVec 32 := 1#32
  let v628 : BitVec 32 := Scalar.addi v442 c1_i32_365
  let c2_i32_403 : BitVec 32 := 2#32
  let v723 : BitVec 32 := Scalar.addi v628 c2_i32_403
  let c4_i32_411 : BitVec 32 := 4#32
  let c0_i32_412 : BitVec 32 := 0#32
  let v741 : BitVec 1 := Scalar.cmpi .eq c4_i32_411 c0_i32_412
  let c1_i32_413 : BitVec 32 := 1#32
  let v742 : BitVec 32 := Scalar.select v741 c1_i32_413 c4_i32_411
  let v743 : BitVec 32 := Scalar.remsi v723 v742
  let c0_i32_415 : BitVec 32 := 0#32
  let v745 : BitVec 1 := Scalar.cmpi .slt v743 c0_i32_415
  let c0_i32_416 : BitVec 32 := 0#32
  let v746 : BitVec 1 := Scalar.cmpi .slt v742 c0_i32_416
  let v747 : BitVec 1 := Scalar.xori v745 v746
  let c0_i32_414 : BitVec 32 := 0#32
  let v744 : BitVec 1 := Scalar.cmpi .ne v743 c0_i32_414
  let v748 : BitVec 1 := Scalar.andi v747 v744
  let v749 : BitVec 32 := Scalar.addi v743 v742
  let v750 : BitVec 32 := Scalar.select v748 v749 v743
  let c256_i32_417 : BitVec 32 := 256#32
  let v751 : BitVec 32 := Scalar.muli v750 c256_i32_417
  v751
def k0_mult9 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c1_i32_365 : BitVec 32 := 1#32
  let v628 : BitVec 32 := Scalar.addi v442 c1_i32_365
  let c1_i32_433 : BitVec 32 := 1#32
  let v771 : BitVec 32 := Scalar.subi v628 c1_i32_433
  let c4_i32_441 : BitVec 32 := 4#32
  let c0_i32_442 : BitVec 32 := 0#32
  let v789 : BitVec 1 := Scalar.cmpi .eq c4_i32_441 c0_i32_442
  let c1_i32_443 : BitVec 32 := 1#32
  let v790 : BitVec 32 := Scalar.select v789 c1_i32_443 c4_i32_441
  let v791 : BitVec 32 := Scalar.remsi v771 v790
  let c0_i32_445 : BitVec 32 := 0#32
  let v793 : BitVec 1 := Scalar.cmpi .slt v791 c0_i32_445
  let c0_i32_446 : BitVec 32 := 0#32
  let v794 : BitVec 1 := Scalar.cmpi .slt v790 c0_i32_446
  let v795 : BitVec 1 := Scalar.xori v793 v794
  let c0_i32_444 : BitVec 32 := 0#32
  let v792 : BitVec 1 := Scalar.cmpi .ne v791 c0_i32_444
  let v796 : BitVec 1 := Scalar.andi v795 v792
  let v797 : BitVec 32 := Scalar.addi v791 v790
  let v798 : BitVec 32 := Scalar.select v796 v797 v791
  let c256_i32_447 : BitVec 32 := 256#32
  let v799 : BitVec 32 := Scalar.muli v798 c256_i32_447
  v799
def k0_mult10 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c2_i32_455 : BitVec 32 := 2#32
  let v813 : BitVec 32 := Scalar.addi v442 c2_i32_455
  let c2_i32_493 : BitVec 32 := 2#32
  let v908 : BitVec 32 := Scalar.addi v813 c2_i32_493
  let c4_i32_501 : BitVec 32 := 4#32
  let c0_i32_502 : BitVec 32 := 0#32
  let v926 : BitVec 1 := Scalar.cmpi .eq c4_i32_501 c0_i32_502
  let c1_i32_503 : BitVec 32 := 1#32
  let v927 : BitVec 32 := Scalar.select v926 c1_i32_503 c4_i32_501
  let v928 : BitVec 32 := Scalar.remsi v908 v927
  let c0_i32_505 : BitVec 32 := 0#32
  let v930 : BitVec 1 := Scalar.cmpi .slt v928 c0_i32_505
  let c0_i32_506 : BitVec 32 := 0#32
  let v931 : BitVec 1 := Scalar.cmpi .slt v927 c0_i32_506
  let v932 : BitVec 1 := Scalar.xori v930 v931
  let c0_i32_504 : BitVec 32 := 0#32
  let v929 : BitVec 1 := Scalar.cmpi .ne v928 c0_i32_504
  let v933 : BitVec 1 := Scalar.andi v932 v929
  let v934 : BitVec 32 := Scalar.addi v928 v927
  let v935 : BitVec 32 := Scalar.select v933 v934 v928
  let c256_i32_507 : BitVec 32 := 256#32
  let v936 : BitVec 32 := Scalar.muli v935 c256_i32_507
  v936
def k0_mult11 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c2_i32_455 : BitVec 32 := 2#32
  let v813 : BitVec 32 := Scalar.addi v442 c2_i32_455
  let c1_i32_523 : BitVec 32 := 1#32
  let v956 : BitVec 32 := Scalar.subi v813 c1_i32_523
  let c4_i32_531 : BitVec 32 := 4#32
  let c0_i32_532 : BitVec 32 := 0#32
  let v974 : BitVec 1 := Scalar.cmpi .eq c4_i32_531 c0_i32_532
  let c1_i32_533 : BitVec 32 := 1#32
  let v975 : BitVec 32 := Scalar.select v974 c1_i32_533 c4_i32_531
  let v976 : BitVec 32 := Scalar.remsi v956 v975
  let c0_i32_535 : BitVec 32 := 0#32
  let v978 : BitVec 1 := Scalar.cmpi .slt v976 c0_i32_535
  let c0_i32_536 : BitVec 32 := 0#32
  let v979 : BitVec 1 := Scalar.cmpi .slt v975 c0_i32_536
  let v980 : BitVec 1 := Scalar.xori v978 v979
  let c0_i32_534 : BitVec 32 := 0#32
  let v977 : BitVec 1 := Scalar.cmpi .ne v976 c0_i32_534
  let v981 : BitVec 1 := Scalar.andi v980 v977
  let v982 : BitVec 32 := Scalar.addi v976 v975
  let v983 : BitVec 32 := Scalar.select v981 v982 v976
  let c256_i32_537 : BitVec 32 := 256#32
  let v984 : BitVec 32 := Scalar.muli v983 c256_i32_537
  v984
def k0_mult12 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c3_i32 : BitVec 32 := 3#32
  let v998 : BitVec 32 := Scalar.addi v442 c3_i32
  let c2_i32_582 : BitVec 32 := 2#32
  let v1093 : BitVec 32 := Scalar.addi v998 c2_i32_582
  let c4_i32_590 : BitVec 32 := 4#32
  let c0_i32_591 : BitVec 32 := 0#32
  let v1111 : BitVec 1 := Scalar.cmpi .eq c4_i32_590 c0_i32_591
  let c1_i32_592 : BitVec 32 := 1#32
  let v1112 : BitVec 32 := Scalar.select v1111 c1_i32_592 c4_i32_590
  let v1113 : BitVec 32 := Scalar.remsi v1093 v1112
  let c0_i32_594 : BitVec 32 := 0#32
  let v1115 : BitVec 1 := Scalar.cmpi .slt v1113 c0_i32_594
  let c0_i32_595 : BitVec 32 := 0#32
  let v1116 : BitVec 1 := Scalar.cmpi .slt v1112 c0_i32_595
  let v1117 : BitVec 1 := Scalar.xori v1115 v1116
  let c0_i32_593 : BitVec 32 := 0#32
  let v1114 : BitVec 1 := Scalar.cmpi .ne v1113 c0_i32_593
  let v1118 : BitVec 1 := Scalar.andi v1117 v1114
  let v1119 : BitVec 32 := Scalar.addi v1113 v1112
  let v1120 : BitVec 32 := Scalar.select v1118 v1119 v1113
  let c256_i32_596 : BitVec 32 := 256#32
  let v1121 : BitVec 32 := Scalar.muli v1120 c256_i32_596
  v1121
def k0_mult13 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c3_i32 : BitVec 32 := 3#32
  let v998 : BitVec 32 := Scalar.addi v442 c3_i32
  let c1_i32_612 : BitVec 32 := 1#32
  let v1141 : BitVec 32 := Scalar.subi v998 c1_i32_612
  let c4_i32_620 : BitVec 32 := 4#32
  let c0_i32_621 : BitVec 32 := 0#32
  let v1159 : BitVec 1 := Scalar.cmpi .eq c4_i32_620 c0_i32_621
  let c1_i32_622 : BitVec 32 := 1#32
  let v1160 : BitVec 32 := Scalar.select v1159 c1_i32_622 c4_i32_620
  let v1161 : BitVec 32 := Scalar.remsi v1141 v1160
  let c0_i32_624 : BitVec 32 := 0#32
  let v1163 : BitVec 1 := Scalar.cmpi .slt v1161 c0_i32_624
  let c0_i32_625 : BitVec 32 := 0#32
  let v1164 : BitVec 1 := Scalar.cmpi .slt v1160 c0_i32_625
  let v1165 : BitVec 1 := Scalar.xori v1163 v1164
  let c0_i32_623 : BitVec 32 := 0#32
  let v1162 : BitVec 1 := Scalar.cmpi .ne v1161 c0_i32_623
  let v1166 : BitVec 1 := Scalar.andi v1165 v1162
  let v1167 : BitVec 32 := Scalar.addi v1161 v1160
  let v1168 : BitVec 32 := Scalar.select v1166 v1167 v1161
  let c256_i32_626 : BitVec 32 := 256#32
  let v1169 : BitVec 32 := Scalar.muli v1168 c256_i32_626
  v1169
def k0_mult14 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c4_i32_634 : BitVec 32 := 4#32
  let v1183 : BitVec 32 := Scalar.addi v442 c4_i32_634
  let c2_i32_672 : BitVec 32 := 2#32
  let v1278 : BitVec 32 := Scalar.addi v1183 c2_i32_672
  let c4_i32_680 : BitVec 32 := 4#32
  let c0_i32_681 : BitVec 32 := 0#32
  let v1296 : BitVec 1 := Scalar.cmpi .eq c4_i32_680 c0_i32_681
  let c1_i32_682 : BitVec 32 := 1#32
  let v1297 : BitVec 32 := Scalar.select v1296 c1_i32_682 c4_i32_680
  let v1298 : BitVec 32 := Scalar.remsi v1278 v1297
  let c0_i32_684 : BitVec 32 := 0#32
  let v1300 : BitVec 1 := Scalar.cmpi .slt v1298 c0_i32_684
  let c0_i32_685 : BitVec 32 := 0#32
  let v1301 : BitVec 1 := Scalar.cmpi .slt v1297 c0_i32_685
  let v1302 : BitVec 1 := Scalar.xori v1300 v1301
  let c0_i32_683 : BitVec 32 := 0#32
  let v1299 : BitVec 1 := Scalar.cmpi .ne v1298 c0_i32_683
  let v1303 : BitVec 1 := Scalar.andi v1302 v1299
  let v1304 : BitVec 32 := Scalar.addi v1298 v1297
  let v1305 : BitVec 32 := Scalar.select v1303 v1304 v1298
  let c256_i32_686 : BitVec 32 := 256#32
  let v1306 : BitVec 32 := Scalar.muli v1305 c256_i32_686
  v1306
def k0_mult15 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c4_i32_634 : BitVec 32 := 4#32
  let v1183 : BitVec 32 := Scalar.addi v442 c4_i32_634
  let c1_i32_702 : BitVec 32 := 1#32
  let v1326 : BitVec 32 := Scalar.subi v1183 c1_i32_702
  let c4_i32_710 : BitVec 32 := 4#32
  let c0_i32_711 : BitVec 32 := 0#32
  let v1344 : BitVec 1 := Scalar.cmpi .eq c4_i32_710 c0_i32_711
  let c1_i32_712 : BitVec 32 := 1#32
  let v1345 : BitVec 32 := Scalar.select v1344 c1_i32_712 c4_i32_710
  let v1346 : BitVec 32 := Scalar.remsi v1326 v1345
  let c0_i32_714 : BitVec 32 := 0#32
  let v1348 : BitVec 1 := Scalar.cmpi .slt v1346 c0_i32_714
  let c0_i32_715 : BitVec 32 := 0#32
  let v1349 : BitVec 1 := Scalar.cmpi .slt v1345 c0_i32_715
  let v1350 : BitVec 1 := Scalar.xori v1348 v1349
  let c0_i32_713 : BitVec 32 := 0#32
  let v1347 : BitVec 1 := Scalar.cmpi .ne v1346 c0_i32_713
  let v1351 : BitVec 1 := Scalar.andi v1350 v1347
  let v1352 : BitVec 32 := Scalar.addi v1346 v1345
  let v1353 : BitVec 32 := Scalar.select v1351 v1352 v1346
  let c256_i32_716 : BitVec 32 := 256#32
  let v1354 : BitVec 32 := Scalar.muli v1353 c256_i32_716
  v1354
def k0_mult16 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c5_i32 : BitVec 32 := 5#32
  let v1368 : BitVec 32 := Scalar.addi v442 c5_i32
  let c2_i32_761 : BitVec 32 := 2#32
  let v1463 : BitVec 32 := Scalar.addi v1368 c2_i32_761
  let c4_i32_769 : BitVec 32 := 4#32
  let c0_i32_770 : BitVec 32 := 0#32
  let v1481 : BitVec 1 := Scalar.cmpi .eq c4_i32_769 c0_i32_770
  let c1_i32_771 : BitVec 32 := 1#32
  let v1482 : BitVec 32 := Scalar.select v1481 c1_i32_771 c4_i32_769
  let v1483 : BitVec 32 := Scalar.remsi v1463 v1482
  let c0_i32_773 : BitVec 32 := 0#32
  let v1485 : BitVec 1 := Scalar.cmpi .slt v1483 c0_i32_773
  let c0_i32_774 : BitVec 32 := 0#32
  let v1486 : BitVec 1 := Scalar.cmpi .slt v1482 c0_i32_774
  let v1487 : BitVec 1 := Scalar.xori v1485 v1486
  let c0_i32_772 : BitVec 32 := 0#32
  let v1484 : BitVec 1 := Scalar.cmpi .ne v1483 c0_i32_772
  let v1488 : BitVec 1 := Scalar.andi v1487 v1484
  let v1489 : BitVec 32 := Scalar.addi v1483 v1482
  let v1490 : BitVec 32 := Scalar.select v1488 v1489 v1483
  let c256_i32_775 : BitVec 32 := 256#32
  let v1491 : BitVec 32 := Scalar.muli v1490 c256_i32_775
  v1491
def k0_mult17 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c5_i32 : BitVec 32 := 5#32
  let v1368 : BitVec 32 := Scalar.addi v442 c5_i32
  let c1_i32_791 : BitVec 32 := 1#32
  let v1511 : BitVec 32 := Scalar.subi v1368 c1_i32_791
  let c4_i32_799 : BitVec 32 := 4#32
  let c0_i32_800 : BitVec 32 := 0#32
  let v1529 : BitVec 1 := Scalar.cmpi .eq c4_i32_799 c0_i32_800
  let c1_i32_801 : BitVec 32 := 1#32
  let v1530 : BitVec 32 := Scalar.select v1529 c1_i32_801 c4_i32_799
  let v1531 : BitVec 32 := Scalar.remsi v1511 v1530
  let c0_i32_803 : BitVec 32 := 0#32
  let v1533 : BitVec 1 := Scalar.cmpi .slt v1531 c0_i32_803
  let c0_i32_804 : BitVec 32 := 0#32
  let v1534 : BitVec 1 := Scalar.cmpi .slt v1530 c0_i32_804
  let v1535 : BitVec 1 := Scalar.xori v1533 v1534
  let c0_i32_802 : BitVec 32 := 0#32
  let v1532 : BitVec 1 := Scalar.cmpi .ne v1531 c0_i32_802
  let v1536 : BitVec 1 := Scalar.andi v1535 v1532
  let v1537 : BitVec 32 := Scalar.addi v1531 v1530
  let v1538 : BitVec 32 := Scalar.select v1536 v1537 v1531
  let c256_i32_805 : BitVec 32 := 256#32
  let v1539 : BitVec 32 := Scalar.muli v1538 c256_i32_805
  v1539
def k0_mult18 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c6_i32 : BitVec 32 := 6#32
  let v1553 : BitVec 32 := Scalar.addi v442 c6_i32
  let c2_i32_850 : BitVec 32 := 2#32
  let v1648 : BitVec 32 := Scalar.addi v1553 c2_i32_850
  let c4_i32_858 : BitVec 32 := 4#32
  let c0_i32_859 : BitVec 32 := 0#32
  let v1666 : BitVec 1 := Scalar.cmpi .eq c4_i32_858 c0_i32_859
  let c1_i32_860 : BitVec 32 := 1#32
  let v1667 : BitVec 32 := Scalar.select v1666 c1_i32_860 c4_i32_858
  let v1668 : BitVec 32 := Scalar.remsi v1648 v1667
  let c0_i32_862 : BitVec 32 := 0#32
  let v1670 : BitVec 1 := Scalar.cmpi .slt v1668 c0_i32_862
  let c0_i32_863 : BitVec 32 := 0#32
  let v1671 : BitVec 1 := Scalar.cmpi .slt v1667 c0_i32_863
  let v1672 : BitVec 1 := Scalar.xori v1670 v1671
  let c0_i32_861 : BitVec 32 := 0#32
  let v1669 : BitVec 1 := Scalar.cmpi .ne v1668 c0_i32_861
  let v1673 : BitVec 1 := Scalar.andi v1672 v1669
  let v1674 : BitVec 32 := Scalar.addi v1668 v1667
  let v1675 : BitVec 32 := Scalar.select v1673 v1674 v1668
  let c256_i32_864 : BitVec 32 := 256#32
  let v1676 : BitVec 32 := Scalar.muli v1675 c256_i32_864
  v1676
def k0_mult19 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c6_i32 : BitVec 32 := 6#32
  let v1553 : BitVec 32 := Scalar.addi v442 c6_i32
  let c1_i32_880 : BitVec 32 := 1#32
  let v1696 : BitVec 32 := Scalar.subi v1553 c1_i32_880
  let c4_i32_888 : BitVec 32 := 4#32
  let c0_i32_889 : BitVec 32 := 0#32
  let v1714 : BitVec 1 := Scalar.cmpi .eq c4_i32_888 c0_i32_889
  let c1_i32_890 : BitVec 32 := 1#32
  let v1715 : BitVec 32 := Scalar.select v1714 c1_i32_890 c4_i32_888
  let v1716 : BitVec 32 := Scalar.remsi v1696 v1715
  let c0_i32_892 : BitVec 32 := 0#32
  let v1718 : BitVec 1 := Scalar.cmpi .slt v1716 c0_i32_892
  let c0_i32_893 : BitVec 32 := 0#32
  let v1719 : BitVec 1 := Scalar.cmpi .slt v1715 c0_i32_893
  let v1720 : BitVec 1 := Scalar.xori v1718 v1719
  let c0_i32_891 : BitVec 32 := 0#32
  let v1717 : BitVec 1 := Scalar.cmpi .ne v1716 c0_i32_891
  let v1721 : BitVec 1 := Scalar.andi v1720 v1717
  let v1722 : BitVec 32 := Scalar.addi v1716 v1715
  let v1723 : BitVec 32 := Scalar.select v1721 v1722 v1716
  let c256_i32_894 : BitVec 32 := 256#32
  let v1724 : BitVec 32 := Scalar.muli v1723 c256_i32_894
  v1724
def k0_mult20 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c7_i32 : BitVec 32 := 7#32
  let v1738 : BitVec 32 := Scalar.addi v442 c7_i32
  let c2_i32_939 : BitVec 32 := 2#32
  let v1833 : BitVec 32 := Scalar.addi v1738 c2_i32_939
  let c4_i32_947 : BitVec 32 := 4#32
  let c0_i32_948 : BitVec 32 := 0#32
  let v1851 : BitVec 1 := Scalar.cmpi .eq c4_i32_947 c0_i32_948
  let c1_i32_949 : BitVec 32 := 1#32
  let v1852 : BitVec 32 := Scalar.select v1851 c1_i32_949 c4_i32_947
  let v1853 : BitVec 32 := Scalar.remsi v1833 v1852
  let c0_i32_951 : BitVec 32 := 0#32
  let v1855 : BitVec 1 := Scalar.cmpi .slt v1853 c0_i32_951
  let c0_i32_952 : BitVec 32 := 0#32
  let v1856 : BitVec 1 := Scalar.cmpi .slt v1852 c0_i32_952
  let v1857 : BitVec 1 := Scalar.xori v1855 v1856
  let c0_i32_950 : BitVec 32 := 0#32
  let v1854 : BitVec 1 := Scalar.cmpi .ne v1853 c0_i32_950
  let v1858 : BitVec 1 := Scalar.andi v1857 v1854
  let v1859 : BitVec 32 := Scalar.addi v1853 v1852
  let v1860 : BitVec 32 := Scalar.select v1858 v1859 v1853
  let c256_i32_953 : BitVec 32 := 256#32
  let v1861 : BitVec 32 := Scalar.muli v1860 c256_i32_953
  v1861
def k0_mult21 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c7_i32 : BitVec 32 := 7#32
  let v1738 : BitVec 32 := Scalar.addi v442 c7_i32
  let c1_i32_969 : BitVec 32 := 1#32
  let v1881 : BitVec 32 := Scalar.subi v1738 c1_i32_969
  let c4_i32_977 : BitVec 32 := 4#32
  let c0_i32_978 : BitVec 32 := 0#32
  let v1899 : BitVec 1 := Scalar.cmpi .eq c4_i32_977 c0_i32_978
  let c1_i32_979 : BitVec 32 := 1#32
  let v1900 : BitVec 32 := Scalar.select v1899 c1_i32_979 c4_i32_977
  let v1901 : BitVec 32 := Scalar.remsi v1881 v1900
  let c0_i32_981 : BitVec 32 := 0#32
  let v1903 : BitVec 1 := Scalar.cmpi .slt v1901 c0_i32_981
  let c0_i32_982 : BitVec 32 := 0#32
  let v1904 : BitVec 1 := Scalar.cmpi .slt v1900 c0_i32_982
  let v1905 : BitVec 1 := Scalar.xori v1903 v1904
  let c0_i32_980 : BitVec 32 := 0#32
  let v1902 : BitVec 1 := Scalar.cmpi .ne v1901 c0_i32_980
  let v1906 : BitVec 1 := Scalar.andi v1905 v1902
  let v1907 : BitVec 32 := Scalar.addi v1901 v1900
  let v1908 : BitVec 32 := Scalar.select v1906 v1907 v1901
  let c256_i32_983 : BitVec 32 := 256#32
  let v1909 : BitVec 32 := Scalar.muli v1908 c256_i32_983
  v1909
def k0_mult22 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c8_i32 : BitVec 32 := 8#32
  let v1923 : BitVec 32 := Scalar.addi v442 c8_i32
  let c2_i32_1028 : BitVec 32 := 2#32
  let v2018 : BitVec 32 := Scalar.addi v1923 c2_i32_1028
  let c4_i32_1036 : BitVec 32 := 4#32
  let c0_i32_1037 : BitVec 32 := 0#32
  let v2036 : BitVec 1 := Scalar.cmpi .eq c4_i32_1036 c0_i32_1037
  let c1_i32_1038 : BitVec 32 := 1#32
  let v2037 : BitVec 32 := Scalar.select v2036 c1_i32_1038 c4_i32_1036
  let v2038 : BitVec 32 := Scalar.remsi v2018 v2037
  let c0_i32_1040 : BitVec 32 := 0#32
  let v2040 : BitVec 1 := Scalar.cmpi .slt v2038 c0_i32_1040
  let c0_i32_1041 : BitVec 32 := 0#32
  let v2041 : BitVec 1 := Scalar.cmpi .slt v2037 c0_i32_1041
  let v2042 : BitVec 1 := Scalar.xori v2040 v2041
  let c0_i32_1039 : BitVec 32 := 0#32
  let v2039 : BitVec 1 := Scalar.cmpi .ne v2038 c0_i32_1039
  let v2043 : BitVec 1 := Scalar.andi v2042 v2039
  let v2044 : BitVec 32 := Scalar.addi v2038 v2037
  let v2045 : BitVec 32 := Scalar.select v2043 v2044 v2038
  let c256_i32_1042 : BitVec 32 := 256#32
  let v2046 : BitVec 32 := Scalar.muli v2045 c256_i32_1042
  v2046
def k0_mult23 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c8_i32 : BitVec 32 := 8#32
  let v1923 : BitVec 32 := Scalar.addi v442 c8_i32
  let c1_i32_1058 : BitVec 32 := 1#32
  let v2066 : BitVec 32 := Scalar.subi v1923 c1_i32_1058
  let c4_i32_1066 : BitVec 32 := 4#32
  let c0_i32_1067 : BitVec 32 := 0#32
  let v2084 : BitVec 1 := Scalar.cmpi .eq c4_i32_1066 c0_i32_1067
  let c1_i32_1068 : BitVec 32 := 1#32
  let v2085 : BitVec 32 := Scalar.select v2084 c1_i32_1068 c4_i32_1066
  let v2086 : BitVec 32 := Scalar.remsi v2066 v2085
  let c0_i32_1070 : BitVec 32 := 0#32
  let v2088 : BitVec 1 := Scalar.cmpi .slt v2086 c0_i32_1070
  let c0_i32_1071 : BitVec 32 := 0#32
  let v2089 : BitVec 1 := Scalar.cmpi .slt v2085 c0_i32_1071
  let v2090 : BitVec 1 := Scalar.xori v2088 v2089
  let c0_i32_1069 : BitVec 32 := 0#32
  let v2087 : BitVec 1 := Scalar.cmpi .ne v2086 c0_i32_1069
  let v2091 : BitVec 1 := Scalar.andi v2090 v2087
  let v2092 : BitVec 32 := Scalar.addi v2086 v2085
  let v2093 : BitVec 32 := Scalar.select v2091 v2092 v2086
  let c256_i32_1072 : BitVec 32 := 256#32
  let v2094 : BitVec 32 := Scalar.muli v2093 c256_i32_1072
  v2094
def k0_mult24 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c9_i32 : BitVec 32 := 9#32
  let v2108 : BitVec 32 := Scalar.addi v442 c9_i32
  let c2_i32_1117 : BitVec 32 := 2#32
  let v2203 : BitVec 32 := Scalar.addi v2108 c2_i32_1117
  let c4_i32_1125 : BitVec 32 := 4#32
  let c0_i32_1126 : BitVec 32 := 0#32
  let v2221 : BitVec 1 := Scalar.cmpi .eq c4_i32_1125 c0_i32_1126
  let c1_i32_1127 : BitVec 32 := 1#32
  let v2222 : BitVec 32 := Scalar.select v2221 c1_i32_1127 c4_i32_1125
  let v2223 : BitVec 32 := Scalar.remsi v2203 v2222
  let c0_i32_1129 : BitVec 32 := 0#32
  let v2225 : BitVec 1 := Scalar.cmpi .slt v2223 c0_i32_1129
  let c0_i32_1130 : BitVec 32 := 0#32
  let v2226 : BitVec 1 := Scalar.cmpi .slt v2222 c0_i32_1130
  let v2227 : BitVec 1 := Scalar.xori v2225 v2226
  let c0_i32_1128 : BitVec 32 := 0#32
  let v2224 : BitVec 1 := Scalar.cmpi .ne v2223 c0_i32_1128
  let v2228 : BitVec 1 := Scalar.andi v2227 v2224
  let v2229 : BitVec 32 := Scalar.addi v2223 v2222
  let v2230 : BitVec 32 := Scalar.select v2228 v2229 v2223
  let c256_i32_1131 : BitVec 32 := 256#32
  let v2231 : BitVec 32 := Scalar.muli v2230 c256_i32_1131
  v2231
def k0_mult25 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c9_i32 : BitVec 32 := 9#32
  let v2108 : BitVec 32 := Scalar.addi v442 c9_i32
  let c1_i32_1147 : BitVec 32 := 1#32
  let v2251 : BitVec 32 := Scalar.subi v2108 c1_i32_1147
  let c4_i32_1155 : BitVec 32 := 4#32
  let c0_i32_1156 : BitVec 32 := 0#32
  let v2269 : BitVec 1 := Scalar.cmpi .eq c4_i32_1155 c0_i32_1156
  let c1_i32_1157 : BitVec 32 := 1#32
  let v2270 : BitVec 32 := Scalar.select v2269 c1_i32_1157 c4_i32_1155
  let v2271 : BitVec 32 := Scalar.remsi v2251 v2270
  let c0_i32_1159 : BitVec 32 := 0#32
  let v2273 : BitVec 1 := Scalar.cmpi .slt v2271 c0_i32_1159
  let c0_i32_1160 : BitVec 32 := 0#32
  let v2274 : BitVec 1 := Scalar.cmpi .slt v2270 c0_i32_1160
  let v2275 : BitVec 1 := Scalar.xori v2273 v2274
  let c0_i32_1158 : BitVec 32 := 0#32
  let v2272 : BitVec 1 := Scalar.cmpi .ne v2271 c0_i32_1158
  let v2276 : BitVec 1 := Scalar.andi v2275 v2272
  let v2277 : BitVec 32 := Scalar.addi v2271 v2270
  let v2278 : BitVec 32 := Scalar.select v2276 v2277 v2271
  let c256_i32_1161 : BitVec 32 := 256#32
  let v2279 : BitVec 32 := Scalar.muli v2278 c256_i32_1161
  v2279
def k0_mult26 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c10_i32 : BitVec 32 := 10#32
  let v2293 : BitVec 32 := Scalar.addi v442 c10_i32
  let c2_i32_1206 : BitVec 32 := 2#32
  let v2388 : BitVec 32 := Scalar.addi v2293 c2_i32_1206
  let c4_i32_1214 : BitVec 32 := 4#32
  let c0_i32_1215 : BitVec 32 := 0#32
  let v2406 : BitVec 1 := Scalar.cmpi .eq c4_i32_1214 c0_i32_1215
  let c1_i32_1216 : BitVec 32 := 1#32
  let v2407 : BitVec 32 := Scalar.select v2406 c1_i32_1216 c4_i32_1214
  let v2408 : BitVec 32 := Scalar.remsi v2388 v2407
  let c0_i32_1218 : BitVec 32 := 0#32
  let v2410 : BitVec 1 := Scalar.cmpi .slt v2408 c0_i32_1218
  let c0_i32_1219 : BitVec 32 := 0#32
  let v2411 : BitVec 1 := Scalar.cmpi .slt v2407 c0_i32_1219
  let v2412 : BitVec 1 := Scalar.xori v2410 v2411
  let c0_i32_1217 : BitVec 32 := 0#32
  let v2409 : BitVec 1 := Scalar.cmpi .ne v2408 c0_i32_1217
  let v2413 : BitVec 1 := Scalar.andi v2412 v2409
  let v2414 : BitVec 32 := Scalar.addi v2408 v2407
  let v2415 : BitVec 32 := Scalar.select v2413 v2414 v2408
  let c256_i32_1220 : BitVec 32 := 256#32
  let v2416 : BitVec 32 := Scalar.muli v2415 c256_i32_1220
  v2416
def k0_mult27 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c10_i32 : BitVec 32 := 10#32
  let v2293 : BitVec 32 := Scalar.addi v442 c10_i32
  let c1_i32_1236 : BitVec 32 := 1#32
  let v2436 : BitVec 32 := Scalar.subi v2293 c1_i32_1236
  let c4_i32_1244 : BitVec 32 := 4#32
  let c0_i32_1245 : BitVec 32 := 0#32
  let v2454 : BitVec 1 := Scalar.cmpi .eq c4_i32_1244 c0_i32_1245
  let c1_i32_1246 : BitVec 32 := 1#32
  let v2455 : BitVec 32 := Scalar.select v2454 c1_i32_1246 c4_i32_1244
  let v2456 : BitVec 32 := Scalar.remsi v2436 v2455
  let c0_i32_1248 : BitVec 32 := 0#32
  let v2458 : BitVec 1 := Scalar.cmpi .slt v2456 c0_i32_1248
  let c0_i32_1249 : BitVec 32 := 0#32
  let v2459 : BitVec 1 := Scalar.cmpi .slt v2455 c0_i32_1249
  let v2460 : BitVec 1 := Scalar.xori v2458 v2459
  let c0_i32_1247 : BitVec 32 := 0#32
  let v2457 : BitVec 1 := Scalar.cmpi .ne v2456 c0_i32_1247
  let v2461 : BitVec 1 := Scalar.andi v2460 v2457
  let v2462 : BitVec 32 := Scalar.addi v2456 v2455
  let v2463 : BitVec 32 := Scalar.select v2461 v2462 v2456
  let c256_i32_1250 : BitVec 32 := 256#32
  let v2464 : BitVec 32 := Scalar.muli v2463 c256_i32_1250
  v2464
def k0_mult28 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c11_i32_1258 : BitVec 32 := 11#32
  let v2478 : BitVec 32 := Scalar.addi v442 c11_i32_1258
  let c2_i32_1296 : BitVec 32 := 2#32
  let v2573 : BitVec 32 := Scalar.addi v2478 c2_i32_1296
  let c4_i32_1304 : BitVec 32 := 4#32
  let c0_i32_1305 : BitVec 32 := 0#32
  let v2591 : BitVec 1 := Scalar.cmpi .eq c4_i32_1304 c0_i32_1305
  let c1_i32_1306 : BitVec 32 := 1#32
  let v2592 : BitVec 32 := Scalar.select v2591 c1_i32_1306 c4_i32_1304
  let v2593 : BitVec 32 := Scalar.remsi v2573 v2592
  let c0_i32_1308 : BitVec 32 := 0#32
  let v2595 : BitVec 1 := Scalar.cmpi .slt v2593 c0_i32_1308
  let c0_i32_1309 : BitVec 32 := 0#32
  let v2596 : BitVec 1 := Scalar.cmpi .slt v2592 c0_i32_1309
  let v2597 : BitVec 1 := Scalar.xori v2595 v2596
  let c0_i32_1307 : BitVec 32 := 0#32
  let v2594 : BitVec 1 := Scalar.cmpi .ne v2593 c0_i32_1307
  let v2598 : BitVec 1 := Scalar.andi v2597 v2594
  let v2599 : BitVec 32 := Scalar.addi v2593 v2592
  let v2600 : BitVec 32 := Scalar.select v2598 v2599 v2593
  let c256_i32_1310 : BitVec 32 := 256#32
  let v2601 : BitVec 32 := Scalar.muli v2600 c256_i32_1310
  v2601
def k0_mult29 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c11_i32_1258 : BitVec 32 := 11#32
  let v2478 : BitVec 32 := Scalar.addi v442 c11_i32_1258
  let c1_i32_1326 : BitVec 32 := 1#32
  let v2621 : BitVec 32 := Scalar.subi v2478 c1_i32_1326
  let c4_i32_1334 : BitVec 32 := 4#32
  let c0_i32_1335 : BitVec 32 := 0#32
  let v2639 : BitVec 1 := Scalar.cmpi .eq c4_i32_1334 c0_i32_1335
  let c1_i32_1336 : BitVec 32 := 1#32
  let v2640 : BitVec 32 := Scalar.select v2639 c1_i32_1336 c4_i32_1334
  let v2641 : BitVec 32 := Scalar.remsi v2621 v2640
  let c0_i32_1338 : BitVec 32 := 0#32
  let v2643 : BitVec 1 := Scalar.cmpi .slt v2641 c0_i32_1338
  let c0_i32_1339 : BitVec 32 := 0#32
  let v2644 : BitVec 1 := Scalar.cmpi .slt v2640 c0_i32_1339
  let v2645 : BitVec 1 := Scalar.xori v2643 v2644
  let c0_i32_1337 : BitVec 32 := 0#32
  let v2642 : BitVec 1 := Scalar.cmpi .ne v2641 c0_i32_1337
  let v2646 : BitVec 1 := Scalar.andi v2645 v2642
  let v2647 : BitVec 32 := Scalar.addi v2641 v2640
  let v2648 : BitVec 32 := Scalar.select v2646 v2647 v2641
  let c256_i32_1340 : BitVec 32 := 256#32
  let v2649 : BitVec 32 := Scalar.muli v2648 c256_i32_1340
  v2649
def k0_mult30 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c12_i32 : BitVec 32 := 12#32
  let v2663 : BitVec 32 := Scalar.addi v442 c12_i32
  let c2_i32_1385 : BitVec 32 := 2#32
  let v2758 : BitVec 32 := Scalar.addi v2663 c2_i32_1385
  let c4_i32_1393 : BitVec 32 := 4#32
  let c0_i32_1394 : BitVec 32 := 0#32
  let v2776 : BitVec 1 := Scalar.cmpi .eq c4_i32_1393 c0_i32_1394
  let c1_i32_1395 : BitVec 32 := 1#32
  let v2777 : BitVec 32 := Scalar.select v2776 c1_i32_1395 c4_i32_1393
  let v2778 : BitVec 32 := Scalar.remsi v2758 v2777
  let c0_i32_1397 : BitVec 32 := 0#32
  let v2780 : BitVec 1 := Scalar.cmpi .slt v2778 c0_i32_1397
  let c0_i32_1398 : BitVec 32 := 0#32
  let v2781 : BitVec 1 := Scalar.cmpi .slt v2777 c0_i32_1398
  let v2782 : BitVec 1 := Scalar.xori v2780 v2781
  let c0_i32_1396 : BitVec 32 := 0#32
  let v2779 : BitVec 1 := Scalar.cmpi .ne v2778 c0_i32_1396
  let v2783 : BitVec 1 := Scalar.andi v2782 v2779
  let v2784 : BitVec 32 := Scalar.addi v2778 v2777
  let v2785 : BitVec 32 := Scalar.select v2783 v2784 v2778
  let c256_i32_1399 : BitVec 32 := 256#32
  let v2786 : BitVec 32 := Scalar.muli v2785 c256_i32_1399
  v2786
def k0_mult31 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c12_i32 : BitVec 32 := 12#32
  let v2663 : BitVec 32 := Scalar.addi v442 c12_i32
  let c1_i32_1415 : BitVec 32 := 1#32
  let v2806 : BitVec 32 := Scalar.subi v2663 c1_i32_1415
  let c4_i32_1423 : BitVec 32 := 4#32
  let c0_i32_1424 : BitVec 32 := 0#32
  let v2824 : BitVec 1 := Scalar.cmpi .eq c4_i32_1423 c0_i32_1424
  let c1_i32_1425 : BitVec 32 := 1#32
  let v2825 : BitVec 32 := Scalar.select v2824 c1_i32_1425 c4_i32_1423
  let v2826 : BitVec 32 := Scalar.remsi v2806 v2825
  let c0_i32_1427 : BitVec 32 := 0#32
  let v2828 : BitVec 1 := Scalar.cmpi .slt v2826 c0_i32_1427
  let c0_i32_1428 : BitVec 32 := 0#32
  let v2829 : BitVec 1 := Scalar.cmpi .slt v2825 c0_i32_1428
  let v2830 : BitVec 1 := Scalar.xori v2828 v2829
  let c0_i32_1426 : BitVec 32 := 0#32
  let v2827 : BitVec 1 := Scalar.cmpi .ne v2826 c0_i32_1426
  let v2831 : BitVec 1 := Scalar.andi v2830 v2827
  let v2832 : BitVec 32 := Scalar.addi v2826 v2825
  let v2833 : BitVec 32 := Scalar.select v2831 v2832 v2826
  let c256_i32_1429 : BitVec 32 := 256#32
  let v2834 : BitVec 32 := Scalar.muli v2833 c256_i32_1429
  v2834
def k0_mult32 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c13_i32 : BitVec 32 := 13#32
  let v2848 : BitVec 32 := Scalar.addi v442 c13_i32
  let c2_i32_1474 : BitVec 32 := 2#32
  let v2943 : BitVec 32 := Scalar.addi v2848 c2_i32_1474
  let c4_i32_1482 : BitVec 32 := 4#32
  let c0_i32_1483 : BitVec 32 := 0#32
  let v2961 : BitVec 1 := Scalar.cmpi .eq c4_i32_1482 c0_i32_1483
  let c1_i32_1484 : BitVec 32 := 1#32
  let v2962 : BitVec 32 := Scalar.select v2961 c1_i32_1484 c4_i32_1482
  let v2963 : BitVec 32 := Scalar.remsi v2943 v2962
  let c0_i32_1486 : BitVec 32 := 0#32
  let v2965 : BitVec 1 := Scalar.cmpi .slt v2963 c0_i32_1486
  let c0_i32_1487 : BitVec 32 := 0#32
  let v2966 : BitVec 1 := Scalar.cmpi .slt v2962 c0_i32_1487
  let v2967 : BitVec 1 := Scalar.xori v2965 v2966
  let c0_i32_1485 : BitVec 32 := 0#32
  let v2964 : BitVec 1 := Scalar.cmpi .ne v2963 c0_i32_1485
  let v2968 : BitVec 1 := Scalar.andi v2967 v2964
  let v2969 : BitVec 32 := Scalar.addi v2963 v2962
  let v2970 : BitVec 32 := Scalar.select v2968 v2969 v2963
  let c256_i32_1488 : BitVec 32 := 256#32
  let v2971 : BitVec 32 := Scalar.muli v2970 c256_i32_1488
  v2971
def k0_mult33 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c13_i32 : BitVec 32 := 13#32
  let v2848 : BitVec 32 := Scalar.addi v442 c13_i32
  let c1_i32_1504 : BitVec 32 := 1#32
  let v2991 : BitVec 32 := Scalar.subi v2848 c1_i32_1504
  let c4_i32_1512 : BitVec 32 := 4#32
  let c0_i32_1513 : BitVec 32 := 0#32
  let v3009 : BitVec 1 := Scalar.cmpi .eq c4_i32_1512 c0_i32_1513
  let c1_i32_1514 : BitVec 32 := 1#32
  let v3010 : BitVec 32 := Scalar.select v3009 c1_i32_1514 c4_i32_1512
  let v3011 : BitVec 32 := Scalar.remsi v2991 v3010
  let c0_i32_1516 : BitVec 32 := 0#32
  let v3013 : BitVec 1 := Scalar.cmpi .slt v3011 c0_i32_1516
  let c0_i32_1517 : BitVec 32 := 0#32
  let v3014 : BitVec 1 := Scalar.cmpi .slt v3010 c0_i32_1517
  let v3015 : BitVec 1 := Scalar.xori v3013 v3014
  let c0_i32_1515 : BitVec 32 := 0#32
  let v3012 : BitVec 1 := Scalar.cmpi .ne v3011 c0_i32_1515
  let v3016 : BitVec 1 := Scalar.andi v3015 v3012
  let v3017 : BitVec 32 := Scalar.addi v3011 v3010
  let v3018 : BitVec 32 := Scalar.select v3016 v3017 v3011
  let c256_i32_1518 : BitVec 32 := 256#32
  let v3019 : BitVec 32 := Scalar.muli v3018 c256_i32_1518
  v3019
def k0_mult34 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c14_i32 : BitVec 32 := 14#32
  let v3033 : BitVec 32 := Scalar.addi v442 c14_i32
  let c2_i32_1563 : BitVec 32 := 2#32
  let v3128 : BitVec 32 := Scalar.addi v3033 c2_i32_1563
  let c4_i32_1571 : BitVec 32 := 4#32
  let c0_i32_1572 : BitVec 32 := 0#32
  let v3146 : BitVec 1 := Scalar.cmpi .eq c4_i32_1571 c0_i32_1572
  let c1_i32_1573 : BitVec 32 := 1#32
  let v3147 : BitVec 32 := Scalar.select v3146 c1_i32_1573 c4_i32_1571
  let v3148 : BitVec 32 := Scalar.remsi v3128 v3147
  let c0_i32_1575 : BitVec 32 := 0#32
  let v3150 : BitVec 1 := Scalar.cmpi .slt v3148 c0_i32_1575
  let c0_i32_1576 : BitVec 32 := 0#32
  let v3151 : BitVec 1 := Scalar.cmpi .slt v3147 c0_i32_1576
  let v3152 : BitVec 1 := Scalar.xori v3150 v3151
  let c0_i32_1574 : BitVec 32 := 0#32
  let v3149 : BitVec 1 := Scalar.cmpi .ne v3148 c0_i32_1574
  let v3153 : BitVec 1 := Scalar.andi v3152 v3149
  let v3154 : BitVec 32 := Scalar.addi v3148 v3147
  let v3155 : BitVec 32 := Scalar.select v3153 v3154 v3148
  let c256_i32_1577 : BitVec 32 := 256#32
  let v3156 : BitVec 32 := Scalar.muli v3155 c256_i32_1577
  v3156
def k0_mult35 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c14_i32 : BitVec 32 := 14#32
  let v3033 : BitVec 32 := Scalar.addi v442 c14_i32
  let c1_i32_1593 : BitVec 32 := 1#32
  let v3176 : BitVec 32 := Scalar.subi v3033 c1_i32_1593
  let c4_i32_1601 : BitVec 32 := 4#32
  let c0_i32_1602 : BitVec 32 := 0#32
  let v3194 : BitVec 1 := Scalar.cmpi .eq c4_i32_1601 c0_i32_1602
  let c1_i32_1603 : BitVec 32 := 1#32
  let v3195 : BitVec 32 := Scalar.select v3194 c1_i32_1603 c4_i32_1601
  let v3196 : BitVec 32 := Scalar.remsi v3176 v3195
  let c0_i32_1605 : BitVec 32 := 0#32
  let v3198 : BitVec 1 := Scalar.cmpi .slt v3196 c0_i32_1605
  let c0_i32_1606 : BitVec 32 := 0#32
  let v3199 : BitVec 1 := Scalar.cmpi .slt v3195 c0_i32_1606
  let v3200 : BitVec 1 := Scalar.xori v3198 v3199
  let c0_i32_1604 : BitVec 32 := 0#32
  let v3197 : BitVec 1 := Scalar.cmpi .ne v3196 c0_i32_1604
  let v3201 : BitVec 1 := Scalar.andi v3200 v3197
  let v3202 : BitVec 32 := Scalar.addi v3196 v3195
  let v3203 : BitVec 32 := Scalar.select v3201 v3202 v3196
  let c256_i32_1607 : BitVec 32 := 256#32
  let v3204 : BitVec 32 := Scalar.muli v3203 c256_i32_1607
  v3204
def k0_mult36 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c15_i32 : BitVec 32 := 15#32
  let v3218 : BitVec 32 := Scalar.addi v442 c15_i32
  let c2_i32_1652 : BitVec 32 := 2#32
  let v3313 : BitVec 32 := Scalar.addi v3218 c2_i32_1652
  let c4_i32_1660 : BitVec 32 := 4#32
  let c0_i32_1661 : BitVec 32 := 0#32
  let v3331 : BitVec 1 := Scalar.cmpi .eq c4_i32_1660 c0_i32_1661
  let c1_i32_1662 : BitVec 32 := 1#32
  let v3332 : BitVec 32 := Scalar.select v3331 c1_i32_1662 c4_i32_1660
  let v3333 : BitVec 32 := Scalar.remsi v3313 v3332
  let c0_i32_1664 : BitVec 32 := 0#32
  let v3335 : BitVec 1 := Scalar.cmpi .slt v3333 c0_i32_1664
  let c0_i32_1665 : BitVec 32 := 0#32
  let v3336 : BitVec 1 := Scalar.cmpi .slt v3332 c0_i32_1665
  let v3337 : BitVec 1 := Scalar.xori v3335 v3336
  let c0_i32_1663 : BitVec 32 := 0#32
  let v3334 : BitVec 1 := Scalar.cmpi .ne v3333 c0_i32_1663
  let v3338 : BitVec 1 := Scalar.andi v3337 v3334
  let v3339 : BitVec 32 := Scalar.addi v3333 v3332
  let v3340 : BitVec 32 := Scalar.select v3338 v3339 v3333
  let c256_i32_1666 : BitVec 32 := 256#32
  let v3341 : BitVec 32 := Scalar.muli v3340 c256_i32_1666
  v3341
def k0_mult37 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c15_i32 : BitVec 32 := 15#32
  let v3218 : BitVec 32 := Scalar.addi v442 c15_i32
  let c1_i32_1682 : BitVec 32 := 1#32
  let v3361 : BitVec 32 := Scalar.subi v3218 c1_i32_1682
  let c4_i32_1690 : BitVec 32 := 4#32
  let c0_i32_1691 : BitVec 32 := 0#32
  let v3379 : BitVec 1 := Scalar.cmpi .eq c4_i32_1690 c0_i32_1691
  let c1_i32_1692 : BitVec 32 := 1#32
  let v3380 : BitVec 32 := Scalar.select v3379 c1_i32_1692 c4_i32_1690
  let v3381 : BitVec 32 := Scalar.remsi v3361 v3380
  let c0_i32_1694 : BitVec 32 := 0#32
  let v3383 : BitVec 1 := Scalar.cmpi .slt v3381 c0_i32_1694
  let c0_i32_1695 : BitVec 32 := 0#32
  let v3384 : BitVec 1 := Scalar.cmpi .slt v3380 c0_i32_1695
  let v3385 : BitVec 1 := Scalar.xori v3383 v3384
  let c0_i32_1693 : BitVec 32 := 0#32
  let v3382 : BitVec 1 := Scalar.cmpi .ne v3381 c0_i32_1693
  let v3386 : BitVec 1 := Scalar.andi v3385 v3382
  let v3387 : BitVec 32 := Scalar.addi v3381 v3380
  let v3388 : BitVec 32 := Scalar.select v3386 v3387 v3381
  let c256_i32_1696 : BitVec 32 := 256#32
  let v3389 : BitVec 32 := Scalar.muli v3388 c256_i32_1696
  v3389
def k0_mult38 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c16_i32 : BitVec 32 := 16#32
  let v3403 : BitVec 32 := Scalar.addi v442 c16_i32
  let c2_i32_1741 : BitVec 32 := 2#32
  let v3498 : BitVec 32 := Scalar.addi v3403 c2_i32_1741
  let c4_i32_1749 : BitVec 32 := 4#32
  let c0_i32_1750 : BitVec 32 := 0#32
  let v3516 : BitVec 1 := Scalar.cmpi .eq c4_i32_1749 c0_i32_1750
  let c1_i32_1751 : BitVec 32 := 1#32
  let v3517 : BitVec 32 := Scalar.select v3516 c1_i32_1751 c4_i32_1749
  let v3518 : BitVec 32 := Scalar.remsi v3498 v3517
  let c0_i32_1753 : BitVec 32 := 0#32
  let v3520 : BitVec 1 := Scalar.cmpi .slt v3518 c0_i32_1753
  let c0_i32_1754 : BitVec 32 := 0#32
  let v3521 : BitVec 1 := Scalar.cmpi .slt v3517 c0_i32_1754
  let v3522 : BitVec 1 := Scalar.xori v3520 v3521
  let c0_i32_1752 : BitVec 32 := 0#32
  let v3519 : BitVec 1 := Scalar.cmpi .ne v3518 c0_i32_1752
  let v3523 : BitVec 1 := Scalar.andi v3522 v3519
  let v3524 : BitVec 32 := Scalar.addi v3518 v3517
  let v3525 : BitVec 32 := Scalar.select v3523 v3524 v3518
  let c256_i32_1755 : BitVec 32 := 256#32
  let v3526 : BitVec 32 := Scalar.muli v3525 c256_i32_1755
  v3526
def k0_mult39 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c16_i32 : BitVec 32 := 16#32
  let v3403 : BitVec 32 := Scalar.addi v442 c16_i32
  let c1_i32_1771 : BitVec 32 := 1#32
  let v3546 : BitVec 32 := Scalar.subi v3403 c1_i32_1771
  let c4_i32_1779 : BitVec 32 := 4#32
  let c0_i32_1780 : BitVec 32 := 0#32
  let v3564 : BitVec 1 := Scalar.cmpi .eq c4_i32_1779 c0_i32_1780
  let c1_i32_1781 : BitVec 32 := 1#32
  let v3565 : BitVec 32 := Scalar.select v3564 c1_i32_1781 c4_i32_1779
  let v3566 : BitVec 32 := Scalar.remsi v3546 v3565
  let c0_i32_1783 : BitVec 32 := 0#32
  let v3568 : BitVec 1 := Scalar.cmpi .slt v3566 c0_i32_1783
  let c0_i32_1784 : BitVec 32 := 0#32
  let v3569 : BitVec 1 := Scalar.cmpi .slt v3565 c0_i32_1784
  let v3570 : BitVec 1 := Scalar.xori v3568 v3569
  let c0_i32_1782 : BitVec 32 := 0#32
  let v3567 : BitVec 1 := Scalar.cmpi .ne v3566 c0_i32_1782
  let v3571 : BitVec 1 := Scalar.andi v3570 v3567
  let v3572 : BitVec 32 := Scalar.addi v3566 v3565
  let v3573 : BitVec 32 := Scalar.select v3571 v3572 v3566
  let c256_i32_1785 : BitVec 32 := 256#32
  let v3574 : BitVec 32 := Scalar.muli v3573 c256_i32_1785
  v3574
def k0_mult40 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c17_i32 : BitVec 32 := 17#32
  let v3588 : BitVec 32 := Scalar.addi v442 c17_i32
  let c2_i32_1830 : BitVec 32 := 2#32
  let v3683 : BitVec 32 := Scalar.addi v3588 c2_i32_1830
  let c4_i32_1838 : BitVec 32 := 4#32
  let c0_i32_1839 : BitVec 32 := 0#32
  let v3701 : BitVec 1 := Scalar.cmpi .eq c4_i32_1838 c0_i32_1839
  let c1_i32_1840 : BitVec 32 := 1#32
  let v3702 : BitVec 32 := Scalar.select v3701 c1_i32_1840 c4_i32_1838
  let v3703 : BitVec 32 := Scalar.remsi v3683 v3702
  let c0_i32_1842 : BitVec 32 := 0#32
  let v3705 : BitVec 1 := Scalar.cmpi .slt v3703 c0_i32_1842
  let c0_i32_1843 : BitVec 32 := 0#32
  let v3706 : BitVec 1 := Scalar.cmpi .slt v3702 c0_i32_1843
  let v3707 : BitVec 1 := Scalar.xori v3705 v3706
  let c0_i32_1841 : BitVec 32 := 0#32
  let v3704 : BitVec 1 := Scalar.cmpi .ne v3703 c0_i32_1841
  let v3708 : BitVec 1 := Scalar.andi v3707 v3704
  let v3709 : BitVec 32 := Scalar.addi v3703 v3702
  let v3710 : BitVec 32 := Scalar.select v3708 v3709 v3703
  let c256_i32_1844 : BitVec 32 := 256#32
  let v3711 : BitVec 32 := Scalar.muli v3710 c256_i32_1844
  v3711
def k0_mult41 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c17_i32 : BitVec 32 := 17#32
  let v3588 : BitVec 32 := Scalar.addi v442 c17_i32
  let c1_i32_1860 : BitVec 32 := 1#32
  let v3731 : BitVec 32 := Scalar.subi v3588 c1_i32_1860
  let c4_i32_1868 : BitVec 32 := 4#32
  let c0_i32_1869 : BitVec 32 := 0#32
  let v3749 : BitVec 1 := Scalar.cmpi .eq c4_i32_1868 c0_i32_1869
  let c1_i32_1870 : BitVec 32 := 1#32
  let v3750 : BitVec 32 := Scalar.select v3749 c1_i32_1870 c4_i32_1868
  let v3751 : BitVec 32 := Scalar.remsi v3731 v3750
  let c0_i32_1872 : BitVec 32 := 0#32
  let v3753 : BitVec 1 := Scalar.cmpi .slt v3751 c0_i32_1872
  let c0_i32_1873 : BitVec 32 := 0#32
  let v3754 : BitVec 1 := Scalar.cmpi .slt v3750 c0_i32_1873
  let v3755 : BitVec 1 := Scalar.xori v3753 v3754
  let c0_i32_1871 : BitVec 32 := 0#32
  let v3752 : BitVec 1 := Scalar.cmpi .ne v3751 c0_i32_1871
  let v3756 : BitVec 1 := Scalar.andi v3755 v3752
  let v3757 : BitVec 32 := Scalar.addi v3751 v3750
  let v3758 : BitVec 32 := Scalar.select v3756 v3757 v3751
  let c256_i32_1874 : BitVec 32 := 256#32
  let v3759 : BitVec 32 := Scalar.muli v3758 c256_i32_1874
  v3759
def k0_mult42 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c18_i32 : BitVec 32 := 18#32
  let v3773 : BitVec 32 := Scalar.addi v442 c18_i32
  let c2_i32_1919 : BitVec 32 := 2#32
  let v3868 : BitVec 32 := Scalar.addi v3773 c2_i32_1919
  let c4_i32_1927 : BitVec 32 := 4#32
  let c0_i32_1928 : BitVec 32 := 0#32
  let v3886 : BitVec 1 := Scalar.cmpi .eq c4_i32_1927 c0_i32_1928
  let c1_i32_1929 : BitVec 32 := 1#32
  let v3887 : BitVec 32 := Scalar.select v3886 c1_i32_1929 c4_i32_1927
  let v3888 : BitVec 32 := Scalar.remsi v3868 v3887
  let c0_i32_1931 : BitVec 32 := 0#32
  let v3890 : BitVec 1 := Scalar.cmpi .slt v3888 c0_i32_1931
  let c0_i32_1932 : BitVec 32 := 0#32
  let v3891 : BitVec 1 := Scalar.cmpi .slt v3887 c0_i32_1932
  let v3892 : BitVec 1 := Scalar.xori v3890 v3891
  let c0_i32_1930 : BitVec 32 := 0#32
  let v3889 : BitVec 1 := Scalar.cmpi .ne v3888 c0_i32_1930
  let v3893 : BitVec 1 := Scalar.andi v3892 v3889
  let v3894 : BitVec 32 := Scalar.addi v3888 v3887
  let v3895 : BitVec 32 := Scalar.select v3893 v3894 v3888
  let c256_i32_1933 : BitVec 32 := 256#32
  let v3896 : BitVec 32 := Scalar.muli v3895 c256_i32_1933
  v3896
def k0_mult43 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c18_i32 : BitVec 32 := 18#32
  let v3773 : BitVec 32 := Scalar.addi v442 c18_i32
  let c1_i32_1949 : BitVec 32 := 1#32
  let v3916 : BitVec 32 := Scalar.subi v3773 c1_i32_1949
  let c4_i32_1957 : BitVec 32 := 4#32
  let c0_i32_1958 : BitVec 32 := 0#32
  let v3934 : BitVec 1 := Scalar.cmpi .eq c4_i32_1957 c0_i32_1958
  let c1_i32_1959 : BitVec 32 := 1#32
  let v3935 : BitVec 32 := Scalar.select v3934 c1_i32_1959 c4_i32_1957
  let v3936 : BitVec 32 := Scalar.remsi v3916 v3935
  let c0_i32_1961 : BitVec 32 := 0#32
  let v3938 : BitVec 1 := Scalar.cmpi .slt v3936 c0_i32_1961
  let c0_i32_1962 : BitVec 32 := 0#32
  let v3939 : BitVec 1 := Scalar.cmpi .slt v3935 c0_i32_1962
  let v3940 : BitVec 1 := Scalar.xori v3938 v3939
  let c0_i32_1960 : BitVec 32 := 0#32
  let v3937 : BitVec 1 := Scalar.cmpi .ne v3936 c0_i32_1960
  let v3941 : BitVec 1 := Scalar.andi v3940 v3937
  let v3942 : BitVec 32 := Scalar.addi v3936 v3935
  let v3943 : BitVec 32 := Scalar.select v3941 v3942 v3936
  let c256_i32_1963 : BitVec 32 := 256#32
  let v3944 : BitVec 32 := Scalar.muli v3943 c256_i32_1963
  v3944
def k0_mult44 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c19_i32 : BitVec 32 := 19#32
  let v3958 : BitVec 32 := Scalar.addi v442 c19_i32
  let c2_i32_2008 : BitVec 32 := 2#32
  let v4053 : BitVec 32 := Scalar.addi v3958 c2_i32_2008
  let c4_i32_2016 : BitVec 32 := 4#32
  let c0_i32_2017 : BitVec 32 := 0#32
  let v4071 : BitVec 1 := Scalar.cmpi .eq c4_i32_2016 c0_i32_2017
  let c1_i32_2018 : BitVec 32 := 1#32
  let v4072 : BitVec 32 := Scalar.select v4071 c1_i32_2018 c4_i32_2016
  let v4073 : BitVec 32 := Scalar.remsi v4053 v4072
  let c0_i32_2020 : BitVec 32 := 0#32
  let v4075 : BitVec 1 := Scalar.cmpi .slt v4073 c0_i32_2020
  let c0_i32_2021 : BitVec 32 := 0#32
  let v4076 : BitVec 1 := Scalar.cmpi .slt v4072 c0_i32_2021
  let v4077 : BitVec 1 := Scalar.xori v4075 v4076
  let c0_i32_2019 : BitVec 32 := 0#32
  let v4074 : BitVec 1 := Scalar.cmpi .ne v4073 c0_i32_2019
  let v4078 : BitVec 1 := Scalar.andi v4077 v4074
  let v4079 : BitVec 32 := Scalar.addi v4073 v4072
  let v4080 : BitVec 32 := Scalar.select v4078 v4079 v4073
  let c256_i32_2022 : BitVec 32 := 256#32
  let v4081 : BitVec 32 := Scalar.muli v4080 c256_i32_2022
  v4081
def k0_mult45 (k0_t1 : Fin k0_t1_loop.trips) : BitVec 32 :=
  let c20_i32 : BitVec 32 := 20#32
  let c0_i32_157 : BitVec 32 := 0#32
  let c1_i32_159 : BitVec 32 := 1#32
  let arg22 : BitVec 32 := Scf.iv c0_i32_157 c1_i32_159 k0_t1
  let v441 : BitVec 32 := Scalar.muli c20_i32 arg22
  let c2_i32_276 : BitVec 32 := 2#32
  let v442 : BitVec 32 := Scalar.addi v441 c2_i32_276
  let c19_i32 : BitVec 32 := 19#32
  let v3958 : BitVec 32 := Scalar.addi v442 c19_i32
  let c1_i32_2038 : BitVec 32 := 1#32
  let v4101 : BitVec 32 := Scalar.subi v3958 c1_i32_2038
  let c4_i32_2046 : BitVec 32 := 4#32
  let c0_i32_2047 : BitVec 32 := 0#32
  let v4119 : BitVec 1 := Scalar.cmpi .eq c4_i32_2046 c0_i32_2047
  let c1_i32_2048 : BitVec 32 := 1#32
  let v4120 : BitVec 32 := Scalar.select v4119 c1_i32_2048 c4_i32_2046
  let v4121 : BitVec 32 := Scalar.remsi v4101 v4120
  let c0_i32_2050 : BitVec 32 := 0#32
  let v4123 : BitVec 1 := Scalar.cmpi .slt v4121 c0_i32_2050
  let c0_i32_2051 : BitVec 32 := 0#32
  let v4124 : BitVec 1 := Scalar.cmpi .slt v4120 c0_i32_2051
  let v4125 : BitVec 1 := Scalar.xori v4123 v4124
  let c0_i32_2049 : BitVec 32 := 0#32
  let v4122 : BitVec 1 := Scalar.cmpi .ne v4121 c0_i32_2049
  let v4126 : BitVec 1 := Scalar.andi v4125 v4122
  let v4127 : BitVec 32 := Scalar.addi v4121 v4120
  let v4128 : BitVec 32 := Scalar.select v4126 v4127 v4121
  let c256_i32_2052 : BitVec 32 := 256#32
  let v4129 : BitVec 32 := Scalar.muli v4128 c256_i32_2052
  v4129
def k0_mult46 : BitVec 32 :=
  let c256_i32_195 : BitVec 32 := 256#32
  c256_i32_195
def k0_mult47 : BitVec 32 :=
  let c512_i32_240 : BitVec 32 := 512#32
  c512_i32_240
def k0_mult48 : BitVec 32 :=
  let c768_i32_249 : BitVec 32 := 768#32
  c768_i32_249
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S22x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S22x3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S22x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S11x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S32x2048x1024 : Shape := ⟨3, ![32, 2048, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S32x2048x5632 : Shape := ⟨3, ![32, 2048, 5632]⟩
abbrev S_ : Shape := ⟨0, ![]⟩
abbrev S32x2050x5632 : Shape := ⟨3, ![32, 2050, 5632]⟩
abbrev S1x5632 : Shape := ⟨2, ![1, 5632]⟩
abbrev S1x1x5632 : Shape := ⟨3, ![1, 1, 5632]⟩
abbrev S32x2048x2816 : Shape := ⟨3, ![32, 2048, 2816]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S32x2048x5632, .f32⟩
  | .hbm, ⟨8, _⟩ => ⟨S_, .i32⟩
  | .hbm, ⟨9, _⟩ => ⟨S_, .f32⟩
  | .hbm, ⟨10, _⟩ => ⟨S32x2050x5632, .f32⟩
  | .hbm, ⟨11, _⟩ => ⟨S1x5632, .f32⟩
  | .hbm, ⟨12, _⟩ => ⟨S5632, .f32⟩
  | .hbm, ⟨13, _⟩ => ⟨S32x2048x5632, .f32⟩
  | .hbm, ⟨14, _⟩ => ⟨S1x1x5632, .f32⟩
  | .hbm, ⟨15, _⟩ => ⟨S32x2048x5632, .f32⟩
  | .hbm, ⟨16, _⟩ => ⟨S32x2048x5632, .f32⟩
  | .hbm, ⟨17, _⟩ => ⟨S1x1x5632, .f32⟩
  | .hbm, ⟨18, _⟩ => ⟨S32x2048x5632, .f32⟩
  | .hbm, ⟨19, _⟩ => ⟨S32x2048x5632, .f32⟩
  | .hbm, ⟨20, _⟩ => ⟨S1x5632, .f32⟩
  | .hbm, ⟨21, _⟩ => ⟨S5632, .f32⟩
  | .hbm, ⟨22, _⟩ => ⟨S32x2048x5632, .f32⟩
  | .hbm, ⟨23, _⟩ => ⟨S1x1x5632, .f32⟩
  | .hbm, ⟨24, _⟩ => ⟨S32x2048x5632, .f32⟩
  | .hbm, ⟨25, _⟩ => ⟨S32x2048x5632, .f32⟩
  | .hbm, ⟨26, _⟩ => ⟨S32x2048x5632, .f32⟩
  | .hbm, ⟨27, _⟩ => ⟨S1x5632, .f32⟩
  | .hbm, ⟨28, _⟩ => ⟨S5632, .f32⟩
  | .hbm, ⟨29, _⟩ => ⟨S32x2048x5632, .f32⟩
  | .hbm, ⟨30, _⟩ => ⟨S1x1x5632, .f32⟩
  | .hbm, ⟨31, _⟩ => ⟨S32x2048x5632, .f32⟩
  | .hbm, ⟨32, _⟩ => ⟨S32x2048x5632, .f32⟩
  | .hbm, ⟨33, _⟩ => ⟨S32x2048x5632, .f32⟩
  | .hbm, ⟨34, _⟩ => ⟨S32x2048x2816, .f32⟩
  | .hbm, ⟨35, _⟩ => ⟨S32x2048x2816, .f32⟩
  | .hbm, ⟨36, _⟩ => ⟨S32x2048x2816, .f32⟩
  | .hbm, ⟨37, _⟩ => ⟨S32x2048x2816, .f32⟩
  | .hbm, ⟨38, _⟩ => ⟨S_, .f32⟩
  | .hbm, ⟨39, _⟩ => ⟨S32x2048x2816, .f32⟩
  | .hbm, ⟨40, _⟩ => ⟨S32x2048x2816, .f32⟩
  | .hbm, ⟨41, _⟩ => ⟨S_, .f32⟩
  | .hbm, ⟨42, _⟩ => ⟨S32x2048x2816, .f32⟩
  | .hbm, ⟨43, _⟩ => ⟨S32x2048x2816, .f32⟩
  | .hbm, ⟨44, _⟩ => ⟨S32x2048x2816, .f32⟩
  | .hbm, ⟨45, _⟩ => ⟨S32x2048x2816, .f32⟩
  | .hbm, ⟨46, _⟩ => ⟨S32x2048x1024, .f32⟩
  | .hbm, ⟨47, _⟩ => ⟨S_, .f32⟩
  | .hbm, ⟨48, _⟩ => ⟨S32x2048x1024, .f32⟩
  | .hbm, ⟨49, _⟩ => ⟨S32x2048x1024, .f32⟩
  | .hbm, ⟨50, _⟩ => ⟨S32x2048x1024, .f32⟩
  | .hbm, ⟨51, _⟩ => ⟨S_, .f32⟩
  | .hbm, ⟨52, _⟩ => ⟨S32x2048, .f32⟩
  | .hbm, ⟨53, _⟩ => ⟨S32x2048x1, .f32⟩
  | .hbm, ⟨54, _⟩ => ⟨S_, .f32⟩
  | .hbm, ⟨55, _⟩ => ⟨S32x2048x1, .f32⟩
  | .hbm, ⟨56, _⟩ => ⟨S32x2048x1, .f32⟩
  | .hbm, ⟨57, _⟩ => ⟨S32x2048x1024, .f32⟩
  | .hbm, ⟨58, _⟩ => ⟨S32x2048x1024, .f32⟩
  | .hbm, ⟨59, _⟩ => ⟨S32x2048x1024, .f32⟩
  | .hbm, ⟨60, _⟩ => ⟨S_, .f32⟩
  | .hbm, ⟨61, _⟩ => ⟨S32x2048, .f32⟩
  | .hbm, ⟨62, _⟩ => ⟨S32x2048x1, .f32⟩
  | .hbm, ⟨63, _⟩ => ⟨S_, .f32⟩
  | .hbm, ⟨64, _⟩ => ⟨S32x2048x1, .f32⟩
  | .hbm, ⟨65, _⟩ => ⟨S32x2048x1, .f32⟩
  | .hbm, ⟨66, _⟩ => ⟨S32x2048x1024, .f32⟩
  | .hbm, ⟨67, _⟩ => ⟨S32x2048x1024, .f32⟩
  | .hbm, ⟨68, _⟩ => ⟨S_, .f32⟩
  | .hbm, ⟨69, _⟩ => ⟨S32x2048x1, .f32⟩
  | .hbm, ⟨70, _⟩ => ⟨S32x2048x1, .f32⟩
  | .hbm, ⟨71, _⟩ => ⟨S32x2048x1, .f32⟩
  | .hbm, ⟨72, _⟩ => ⟨S32x2048x1024, .f32⟩
  | .hbm, ⟨73, _⟩ => ⟨S32x2048x1024, .f32⟩
  | .hbm, ⟨74, _⟩ => ⟨S1x1x1024, .f32⟩
  | .hbm, ⟨75, _⟩ => ⟨S32x2048x1024, .f32⟩
  | .hbm, ⟨76, _⟩ => ⟨S32x2048x1024, .f32⟩
  | .hbm, ⟨77, _⟩ => ⟨S1x1x1024, .f32⟩
  | .hbm, ⟨78, _⟩ => ⟨S32x2048x1024, .f32⟩
  | .hbm, ⟨79, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_0 : Ref sig .tc := ⟨.hbm, 51, rfl⟩
abbrev main_v33 : Ref sig .tc := ⟨.hbm, 52, rfl⟩
abbrev main_v34 : Ref sig .tc := ⟨.hbm, 53, rfl⟩
abbrev main_cst_1 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_2 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Kernel3.lean ====
abbrev S32x2048x1024 : Shape := ⟨3, ![32, 2048, 1024]⟩
abbrev S1024x3072 : Shape := ⟨2, ![1024, 3072]⟩
abbrev S1024x1024 : Shape := ⟨2, ![1024, 1024]⟩
abbrev S32x1024x2048 : Shape := ⟨3, ![32, 1024, 2048]⟩
abbrev S1x1024x1024 : Shape := ⟨3, ![1, 1024, 1024]⟩
abbrev S128x128 : Shape := ⟨2, ![128, 128]⟩
abbrev S1x256x1024 : Shape := ⟨3, ![1, 256, 1024]⟩
abbrev S256x1024 : Shape := ⟨2, ![256, 1024]⟩
abbrev S128x1024 : Shape := ⟨2, ![128, 1024]⟩
abbrev S1024x256 : Shape := ⟨2, ![1024, 256]⟩
abbrev S1x1024x256 : Shape := ⟨3, ![1, 1024, 256]⟩

abbrev nBuf : Space → Nat
  | .hbm => 12
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S1024x3072, .f32⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S32x2048x1024, .bf16⟩
  | .hbm, ⟨10, _⟩ => ⟨S32x2048x1024, .bf16⟩
  | .hbm, ⟨11, _⟩ => ⟨S32x1024x2048, .bf16⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v7_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S32x2048x1024 : Shape := ⟨3, ![32, 2048, 1024]⟩
abbrev S1024x3072 : Shape := ⟨2, ![1024, 3072]⟩
abbrev S32x2048x3072 : Shape := ⟨3, ![32, 2048, 3072]⟩
abbrev S32x2048x3x1024 : Shape := ⟨4, ![32, 2048, 3, 1024]⟩
abbrev S32x2048x1x1024 : Shape := ⟨4, ![32, 2048, 1, 1024]⟩
abbrev S_ : Shape := ⟨0, ![]⟩
abbrev S32x16x8x16x1024 : Shape := ⟨5, ![32, 16, 8, 16, 1024]⟩
abbrev S32x16x16x8x1024 : Shape := ⟨5, ![32, 16, 16, 8, 1024]⟩
abbrev S32x1024x2048 : Shape := ⟨3, ![32, 1024, 2048]⟩

abbrev nBuf : Space → Nat
  | .hbm => 23
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x3072, .f32⟩
  | .hbm, ⟨2, _⟩ => ⟨S32x2048x3072, .f32⟩
  | .hbm, ⟨3, _⟩ => ⟨S32x2048x3x1024, .f32⟩
  | .hbm, ⟨4, _⟩ => ⟨S32x2048x1x1024, .f32⟩
  | .hbm, ⟨5, _⟩ => ⟨S32x2048x1024, .f32⟩
  | .hbm, ⟨6, _⟩ => ⟨S_, .f32⟩
  | .hbm, ⟨7, _⟩ => ⟨S32x2048x1024, .f32⟩
  | .hbm, ⟨8, _⟩ => ⟨S32x2048x1024, .f32⟩
  | .hbm, ⟨9, _⟩ => ⟨S32x2048x1x1024, .f32⟩
  | .hbm, ⟨10, _⟩ => ⟨S32x2048x1024, .f32⟩
  | .hbm, ⟨11, _⟩ => ⟨S32x16x8x16x1024, .f32⟩
  | .hbm, ⟨12, _⟩ => ⟨S32x16x16x8x1024, .f32⟩
  | .hbm, ⟨13, _⟩ => ⟨S32x2048x1024, .f32⟩
  | .hbm, ⟨14, _⟩ => ⟨S32x2048x1x1024, .f32⟩
  | .hbm, ⟨15, _⟩ => ⟨S32x2048x1024, .f32⟩
  | .hbm, ⟨16, _⟩ => ⟨S32x16x8x16x1024, .f32⟩
  | .hbm, ⟨17, _⟩ => ⟨S32x16x16x8x1024, .f32⟩
  | .hbm, ⟨18, _⟩ => ⟨S32x2048x1024, .f32⟩
  | .hbm, ⟨19, _⟩ => ⟨S32x1024x2048, .f32⟩
  | .hbm, ⟨20, _⟩ => ⟨S32x2048x1024, .bf16⟩
  | .hbm, ⟨21, _⟩ => ⟨S32x2048x1024, .bf16⟩
  | .hbm, ⟨22, _⟩ => ⟨S32x1024x2048, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Kernel4.lean ====
abbrev S32x2048x1024 : Shape := ⟨3, ![32, 2048, 1024]⟩
abbrev S1024x1024 : Shape := ⟨2, ![1024, 1024]⟩
abbrev S1024 : Shape := ⟨1, ![1024]⟩
abbrev S1x1024 : Shape := ⟨2, ![1, 1024]⟩
abbrev S1x2048x1024 : Shape := ⟨3, ![1, 2048, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S32x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x2048x1024, .f32⟩
  | .local _ .vmem, ⟨8, _⟩ => ⟨S1x2048x1024, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S32x2048x1024 : Shape := ⟨3, ![32, 2048, 1024]⟩
abbrev S1024x1024 : Shape := ⟨2, ![1024, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S32x2048x1024, .f32⟩
  | .hbm, ⟨7, _⟩ => ⟨S32x2048x1024, .f32⟩
  | .hbm, ⟨8, _⟩ => ⟨S32x2048x1024, .f32⟩
  | .hbm, ⟨9, _⟩ => ⟨S32x2048x1024, .f32⟩
  | .hbm, ⟨10, _⟩ => ⟨S_, .f32⟩
  | .hbm, ⟨11, _⟩ => ⟨S32x2048, .f32⟩
  | .hbm, ⟨12, _⟩ => ⟨S32x2048x1, .f32⟩
  | .hbm, ⟨13, _⟩ => ⟨S_, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S32x2048x1024, .f32⟩
  | .hbm, ⟨19, _⟩ => ⟨S_, .f32⟩
  | .hbm, ⟨20, _⟩ => ⟨S32x2048, .f32⟩
  | .hbm, ⟨21, _⟩ => ⟨S32x2048x1, .f32⟩
  | .hbm, ⟨22, _⟩ => ⟨S_, .f32⟩
  | .hbm, ⟨23, _⟩ => ⟨S32x2048x1, .f32⟩
  | .hbm, ⟨24, _⟩ => ⟨S32x2048x1, .f32⟩
  | .hbm, ⟨25, _⟩ => ⟨S32x2048x1024, .f32⟩
  | .hbm, ⟨26, _⟩ => ⟨S32x2048x1024, .f32⟩
  | .hbm, ⟨27, _⟩ => ⟨S_, .f32⟩
  | .hbm, ⟨28, _⟩ => ⟨S32x2048x1, .f32⟩
  | .hbm, ⟨29, _⟩ => ⟨S32x2048x1, .f32⟩
  | .hbm, ⟨30, _⟩ => ⟨S32x2048x1, .f32⟩
  | .hbm, ⟨31, _⟩ => ⟨S32x2048x1024, .f32⟩
  | .hbm, ⟨32, _⟩ => ⟨S32x2048x1024, .f32⟩
  | .hbm, ⟨33, _⟩ => ⟨S1x1x1024, .f32⟩
  | .hbm, ⟨34, _⟩ => ⟨S32x2048x1024, .f32⟩
  | .hbm, ⟨35, _⟩ => ⟨S32x2048x1024, .f32⟩
  | .hbm, ⟨36, _⟩ => ⟨S1x1x1024, .f32⟩
  | .hbm, ⟨37, _⟩ => ⟨S32x2048x1024, .f32⟩
  | .hbm, ⟨38, _⟩ => ⟨S32x2048x1024, .f32⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.GmlpSpec.lean ====
module

public import Idealize.ShloMosaic.Lib.Pointwise

/-!
# The gated mixer, written as plain formulas over the extended reals

One token's feed-forward projection, its tanh-GELU, the layer norm of its second half, the causal
mixing of a chunk of 128 tokens, the output projection and the closing layer norm of the residual.
Both programs are shown to compute `mixer`.
-/

@[expose] public section

noncomputable section

open Idealize.ShloMosaic

namespace Cert.Gmlp

/-- The number a 32-bit float pattern stands for. -/
abbrev lit (b : BitVec 32) : EReal := Ideal.ofBits .f32 b

/-- The tanh form of GELU. -/
def gelu (z : EReal) : EReal :=
  lit 0x3F000000#32 * z * (1 + Ideal.tanh (lit 0x3F4C422A#32 * (z + lit 0x3D372713#32 * (z * z * z))))

/-- The mean of a row, with the row's length given as the number `n`. -/
def mean {N : ℕ} (n : EReal) (y : Fin N → EReal) : EReal := Ideal.div (∑ k, y k) n

/-- Entry `j` of the layer norm of the row `y` with scale `g` and shift `b`. -/
def layerNorm {N : ℕ} (n : EReal) (y g b : Fin N → EReal) (j : Fin N) : EReal :=
  (y j - mean n y) * Ideal.rsqrt (mean n (fun k => (y k - mean n y) * (y k - mean n y)) + lit 0x3727C5AC#32)
    * g j + b j

/-- Entry `f` of the first projection of a token, after GELU. -/
def hidden (w : Fin 1024 → Fin 4096 → EReal) (x : Fin 1024 → EReal) (f : Fin 4096) : EReal :=
  gelu (∑ k, x k * w k f)

/-- The index of feature `f` of the first half. -/
def lo (f : Fin 2048) : Fin 4096 := ⟨f, by omega⟩

/-- The index of feature `f` of the second half. -/
def hi (f : Fin 2048) : Fin 4096 := ⟨2048 + f, by omega⟩

/-- The group a feature belongs to: 8 groups of 256 features. -/
def grp (f : Fin 2048) : Fin 8 := ⟨(f : ℕ) / 256, by omega⟩

/-- Entry `f` of the normalised second half of a token. -/
def gate (w : Fin 1024 → Fin 4096 → EReal) (g b : Fin 2048 → EReal) (x : Fin 1024 → EReal) (f : Fin 2048) : EReal :=
  layerNorm (lit 0x45000000#32) (fun l => hidden w x (hi l)) g b f

/-- The lower triangle of a 128 by 128 matrix. -/
def causal (a : Fin 128 → Fin 128 → EReal) (t k : Fin 128) : EReal := if k ≤ t then a t k else 0

/-- Token `t` of a chunk after the causal mixing over the chunk, at feature `f`. -/
def mixed (v : Fin 128 → Fin 2048 → EReal) (ws : Fin 8 → Fin 128 → Fin 128 → EReal) (bs : Fin 8 → Fin 128 → EReal)
    (t : Fin 128) (f : Fin 2048) : EReal :=
  (∑ k, causal (ws (grp f)) t k * v k f) + bs (grp f) t

/-- Entry `j` of token `t` of a chunk `x` of 128 tokens after the whole mixer. -/
def mixer (w : Fin 1024 → Fin 4096 → EReal) (lg lb : Fin 2048 → EReal) (ws : Fin 8 → Fin 128 → Fin 128 → EReal)
    (bs : Fin 8 → Fin 128 → EReal) (wo : Fin 2048 → Fin 1024 → EReal) (g b : Fin 1024 → EReal)
    (x : Fin 128 → Fin 1024 → EReal) (t : Fin 128) (j : Fin 1024) : EReal :=
  layerNorm (lit 0x44800000#32)
    (fun l => lit 0x3FD744FD#32 * x t l
      + ∑ f, hidden w (x t) (lo f) * mixed (fun k => gate w lg lb (x k)) ws bs t f * wo f l) g b j

end Cert.Gmlp
-- ==== Proof.GmlpReference.lean ====
module

public import proofs.«01_k».proof.Proof.GmlpSpec
public import proofs.«01_k».proof.Proof.Gen.ReferenceIdeal.Run
public import Idealize.ShloMosaic.Lib.WordCmp

/-!
# What the reference's mixer computes

The reference's composed result term, cut into its steps; each step read at an index.
-/

set_option maxRecDepth 16384

@[expose] public section

noncomputable section

open Idealize.ShloMosaic Idealize.ShloMosaic.TcCoe Idealize.SL.Sem
open Cert.ReferenceIdeal Cert.ReferenceIdeal.Gen

namespace Cert.Gmlp.Ref

/-- The first projection. -/
def proj (X : FVec Ideal S32x2048x1024 .f32) (W : FVec Ideal S1024x4096 .f32) : FVec Ideal S32x2048x4096 .f32 :=
  Host.dotGeneral dot_S32x2048x1024_S1024x4096_S32x2048x4096_2_0_01_1_n_n none X W

/-- GELU of the projection. -/
def act (z : FVec Ideal S32x2048x4096 .f32) : FVec Ideal S32x2048x4096 .f32 :=
  mulf z (mulf (broadcastInDim S32x2048x4096 ![] bcast_S_S32x2048x4096 (constant S_ .f32 0x3F000000#32))
    (addf (broadcastInDim S32x2048x4096 ![] bcast_S_S32x2048x4096 (constant S_ .f32 0x3F800000#32))
      (Host.tanh (mulf (broadcastInDim S32x2048x4096 ![] bcast_S_S32x2048x4096 (constant S_ .f32 0x3F4C422A#32))
        (addf z (mulf (broadcastInDim S32x2048x4096 ![] bcast_S_S32x2048x4096 (constant S_ .f32 0x3D372713#32))
          (mulf (mulf z z) z)))))))

/-- The row means of the second half, spread over the rows. -/
def mean2048 (v : FVec Ideal S32x2048x2048 .f32) : FVec Ideal S32x2048x1 .f32 :=
  Host.divf (broadcastInDim S32x2048x1 ![0, 1] bcast_S32x2048_S32x2048x1_0_1
      (Host.reduceAdd v (constant S_ .f32 0x00000000#32) reducesTo_S32x2048x2048_S32x2048_d2 h_S_))
    (broadcastInDim S32x2048x1 ![] bcast_S_S32x2048x1 (constant S_ .f32 0x45000000#32))

/-- A row less its mean. -/
def centre2048 (v : FVec Ideal S32x2048x2048 .f32) : FVec Ideal S32x2048x2048 .f32 :=
  subf v (broadcastInDim S32x2048x2048 ![0, 1, 2] bcast_S32x2048x1_S32x2048x2048_0_1_2 (mean2048 v))

/-- Layer norm over 2048 features. -/
def norm2048 (v : FVec Ideal S32x2048x2048 .f32) (g b : FVec Ideal S2048 .f32) : FVec Ideal S32x2048x2048 .f32 :=
  addf (mulf (mulf (centre2048 v) (broadcastInDim S32x2048x2048 ![0, 1, 2] bcast_S32x2048x1_S32x2048x2048_0_1_2
      (Host.rsqrt (addf (mean2048 (mulf (centre2048 v) (centre2048 v)))
        (broadcastInDim S32x2048x1 ![] bcast_S_S32x2048x1 (constant S_ .f32 0x3727C5AC#32))))))
      (broadcastInDim S32x2048x2048 ![0, 1, 2] bcast_S1x1x2048_S32x2048x2048_0_1_2 (broadcastInDim S1x1x2048 ![2] bcast_S2048_S1x1x2048_2 g)))
    (broadcastInDim S32x2048x2048 ![0, 1, 2] bcast_S1x1x2048_S32x2048x2048_0_1_2 (broadcastInDim S1x1x2048 ![2] bcast_S2048_S1x1x2048_2 b))

/-- The token-mixing matrices with their upper triangle dropped. -/
def tril (ws : FVec Ideal S8x128x128 .f32) : FVec Ideal S8x128x128 .f32 :=
  select (broadcastInDim S8x128x128 ![0, 1, 2] bcast_S1x128x128_S8x128x128_0_1_2 (broadcastInDim S1x128x128 ![1, 2] bcast_S128x128_S1x128x128_1_2
      (select (cmpi .sge (addi (iotaInDim S128x128 32 0) (broadcastInDim S128x128 ![] bcast_S_S128x128 (constantI S_ 32 0#32))) (iotaInDim S128x128 32 1))
        (broadcastInDim S128x128 ![] bcast_S_S128x128 (constantI S_ 1 1#1)) (broadcastInDim S128x128 ![] bcast_S_S128x128 (constantI S_ 1 0#1)))))
    ws (broadcastInDim S8x128x128 ![] bcast_S_S8x128x128 (id (constant S_ .f32 0x00000000#32)))

/-- The mixing of the tokens of each chunk, group by group. -/
def mix (v : FVec Ideal S32x2048x2048 .f32) (wt : FVec Ideal S8x128x128 .f32) : FVec Ideal S32x16x128x8x256 .f32 :=
  transpose S32x16x128x8x256 [1, 2, 4, 0, 3]
    (Host.dotGeneral dot_S32x16x128x8x256_S8x128x128_S8x32x16x256x128_2_2_014_1_3_0 none
      (shapeCast S32x16x128x8x256 v shapeCasts_S32x2048x2048_S32x16x128x8x256) wt)
    transposes_S8x32x16x256x128_S32x16x128x8x256_1_2_4_0_3

/-- The mixed tokens with the bias added, as token rows again. -/
def spatial (y : FVec Ideal S32x16x128x8x256 .f32) (bs : FVec Ideal S8x128 .f32) : FVec Ideal S32x2048x2048 .f32 :=
  shapeCast S32x2048x2048 (addf y
      (broadcastInDim S32x16x128x8x256 ![0, 1, 2, 3, 4] bcast_S1x1x128x8x1_S32x16x128x8x256_0_1_2_3_4
        (broadcastInDim S1x1x128x8x1 ![2, 3] bcast_S128x8_S1x1x128x8x1_2_3 (transpose S128x8 [1, 0] bs transposes_S8x128_S128x8_1_0))))
    shapeCasts_S32x16x128x8x256_S32x2048x2048

/-- The scaled residual plus the output projection of the gated features. -/
def resid (X : FVec Ideal S32x2048x1024 .f32) (u s : FVec Ideal S32x2048x2048 .f32) (wo : FVec Ideal S2048x1024 .f32) : FVec Ideal S32x2048x1024 .f32 :=
  addf (mulf (broadcastInDim S32x2048x1024 ![] bcast_S_S32x2048x1024 (constant S_ .f32 0x3FD744FD#32)) X)
    (Host.dotGeneral dot_S32x2048x2048_S2048x1024_S32x2048x1024_2_0_01_1_n_n none (mulf u s) wo)

/-- The row means over 1024 features. -/
def mean1024 (v : FVec Ideal S32x2048x1024 .f32) : FVec Ideal S32x2048x1 .f32 :=
  Host.divf (broadcastInDim S32x2048x1 ![0, 1] bcast_S32x2048_S32x2048x1_0_1
      (Host.reduceAdd v (constant S_ .f32 0x00000000#32) reducesTo_S32x2048x1024_S32x2048_d2 h_S_))
    (broadcastInDim S32x2048x1 ![] bcast_S_S32x2048x1 (constant S_ .f32 0x44800000#32))

/-- A row of 1024 features less its mean. -/
def centre1024 (v : FVec Ideal S32x2048x1024 .f32) : FVec Ideal S32x2048x1024 .f32 :=
  subf v (broadcastInDim S32x2048x1024 ![0, 1, 2] bcast_S32x2048x1_S32x2048x1024_0_1_2 (mean1024 v))

/-- Layer norm over 1024 features. -/
def norm1024 (v : FVec Ideal S32x2048x1024 .f32) (g b : FVec Ideal S1024 .f32) : FVec Ideal S32x2048x1024 .f32 :=
  addf (mulf (mulf (centre1024 v) (broadcastInDim S32x2048x1024 ![0, 1, 2] bcast_S32x2048x1_S32x2048x1024_0_1_2
      (Host.rsqrt (addf (mean1024 (mulf (centre1024 v) (centre1024 v)))
        (broadcastInDim S32x2048x1 ![] bcast_S_S32x2048x1 (constant S_ .f32 0x3727C5AC#32))))))
      (broadcastInDim S32x2048x1024 ![0, 1, 2] bcast_S1x1x1024_S32x2048x1024_0_1_2 (broadcastInDim S1x1x1024 ![2] bcast_S1024_S1x1x1024_2 g)))
    (broadcastInDim S32x2048x1024 ![0, 1, 2] bcast_S1x1x1024_S32x2048x1024_0_1_2 (broadcastInDim S1x1x1024 ![2] bcast_S1024_S1x1x1024_2 b))

/-- The first half of the features. -/
def fstHalf (z : FVec Ideal S32x2048x4096 .f32) : FVec Ideal S32x2048x2048 .f32 :=
  extractStridedSlice S32x2048x2048 ![0, 0, 0] z slices_S32x2048x4096_S32x2048x2048_0_0_0

/-- The second half of the features. -/
def sndHalf (z : FVec Ideal S32x2048x4096 .f32) : FVec Ideal S32x2048x2048 .f32 :=
  extractStridedSlice S32x2048x2048 ![0, 0, 2048] z slices_S32x2048x4096_S32x2048x2048_0_0_2048

/-- The reference's result as a function of its nine arguments. -/
def whole (X : FVec Ideal S32x2048x1024 .f32) (W : FVec Ideal S1024x4096 .f32) (lg lb : FVec Ideal S2048 .f32)
    (ws : FVec Ideal S8x128x128 .f32) (bs : FVec Ideal S8x128 .f32) (wo : FVec Ideal S2048x1024 .f32)
    (g b : FVec Ideal S1024 .f32) : FVec Ideal S32x2048x1024 .f32 :=
  norm1024 (resid X (fstHalf (act (proj X W)))
    (spatial (mix (norm2048 (sndHalf (act (proj X W))) lg lb) (tril ws)) bs) wo) g b

/-- The printed reference computes `whole` of its arguments. -/
theorem run_term (m : (ℓ : Loc nD τ sig) → Buf (Elt Ideal) ℓ) (c : Dev nD) :
    Cert.ReferenceIdeal.Value.res_main_v80 m c = whole
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  rfl

/-- GELU of the projection at an entry. -/
theorem act_at (X : FVec Ideal S32x2048x1024 .f32) (W : FVec Ideal S1024x4096 .f32) (a : Fin 32) (r : Fin 2048) (f : Fin 4096) :
    act (proj X W) (ix3 a r f) = hidden (fun k l => W (ix2 k l)) (fun k => X (ix3 a r k)) f := by
  pointwise [act, proj, hidden, gelu, lit]
  ac_nf

/-- The layer norm over 2048 features at an entry. -/
theorem norm2048_at (v : FVec Ideal S32x2048x2048 .f32) (g b : FVec Ideal S2048 .f32) (a : Fin 32) (r f : Fin 2048) :
    norm2048 v g b (ix3 a r f) = layerNorm (lit 0x45000000#32) (fun l => v (ix3 a r l)) (fun l => g (ix1 l)) (fun l => b (ix1 l)) f := by
  pointwise [norm2048, centre2048, mean2048, layerNorm, mean, lit]

/-- The layer norm over 1024 features at an entry. -/
theorem norm1024_at (v : FVec Ideal S32x2048x1024 .f32) (g b : FVec Ideal S1024 .f32) (a : Fin 32) (r : Fin 2048) (j : Fin 1024) :
    norm1024 v g b (ix3 a r j) = layerNorm (lit 0x44800000#32) (fun l => v (ix3 a r l)) (fun l => g (ix1 l)) (fun l => b (ix1 l)) j := by
  pointwise [norm1024, centre1024, mean1024, layerNorm, mean, lit]

/-- The masked token-mixing matrices at an entry. -/
theorem tril_at (ws : FVec Ideal S8x128x128 .f32) (g : Fin 8) (t k : Fin 128) :
    tril ws (ix3 g t k) = causal (fun t k => ws (ix3 g t k)) t k := by
  pointwise [tril, causal, id]
  simp only [BitVec.add_zero, IntOp.addi]
  rw [WordCmp.cmpi_sge_ofNat (by omega) (by omega)]
  by_cases h : k ≤ t
  · have h' : (k : ℕ) ≤ t := h
    simp only [h, h', decide_true, if_true]
    rfl
  · have h' : ¬ (k : ℕ) ≤ t := h
    simp only [h, h', decide_false, if_false]
    rfl

/-- The mixed tokens at a row and feature. -/
theorem spatial_at (v : FVec Ideal S32x2048x2048 .f32) (ws : FVec Ideal S8x128x128 .f32) (bs : FVec Ideal S8x128 .f32)
    (a : Fin 32) (r f : Fin 2048) (n : Fin 16) (t : Fin 128) (hr : (r : ℕ) = 128 * n + t) :
    spatial (mix v (tril ws)) bs (ix3 a r f)
      = mixed (fun k l => v (ix3 a ⟨128 * n + k, by omega⟩ l)) (fun g t k => ws (ix3 g t k)) (fun g t => bs (ix2 g t)) t f := by
  have e1 : (⟨(f : ℕ) / 256, by omega⟩ : Fin 8) = grp f := rfl
  have e2 : (⟨(r : ℕ) % 128, by omega⟩ : Fin 128) = t := by ext; simp only; omega
  pointwise [spatial, mix, mixed]
  rw [e1, e2]
  refine congrArg (· + _) (Finset.sum_congr rfl fun k _ => ?_)
  have e3 : (⟨(r : ℕ) / 128 * 128 + k, by omega⟩ : Fin 2048) = ⟨128 * n + k, by omega⟩ := by ext; simp only; omega
  rw [tril_at, mul_comm, e3]

/-- The residual at an entry. -/
theorem resid_at (X : FVec Ideal S32x2048x1024 .f32) (u s : FVec Ideal S32x2048x2048 .f32) (wo : FVec Ideal S2048x1024 .f32)
    (a : Fin 32) (r : Fin 2048) (j : Fin 1024) :
    resid X u s wo (ix3 a r j) = lit 0x3FD744FD#32 * X (ix3 a r j) + ∑ f, u (ix3 a r f) * s (ix3 a r f) * wo (ix2 f j) := by
  pointwise [resid, lit]

/-- The reference's result at token `128 n + t` of sequence `a`: the mixer of chunk `n` of that sequence. -/
theorem whole_at (X : FVec Ideal S32x2048x1024 .f32) (W : FVec Ideal S1024x4096 .f32) (lg lb : FVec Ideal S2048 .f32)
    (ws : FVec Ideal S8x128x128 .f32) (bs : FVec Ideal S8x128 .f32) (wo : FVec Ideal S2048x1024 .f32)
    (g b : FVec Ideal S1024 .f32) (a : Fin 32) (r : Fin 2048) (j : Fin 1024) (n : Fin 16) (t : Fin 128)
    (hr : (r : ℕ) = 128 * n + t) :
    whole X W lg lb ws bs wo g b (ix3 a r j)
      = mixer (fun k f => W (ix2 k f)) (fun f => lg (ix1 f)) (fun f => lb (ix1 f)) (fun g t k => ws (ix3 g t k))
          (fun g t => bs (ix2 g t)) (fun f j => wo (ix2 f j)) (fun j => g (ix1 j)) (fun j => b (ix1 j))
          (fun k l => X (ix3 a ⟨128 * n + k, by omega⟩ l)) t j := by
  have er : r = ⟨128 * n + t, by omega⟩ := Fin.ext hr
  unfold whole mixer
  rw [norm1024_at]
  congr 1
  funext l
  rw [resid_at]
  refine congrArg₂ (· + ·) (by rw [er]) (Finset.sum_congr rfl fun f _ => congrArg (· * _) (congrArg₂ (· * ·) ?_ ?_))
  · pointwise [fstHalf]
    rw [act_at, ← er]
    rfl
  · rw [spatial_at _ ws bs a r f n t hr]
    refine congrArg (fun v => mixed v _ _ t f) (funext fun k => funext fun f' => ?_)
    rw [norm2048_at]
    unfold gate
    refine congrArg (fun v => layerNorm _ v _ _ f') (funext fun l' => ?_)
    pointwise [sndHalf]
    rw [act_at]
    rfl

end Cert.Gmlp.Ref
-- ==== Proof.GmlpTile.lean ====
module

public import proofs.«01_k».proof.Proof.GmlpSpec
public import proofs.«01_k».proof.Proof.Gen.KernelIdeal.Frame
public import Idealize.ShloMosaic.Lib.WordCmp

/-!
# What the mixer kernel computes for 256 tokens

The kernel's body handles two runs of 256 tokens, each made of two chunks of 128. Both runs compute the
same function `tile` of their tokens and the weights; `tile_at` reads it at an entry.
-/

set_option maxRecDepth 16384

@[expose] public section

noncomputable section

open Idealize.ShloMosaic Idealize.ShloMosaic.TcCoe Idealize.SL.Sem
open Cert.KernelIdeal Cert.KernelIdeal.Gen

namespace Cert.Gmlp.Ker

/-- The kernel's result for a run of 256 tokens. -/
def tile (xb : FVec Ideal S1x256x1024 .f32) (wl wh : FVec Ideal S1024x2048 .bf16) (lg lb : FVec Ideal S1x2048 .f32)
    (a0 a1 a2 a3 a4 a5 a6 a7 : FVec Ideal S128x128 .bf16) (bs : FVec Ideal S128x2048 .f32)
    (wo : FVec Ideal S2048x1024 .bf16) (g b : FVec Ideal S1x1024 .f32) : FVec Ideal S1x256x1024 .f32 :=
  k0_pay26 (k0_pay27 (k0_pay12 xb wl) (Scalar.ofBits .f32 0x3F000000#32))
    (k0_pay23 a0 a1 a2 a3 a4 a5 a6 a7 (k0_pay21 (k0_pay13 xb wh) lg lb) bs)
    (k0_pay24 a0 a1 a2 a3 a4 a5 a6 a7 (k0_pay21 (k0_pay13 xb wh) lg lb)) (k0_pay25 bs) wo xb g b

/-- The first run's stored value is `tile` of its tokens. -/
theorem first_run (xb : FVec Ideal S1x256x1024 .f32) (wl wh : FVec Ideal S1024x2048 .bf16) (lg lb : FVec Ideal S1x2048 .f32)
    (a0 a1 a2 a3 a4 a5 a6 a7 : FVec Ideal S128x128 .bf16) (bs : FVec Ideal S128x2048 .f32)
    (wo : FVec Ideal S2048x1024 .bf16) (g b : FVec Ideal S1x1024 .f32) :
    k0_pay26 (k0_pay20 (k0_pay12 xb wl) (k0_pay17 xb wl) (k0_pay18 xb wl) (k0_pay19 (F := Ideal)))
      (k0_pay23 a0 a1 a2 a3 a4 a5 a6 a7 (k0_pay21 (k0_pay13 xb wh) lg lb) bs)
      (k0_pay24 a0 a1 a2 a3 a4 a5 a6 a7 (k0_pay21 (k0_pay13 xb wh) lg lb)) (k0_pay25 bs) wo xb g b
      = tile xb wl wh lg lb a0 a1 a2 a3 a4 a5 a6 a7 bs wo g b := rfl

/-- The second run's stored value is `tile` of its tokens. -/
theorem second_run (xb : FVec Ideal S1x256x1024 .f32) (wl wh : FVec Ideal S1024x2048 .bf16) (lg lb : FVec Ideal S1x2048 .f32)
    (a0 a1 a2 a3 a4 a5 a6 a7 : FVec Ideal S128x128 .bf16) (bs : FVec Ideal S128x2048 .f32)
    (wo : FVec Ideal S2048x1024 .bf16) (g b : FVec Ideal S1x1024 .f32) :
    k0_pay1 (k0_pay42 a7 (k0_pay27 (k0_pay15 xb wl) (Scalar.ofBits .f32 0x3F000000#32))
      (k0_pay33 a0 a1 a2 a3 a4 a5 a6 a7 (k0_pay28 lg) (k0_pay29 lb) (k0_pay30 (k0_pay16 xb wh)) (k0_pay31 (k0_pay16 xb wh)) bs)
      (k0_pay34 a0 (k0_pay28 lg) (k0_pay29 lb) (k0_pay30 (k0_pay16 xb wh)) (k0_pay31 (k0_pay16 xb wh)))
      (k0_pay35 a1 (k0_pay28 lg) (k0_pay29 lb) (k0_pay30 (k0_pay16 xb wh)) (k0_pay31 (k0_pay16 xb wh)))
      (k0_pay36 a2 (k0_pay28 lg) (k0_pay29 lb) (k0_pay30 (k0_pay16 xb wh)) (k0_pay31 (k0_pay16 xb wh)))
      (k0_pay37 a3 (k0_pay28 lg) (k0_pay29 lb) (k0_pay30 (k0_pay16 xb wh)) (k0_pay31 (k0_pay16 xb wh)))
      (k0_pay38 a4 (k0_pay28 lg) (k0_pay29 lb) (k0_pay30 (k0_pay16 xb wh)) (k0_pay31 (k0_pay16 xb wh)))
      (k0_pay39 a5 (k0_pay28 lg) (k0_pay29 lb) (k0_pay30 (k0_pay16 xb wh)) (k0_pay31 (k0_pay16 xb wh)))
      (k0_pay40 a6 (k0_pay28 lg) (k0_pay29 lb) (k0_pay30 (k0_pay16 xb wh)) (k0_pay31 (k0_pay16 xb wh)))
      (k0_pay41 (k0_pay28 lg) (k0_pay29 lb) (k0_pay30 (k0_pay16 xb wh)) (k0_pay31 (k0_pay16 xb wh)))
      (constant S128x256 .f32 0x00000000#32) bs wo xb g b)
      = tile xb wl wh lg lb a0 a1 a2 a3 a4 a5 a6 a7 bs wo g b := rfl

/-- The first half of a run's features. -/
theorem u_at (xb : FVec Ideal S1x256x1024 .f32) (wl : FVec Ideal S1024x2048 .bf16) (r : Fin 256) (f : Fin 2048) :
    k0_pay27 (F := Ideal) (k0_pay12 xb wl) (Scalar.ofBits .f32 0x3F000000#32) (ix2 r f) = gelu (∑ k, xb (ix3 0 r k) * wl (ix2 k f)) := by
  pointwise [k0_pay27, k0_pay12, k0_pay11, gelu, lit]

/-- The normalised second half of a run's features. -/
theorem v_at (xb : FVec Ideal S1x256x1024 .f32) (wh : FVec Ideal S1024x2048 .bf16) (lg lb : FVec Ideal S1x2048 .f32) (r : Fin 256) (f : Fin 2048) :
    k0_pay21 (F := Ideal) (k0_pay13 xb wh) lg lb (ix2 r f)
      = layerNorm (lit 0x45000000#32) (fun l => gelu (∑ k, xb (ix3 0 r k) * wh (ix2 k l))) (fun l => lg (ix2 0 l)) (fun l => lb (ix2 0 l)) f := by
  pointwise [k0_pay21, k0_pay13, k0_pay11, layerNorm, mean, gelu, lit]

/-- The masked token-mixing matrix of a group. -/
theorem mask_at (w : FVec Ideal S1x128x128 .f32) (t k : Fin 128) :
    k0_pay3 (F := Ideal) w (ix2 t k) = causal (fun t k => w (ix3 0 t k)) t k := by
  pointwise [k0_pay3, k0_pay2, causal]
  rw [WordCmp.cmpi_sge_ofNat (by omega) (by omega)]
  by_cases h : k ≤ t
  · have h' : (k : ℕ) ≤ t := h
    simp only [h, h', decide_true, if_true]
    rfl
  · have h' : ¬ (k : ℕ) ≤ t := h
    simp only [h, h', decide_false, if_false]
    rfl

/-- The eight matrices as a family. -/
def fam (a0 a1 a2 a3 a4 a5 a6 a7 : FVec Ideal S128x128 .bf16) : Fin 8 → FVec Ideal S128x128 .bf16 := ![a0, a1, a2, a3, a4, a5, a6, a7]

/-- The first chunk of a run after mixing. -/
theorem mix0_at (a0 a1 a2 a3 a4 a5 a6 a7 : FVec Ideal S128x128 .bf16) (v : FVec Ideal S256x2048 .f32) (bs : FVec Ideal S128x2048 .f32) (t : Fin 128) (f : Fin 2048) :
    k0_pay23 a0 a1 a2 a3 a4 a5 a6 a7 v bs (ix2 t f)
      = (∑ k : Fin 128, fam a0 a1 a2 a3 a4 a5 a6 a7 (grp f) (ix2 t k) * v (ix2 ⟨k, by omega⟩ f)) + bs (ix2 t f) := by
  pointwise [k0_pay23, k0_pay22]
  have pick : ∀ q : Fin 8, (f : ℕ) / 256 = q → fam a0 a1 a2 a3 a4 a5 a6 a7 (grp f) = fam a0 a1 a2 a3 a4 a5 a6 a7 q :=
    fun q h => congrArg _ (Fin.ext h)
  refine congrArg (· + _) ?_
  repeat' split
  · rw [pick 0 (by simp only [Fin.reduceFinMk, Fin.isValue, Fin.coe_ofNat_eq_mod]; omega)]
    exact Finset.sum_congr rfl fun k _ => congrArg₂ (· * ·) rfl (congrArg v (congrArg (ix2 _) (Fin.ext (by first | rfl | (simp only; omega)))))
  · rw [pick 1 (by simp only [Fin.reduceFinMk, Fin.isValue, Fin.coe_ofNat_eq_mod]; omega)]
    exact Finset.sum_congr rfl fun k _ => congrArg₂ (· * ·) rfl (congrArg v (congrArg (ix2 _) (Fin.ext (by first | rfl | (simp only; omega)))))
  · rw [pick 2 (by simp only [Fin.reduceFinMk, Fin.isValue, Fin.coe_ofNat_eq_mod]; omega)]
    exact Finset.sum_congr rfl fun k _ => congrArg₂ (· * ·) rfl (congrArg v (congrArg (ix2 _) (Fin.ext (by first | rfl | (simp only; omega)))))
  · rw [pick 3 (by simp only [Fin.reduceFinMk, Fin.isValue, Fin.coe_ofNat_eq_mod]; omega)]
    exact Finset.sum_congr rfl fun k _ => congrArg₂ (· * ·) rfl (congrArg v (congrArg (ix2 _) (Fin.ext (by first | rfl | (simp only; omega)))))
  · rw [pick 4 (by simp only [Fin.reduceFinMk, Fin.isValue, Fin.coe_ofNat_eq_mod]; omega)]
    exact Finset.sum_congr rfl fun k _ => congrArg₂ (· * ·) rfl (congrArg v (congrArg (ix2 _) (Fin.ext (by first | rfl | (simp only; omega)))))
  · rw [pick 5 (by simp only [Fin.reduceFinMk, Fin.isValue, Fin.coe_ofNat_eq_mod]; omega)]
    exact Finset.sum_congr rfl fun k _ => congrArg₂ (· * ·) rfl (congrArg v (congrArg (ix2 _) (Fin.ext (by first | rfl | (simp only; omega)))))
  · rw [pick 6 (by simp only [Fin.reduceFinMk, Fin.isValue, Fin.coe_ofNat_eq_mod]; omega)]
    exact Finset.sum_congr rfl fun k _ => congrArg₂ (· * ·) rfl (congrArg v (congrArg (ix2 _) (Fin.ext (by first | rfl | (simp only; omega)))))
  · rw [pick 7 (by simp only [Fin.reduceFinMk, Fin.isValue, Fin.coe_ofNat_eq_mod]; omega)]
    exact Finset.sum_congr rfl fun k _ => congrArg₂ (· * ·) rfl (congrArg v (congrArg (ix2 _) (Fin.ext (by first | rfl | (simp only; omega)))))

/-- The second chunk of a run after mixing, before the bias. -/
theorem mix1_at (a0 a1 a2 a3 a4 a5 a6 a7 : FVec Ideal S128x128 .bf16) (v : FVec Ideal S256x2048 .f32) (t : Fin 128) (f : Fin 2048) :
    k0_pay24 a0 a1 a2 a3 a4 a5 a6 a7 v (ix2 t f)
      = ∑ k : Fin 128, fam a0 a1 a2 a3 a4 a5 a6 a7 (grp f) (ix2 t k) * v (ix2 ⟨128 + k, by omega⟩ f) := by
  pointwise [k0_pay24, k0_pay22]
  have pick : ∀ q : Fin 8, (f : ℕ) / 256 = q → fam a0 a1 a2 a3 a4 a5 a6 a7 (grp f) = fam a0 a1 a2 a3 a4 a5 a6 a7 q :=
    fun q h => congrArg _ (Fin.ext h)
  repeat' split
  · rw [pick 0 (by simp only [Fin.reduceFinMk, Fin.isValue, Fin.coe_ofNat_eq_mod]; omega)]
    exact Finset.sum_congr rfl fun k _ => congrArg₂ (· * ·) rfl (congrArg v (congrArg (ix2 _) (Fin.ext (by first | rfl | (simp only; omega)))))
  · rw [pick 1 (by simp only [Fin.reduceFinMk, Fin.isValue, Fin.coe_ofNat_eq_mod]; omega)]
    exact Finset.sum_congr rfl fun k _ => congrArg₂ (· * ·) rfl (congrArg v (congrArg (ix2 _) (Fin.ext (by first | rfl | (simp only; omega)))))
  · rw [pick 2 (by simp only [Fin.reduceFinMk, Fin.isValue, Fin.coe_ofNat_eq_mod]; omega)]
    exact Finset.sum_congr rfl fun k _ => congrArg₂ (· * ·) rfl (congrArg v (congrArg (ix2 _) (Fin.ext (by first | rfl | (simp only; omega)))))
  · rw [pick 3 (by simp only [Fin.reduceFinMk, Fin.isValue, Fin.coe_ofNat_eq_mod]; omega)]
    exact Finset.sum_congr rfl fun k _ => congrArg₂ (· * ·) rfl (congrArg v (congrArg (ix2 _) (Fin.ext (by first | rfl | (simp only; omega)))))
  · rw [pick 4 (by simp only [Fin.reduceFinMk, Fin.isValue, Fin.coe_ofNat_eq_mod]; omega)]
    exact Finset.sum_congr rfl fun k _ => congrArg₂ (· * ·) rfl (congrArg v (congrArg (ix2 _) (Fin.ext (by first | rfl | (simp only; omega)))))
  · rw [pick 5 (by simp only [Fin.reduceFinMk, Fin.isValue, Fin.coe_ofNat_eq_mod]; omega)]
    exact Finset.sum_congr rfl fun k _ => congrArg₂ (· * ·) rfl (congrArg v (congrArg (ix2 _) (Fin.ext (by first | rfl | (simp only; omega)))))
  · rw [pick 6 (by simp only [Fin.reduceFinMk, Fin.isValue, Fin.coe_ofNat_eq_mod]; omega)]
    exact Finset.sum_congr rfl fun k _ => congrArg₂ (· * ·) rfl (congrArg v (congrArg (ix2 _) (Fin.ext (by first | rfl | (simp only; omega)))))
  · rw [pick 7 (by simp only [Fin.reduceFinMk, Fin.isValue, Fin.coe_ofNat_eq_mod]; omega)]
    exact Finset.sum_congr rfl fun k _ => congrArg₂ (· * ·) rfl (congrArg v (congrArg (ix2 _) (Fin.ext (by first | rfl | (simp only; omega)))))

/-- The closing part of a run: output projection, residual and layer norm. -/
theorem out_at (u : FVec Ideal S256x2048 .f32) (s0 s1 bs : FVec Ideal S128x2048 .f32) (wo : FVec Ideal S2048x1024 .bf16)
    (xb : FVec Ideal S1x256x1024 .f32) (g b : FVec Ideal S1x1024 .f32) (r : Fin 256) (j : Fin 1024) :
    k0_pay26 u s0 s1 (k0_pay25 bs) wo xb g b (ix3 0 r j)
      = layerNorm (lit 0x44800000#32) (fun l => lit 0x3FD744FD#32 * xb (ix3 0 r l)
          + ∑ f : Fin 2048, u (ix2 r f) * (if h : (r : ℕ) < 128 then s0 (ix2 ⟨r, h⟩ f) else s1 (ix2 ⟨r - 128, by omega⟩ f) + bs (ix2 ⟨r - 128, by omega⟩ f)) * wo (ix2 f l))
          (fun l => g (ix2 0 l)) (fun l => b (ix2 0 l)) j := by
  pointwise [k0_pay26, k0_pay25, layerNorm, mean, lit]

/-- Token `128 q + t` of a run, for the chunk `q` of the run: the mixer of that chunk. -/
theorem tile_at (xb : FVec Ideal S1x256x1024 .f32) (wl wh : FVec Ideal S1024x2048 .bf16) (lg lb : FVec Ideal S1x2048 .f32)
    (a0 a1 a2 a3 a4 a5 a6 a7 : FVec Ideal S128x128 .bf16) (bs : FVec Ideal S128x2048 .f32)
    (wo : FVec Ideal S2048x1024 .bf16) (g b : FVec Ideal S1x1024 .f32)
    (w : Fin 1024 → Fin 4096 → EReal) (hwl : ∀ k f, wl (ix2 k f) = w k (lo f)) (hwh : ∀ k f, wh (ix2 k f) = w k (hi f))
    (ws : Fin 8 → Fin 128 → Fin 128 → EReal) (ha : ∀ q t k, fam a0 a1 a2 a3 a4 a5 a6 a7 q (ix2 t k) = causal (ws q) t k)
    (bb : Fin 8 → Fin 128 → EReal) (hb : ∀ t f, bs (ix2 t f) = bb (grp f) t)
    (r : Fin 256) (j : Fin 1024) (q : Fin 2) (t : Fin 128) (hr : (r : ℕ) = 128 * q + t) :
    tile xb wl wh lg lb a0 a1 a2 a3 a4 a5 a6 a7 bs wo g b (ix3 0 r j)
      = mixer w (fun f => lg (ix2 0 f)) (fun f => lb (ix2 0 f)) ws bb (fun f j => wo (ix2 f j)) (fun j => g (ix2 0 j)) (fun j => b (ix2 0 j))
          (fun k l => xb (ix3 0 ⟨128 * q + k, by omega⟩ l)) t j := by
  have er : r = ⟨128 * q + t, by omega⟩ := Fin.ext hr
  have hv : ∀ (k : Fin 128) (r' : Fin 256), (r' : ℕ) = 128 * q + k → ∀ f,
      k0_pay21 (F := Ideal) (k0_pay13 xb wh) lg lb (ix2 r' f)
        = gate w (fun f => lg (ix2 0 f)) (fun f => lb (ix2 0 f)) (fun l => xb (ix3 0 ⟨128 * q + k, by omega⟩ l)) f := by
    intro k r' h f
    rw [v_at, show r' = ⟨128 * q + k, by omega⟩ from Fin.ext h]
    unfold gate hidden
    simp only [hwh]
  unfold tile mixer
  rw [out_at]
  refine congrArg (fun y => layerNorm _ y _ _ j) (funext fun l => ?_)
  refine congrArg₂ (· + ·) (by rw [er]) (Finset.sum_congr rfl fun f _ => congrArg (· * _) (congrArg₂ (· * ·) ?_ ?_))
  · rw [u_at, er]
    unfold hidden
    simp only [hwl]
  · unfold mixed
    split
    · rename_i h
      rw [mix0_at, hb]
      have et : (⟨r, h⟩ : Fin 128) = t := Fin.ext (by simp only; omega)
      rw [et]
      refine congrArg (· + _) (Finset.sum_congr rfl fun k _ => ?_)
      rw [ha, hv k ⟨k, by omega⟩ (by simp only; omega)]
    · rename_i h
      rw [mix1_at, hb]
      have et : (⟨r - 128, by omega⟩ : Fin 128) = t := Fin.ext (by simp only; omega)
      rw [et]
      refine congrArg (· + _) (Finset.sum_congr rfl fun k _ => ?_)
      rw [ha, hv k ⟨128 + k, by omega⟩ (by simp only; omega)]

end Cert.Gmlp.Ker
-- ==== Proof.GmlpValue.lean ====
module

public import proofs.«01_k».proof.Proof.GmlpReference
public import proofs.«01_k».proof.Proof.GmlpTile
public import proofs.«01_k».proof.Proof.Gen.KernelIdeal.Value
public import Idealize.ShloMosaic.Lib.Pipeline.ValueKit
public import Idealize.ShloMosaic.Lib.Claim

/-!
# The mixer kernel's result array

The array the kernel leaves is the reference's function of the arguments.
-/

set_option maxRecDepth 16384

@[expose] public section

noncomputable section

open Idealize.ShloMosaic Idealize.ShloMosaic.TcCoe Idealize.SL.Sem
open Idealize.ShloMosaic.Pipeline (Dat)
open Cert.KernelIdeal Cert.KernelIdeal.Gen

namespace Cert.Gmlp.Ker

variable (m : (ℓ : Loc nD τ sig) → Buf (Elt Ideal) ℓ)

/-- Where each window sits at each grid point. -/
theorem idx : ∀ t : Fin cfg0.N, win0_0.index t = ![t.val / 4, t.val % 4, 0] ∧ win0_1.index t = ![0, 0] ∧ win0_2.index t = ![0, 0]
    ∧ win0_3.index t = ![0, 0] ∧ win0_4.index t = ![0, 0, 0] ∧ win0_5.index t = ![0, 0] ∧ win0_6.index t = ![0, 0]
    ∧ win0_7.index t = ![0, 0] ∧ win0_8.index t = ![0, 0] ∧ win0_9.index t = ![t.val / 4, t.val % 4, 0] :=
  (by decide +kernel : ∀ t : Fin grid0.N, _)

/-- The result array as the reference's function of the argument arrays. -/
abbrev REF (c : Dev nD) : FVec Ideal S32x2048x1024 .f32 :=
  Ref.whole (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- A run of 256 tokens starting at token `128 n` of sequence `a`: when the blocks hold the arguments' entries,
    the kernel's value is the reference's. -/
theorem run_eq (X : FVec Ideal Cert.ReferenceIdeal.S32x2048x1024 .f32) (W : FVec Ideal Cert.ReferenceIdeal.S1024x4096 .f32)
    (LG LB : FVec Ideal Cert.ReferenceIdeal.S2048 .f32) (ws : FVec Ideal Cert.ReferenceIdeal.S8x128x128 .f32)
    (BS : FVec Ideal Cert.ReferenceIdeal.S8x128 .f32) (WO : FVec Ideal Cert.ReferenceIdeal.S2048x1024 .f32)
    (G B : FVec Ideal Cert.ReferenceIdeal.S1024 .f32)
    (xb : FVec Ideal S1x256x1024 .f32) (wl wh : FVec Ideal S1024x2048 .bf16) (lg lb : FVec Ideal S1x2048 .f32)
    (w0 w1 w2 w3 w4 w5 w6 w7 : FVec Ideal S1x128x128 .f32) (bs : FVec Ideal S128x2048 .f32)
    (wo : FVec Ideal S2048x1024 .bf16) (g b : FVec Ideal S1x1024 .f32) (a : Fin 32) (n : ℕ) (hn : n + 2 ≤ 16)
    (hx : ∀ (r : Fin 256) l, xb (ix3 0 r l) = X (ix3 a ⟨128 * n + r, by omega⟩ l))
    (hwl : ∀ k f, wl (ix2 k f) = W (ix2 k (lo f))) (hwh : ∀ k f, wh (ix2 k f) = W (ix2 k (hi f)))
    (hlg : ∀ f, lg (ix2 0 f) = LG (ix1 f)) (hlb : ∀ f, lb (ix2 0 f) = LB (ix1 f))
    (hw0 : ∀ t k, w0 (ix3 0 t k) = ws (ix3 0 t k))
    (hw1 : ∀ t k, w1 (ix3 0 t k) = ws (ix3 1 t k))
    (hw2 : ∀ t k, w2 (ix3 0 t k) = ws (ix3 2 t k))
    (hw3 : ∀ t k, w3 (ix3 0 t k) = ws (ix3 3 t k))
    (hw4 : ∀ t k, w4 (ix3 0 t k) = ws (ix3 4 t k))
    (hw5 : ∀ t k, w5 (ix3 0 t k) = ws (ix3 5 t k))
    (hw6 : ∀ t k, w6 (ix3 0 t k) = ws (ix3 6 t k))
    (hw7 : ∀ t k, w7 (ix3 0 t k) = ws (ix3 7 t k))
    (hbs : ∀ t f, bs (ix2 t f) = BS (ix2 (grp f) t)) (hwo : ∀ f j, wo (ix2 f j) = WO (ix2 f j))
    (hg : ∀ j, g (ix2 0 j) = G (ix1 j)) (hb : ∀ j, b (ix2 0 j) = B (ix1 j)) (r : Fin 256) (j : Fin 1024) (R : Fin 2048)
    (hR : (R : ℕ) = 128 * n + r) :
    tile xb wl wh lg lb (k0_pay3 w0) (k0_pay3 w1) (k0_pay3 w2) (k0_pay3 w3) (k0_pay3 w4) (k0_pay3 w5) (k0_pay3 w6) (k0_pay3 w7) bs wo g b (ix3 0 r j)
      = Ref.whole X W LG LB ws BS WO G B (ix3 a R j) := by
  have ha : ∀ (q : Fin 8) (t k : Fin 128), fam (k0_pay3 w0) (k0_pay3 w1) (k0_pay3 w2) (k0_pay3 w3) (k0_pay3 w4) (k0_pay3 w5) (k0_pay3 w6) (k0_pay3 w7) q (ix2 t k)
      = causal (fun t k => ws (ix3 q t k)) t k := by
    intro q t k
    fin_cases q
    all_goals refine (mask_at _ t k).trans ?_
    all_goals simp only [hw0, hw1, hw2, hw3, hw4, hw5, hw6, hw7]
    all_goals rfl
  rw [tile_at xb wl wh lg lb _ _ _ _ _ _ _ _ bs wo g b (fun k f => W (ix2 k f)) hwl hwh (fun q t k => ws (ix3 q t k)) ha
      (fun q t => BS (ix2 q t)) hbs r j ⟨r / 128, by omega⟩ ⟨r % 128, by omega⟩ (by simp only; omega),
    Ref.whole_at X W LG LB ws BS WO G B a R j ⟨n + r / 128, by omega⟩ ⟨r % 128, by omega⟩ (by simp only; omega)]
  simp only [hlg, hlb, hwo, hg, hb, hx]
  refine congrArg (fun x => mixer _ _ _ _ _ _ _ _ x _ j) (funext fun k => funext fun l => ?_)
  exact congrArg X (congrArg (fun r => ix3 a r l) (Fin.ext (by simp only; omega)))

/-- What a grid point leaves in its block is the reference's function there. -/
theorem point (c : Dev nD) (t : Fin cfg0.N) (y : S1x512x1024.Idx) :
    out0_9 (F := Ideal) (iblk m c 0 t) (iblk m c 1 t) (iblk m c 2 t) (iblk m c 3 t) (iblk m c 4 t) (iblk m c 5 t) (iblk m c 6 t) (iblk m c 7 t) (iblk m c 8 t) y
      = REF m c (((cfg0.win 9).blk t).view.emb y) := by
  unfold_out out0_9
  have hN : (t : ℕ) < 128 := t.isLt
  have ex : ((cfg0.win 9).blk t).view.emb y = ix3 (⟨t.val / 4, by omega⟩ : Fin 32) (⟨512 * (t.val % 4) + (y 1 : ℕ), by have : (y 1 : ℕ) < 512 := (y 1).isLt; omega⟩ : Fin 2048) (y 2) := by
    have : (y 0 : ℕ) < 1 := (y 0).isLt
    blk_ext [idx t]
  rw [ex]
  canon_tiles y h
  · rename_i z
    idx_vars y
    refine (congrFun (second_run _ _ _ _ _ _ _ _ _ _ _ _ _ _ _ _ _) _).trans ?_
    obtain rfl : y0 = 0 := Subsingleton.elim _ _
    have e2 : z 2 = y2 := Fin.ext h2
    rw [e2]
    refine run_eq _ _ _ _ _ _ _ _ _ _ _ _ _ _ _ _ _ _ _ _ _ _ _ _ _ _ _ (4 * (t.val % 4) + 2) (by omega) ?_ ?_ ?_ ?_ ?_ ?_ ?_ ?_ ?_ ?_ ?_ ?_ ?_ ?_ ?_ ?_ ?_ y1 y2 _ (by simp only; omega)
    all_goals first | intro u v | intro u
    all_goals pointwise
    all_goals blk_point [iblk, V, idx t, lo, hi, grp]
  · rename_i z
    idx_vars y
    refine (congrFun (first_run _ _ _ _ _ _ _ _ _ _ _ _ _ _ _ _ _) _).trans ?_
    obtain rfl : y0 = 0 := Subsingleton.elim _ _
    have e2 : z 2 = y2 := Fin.ext h2
    rw [e2]
    refine run_eq _ _ _ _ _ _ _ _ _ _ _ _ _ _ _ _ _ _ _ _ _ _ _ _ _ _ _ (4 * (t.val % 4)) (by omega) ?_ ?_ ?_ ?_ ?_ ?_ ?_ ?_ ?_ ?_ ?_ ?_ ?_ ?_ ?_ ?_ ?_ y1 y2 _ (by simp only; omega)
    all_goals first | intro u v | intro u
    all_goals pointwise
    all_goals blk_point [iblk, V, idx t, lo, hi, grp]

/-- The result array after the run. -/
theorem final (c : Dev nD) : (dats m 0 c).arrAt 9 (cfgs 0).N = REF m c := by
  refine (dats m 0 c).arrAt_eq_of_covers 9 _ (by decide +kernel) fun t _ y => ?_
  blk_simp
  rw [after0_9]
  exact point m c t y

end Cert.Gmlp.Ker
-- ==== Proof.FfnSpec.lean ====
module

public import proofs.«01_k».proof.Proof.GmlpSpec

/-!
# The convolved feed-forward layer, written as plain formulas over the extended reals

A sequence's up-projection, the causal three-tap convolution of each feature along the sequence, the
SiLU-gated product of the two halves, the down-projection and the closing layer norm of the residual.
Both programs are shown to compute `layer`.
-/

@[expose] public section

noncomputable section

open Idealize.ShloMosaic

namespace Cert.Ffn.Spec

open Cert.Gmlp (lit layerNorm)

/-- Feature `f` of token `r` projected up. -/
def up (w : Fin 1024 → Fin 5632 → EReal) (x : Fin 2048 → Fin 1024 → EReal) (f : Fin 5632) (r : Fin 2048) : EReal :=
  ∑ k, x r k * w k f

/-- The value `d` tokens back, zero before the sequence begins. -/
def back (d : ℕ) (y : Fin 2048 → EReal) (r : Fin 2048) : EReal :=
  if d ≤ r.val then y ⟨r.val - d, lt_of_le_of_lt (Nat.sub_le _ _) r.isLt⟩ else 0

/-- Three taps and a bias. -/
def taps (c0 c1 c2 b p2 p1 p0 : EReal) : EReal := b + c0 * p2 + c1 * p1 + c2 * p0

/-- Feature `f` of token `r` after the convolution. -/
def conv (w : Fin 1024 → Fin 5632 → EReal) (cw : Fin 3 → Fin 5632 → EReal) (cb : Fin 5632 → EReal)
    (x : Fin 2048 → Fin 1024 → EReal) (f : Fin 5632) (r : Fin 2048) : EReal :=
  taps (cw 0 f) (cw 1 f) (cw 2 f) (cb f) (back 2 (up w x f) r) (back 1 (up w x f) r) (up w x f r)

/-- The SiLU-gated product. -/
def glu (p q : EReal) : EReal := p * Ideal.logistic p * q

/-- The index of feature `f` of the gate half. -/
def lo (f : Fin 2816) : Fin 5632 := ⟨f, by omega⟩

/-- The index of feature `f` of the value half. -/
def hi (f : Fin 2816) : Fin 5632 := ⟨2816 + f, by omega⟩

/-- Entry `j` of token `r` after the whole layer. -/
def layer (w : Fin 1024 → Fin 5632 → EReal) (cw : Fin 3 → Fin 5632 → EReal) (cb : Fin 5632 → EReal)
    (wd : Fin 2816 → Fin 1024 → EReal) (g b : Fin 1024 → EReal) (x : Fin 2048 → Fin 1024 → EReal)
    (r : Fin 2048) (j : Fin 1024) : EReal :=
  layerNorm (lit 0x44800000#32)
    (fun l => lit 0x3FD744FD#32 * x r l + ∑ f, glu (conv w cw cb x (lo f) r) (conv w cw cb x (hi f) r) * wd f l) g b j

end Cert.Ffn.Spec
-- ==== Proof.FfnReference.lean ====
module

public import proofs.«01_k».proof.Proof.FfnSpec
public import proofs.«01_k».proof.Proof.Gen.Reference2Ideal.Run
public import Idealize.ShloMosaic.Lib.WordCmp

/-!
# What the reference's feed-forward layer computes

The reference's composed result term, cut into its steps; each step read at an index.
-/

set_option maxRecDepth 16384

@[expose] public section

noncomputable section

open Idealize.ShloMosaic Idealize.ShloMosaic.TcCoe Idealize.SL.Sem
open Cert.Reference2Ideal Cert.Reference2Ideal.Gen

namespace Cert.Ffn.Ref

open Cert.Gmlp (lit mean layerNorm)
open Cert.Ffn.Spec

/-- The up-projection, two rows of zeros before each sequence. -/
def padded (X : FVec Ideal S32x2048x1024 .f32) (W : FVec Ideal S1024x5632 .f32) : FVec Ideal S32x2050x5632 .f32 :=
  pad S32x2050x5632 ![0, 2, 0] ![0, 0, 0] ![0, 0, 0] (Host.dotGeneral dot_S32x2048x1024_S1024x5632_S32x2048x5632_2_0_01_1_n_n none X W)
    (sitofp .f32 (constantI S_ 32 0#32)) pads_S32x2048x5632_S32x2050x5632_000_200_000 h_S_

/-- A row of features spread over the tokens. -/
def spread (v : FVec Ideal S5632 .f32) : FVec Ideal S32x2048x5632 .f32 :=
  broadcastInDim S32x2048x5632 ![0, 1, 2] bcast_S1x1x5632_S32x2048x5632_0_1_2 (broadcastInDim S1x1x5632 ![2] bcast_S5632_S1x1x5632_2 v)

/-- The convolution. -/
def convolved (X : FVec Ideal S32x2048x1024 .f32) (W : FVec Ideal S1024x5632 .f32) (CW : FVec Ideal S3x5632 .f32) (CB : FVec Ideal S5632 .f32) :
    FVec Ideal S32x2048x5632 .f32 :=
  addf (addf (addf (spread CB)
      (mulf (spread (shapeCast S5632 (extractStridedSlice S1x5632 ![0, 0] CW slices_S3x5632_S1x5632_0_0) shapeCasts_S1x5632_S5632))
        (extractStridedSlice S32x2048x5632 ![0, 0, 0] (padded X W) slices_S32x2050x5632_S32x2048x5632_0_0_0)))
      (mulf (spread (shapeCast S5632 (extractStridedSlice S1x5632 ![1, 0] CW slices_S3x5632_S1x5632_1_0) shapeCasts_S1x5632_S5632))
        (extractStridedSlice S32x2048x5632 ![0, 1, 0] (padded X W) slices_S32x2050x5632_S32x2048x5632_0_1_0)))
      (mulf (spread (shapeCast S5632 (extractStridedSlice S1x5632 ![2, 0] CW slices_S3x5632_S1x5632_2_0) shapeCasts_S1x5632_S5632))
        (extractStridedSlice S32x2048x5632 ![0, 2, 0] (padded X W) slices_S32x2050x5632_S32x2048x5632_0_2_0))

/-- SiLU of the first half times the second. -/
def gatedOf (a : FVec Ideal S32x2048x5632 .f32) : FVec Ideal S32x2048x2816 .f32 :=
  have p := extractStridedSlice S32x2048x2816 ![0, 0, 0] a slices_S32x2048x5632_S32x2048x2816_0_0_0
  mulf (mulf p (Host.divf (broadcastInDim S32x2048x2816 ![] bcast_S_S32x2048x2816 (constant S_ .f32 0x3F800000#32))
      (addf (broadcastInDim S32x2048x2816 ![] bcast_S_S32x2048x2816 (constant S_ .f32 0x3F800000#32)) (Host.exp (Host.negf p)))))
    (extractStridedSlice S32x2048x2816 ![0, 0, 2816] a slices_S32x2048x5632_S32x2048x2816_0_0_2816)

/-- The scaled residual plus the down-projection. -/
def resid (X : FVec Ideal S32x2048x1024 .f32) (h : FVec Ideal S32x2048x2816 .f32) (WD : FVec Ideal S2816x1024 .f32) : FVec Ideal S32x2048x1024 .f32 :=
  addf (mulf (broadcastInDim S32x2048x1024 ![] bcast_S_S32x2048x1024 (constant S_ .f32 0x3FD744FD#32)) X)
    (Host.dotGeneral dot_S32x2048x2816_S2816x1024_S32x2048x1024_2_0_01_1_n_n none h WD)

/-- The row means over 1024 features. -/
def meanOf (v : FVec Ideal S32x2048x1024 .f32) : FVec Ideal S32x2048x1 .f32 :=
  Host.divf (broadcastInDim S32x2048x1 ![0, 1] bcast_S32x2048_S32x2048x1_0_1
      (Host.reduceAdd v (constant S_ .f32 0x00000000#32) reducesTo_S32x2048x1024_S32x2048_d2 h_S_))
    (broadcastInDim S32x2048x1 ![] bcast_S_S32x2048x1 (constant S_ .f32 0x44800000#32))

/-- A row less its mean. -/
def centre (v : FVec Ideal S32x2048x1024 .f32) : FVec Ideal S32x2048x1024 .f32 :=
  subf v (broadcastInDim S32x2048x1024 ![0, 1, 2] bcast_S32x2048x1_S32x2048x1024_0_1_2 (meanOf v))

/-- Layer norm over 1024 features. -/
def normOf (v : FVec Ideal S32x2048x1024 .f32) (g b : FVec Ideal S1024 .f32) : FVec Ideal S32x2048x1024 .f32 :=
  addf (mulf (mulf (centre v) (broadcastInDim S32x2048x1024 ![0, 1, 2] bcast_S32x2048x1_S32x2048x1024_0_1_2
      (Host.rsqrt (addf (meanOf (mulf (centre v) (centre v)))
        (broadcastInDim S32x2048x1 ![] bcast_S_S32x2048x1 (constant S_ .f32 0x3727C5AC#32))))))
      (broadcastInDim S32x2048x1024 ![0, 1, 2] bcast_S1x1x1024_S32x2048x1024_0_1_2 (broadcastInDim S1x1x1024 ![2] bcast_S1024_S1x1x1024_2 g)))
    (broadcastInDim S32x2048x1024 ![0, 1, 2] bcast_S1x1x1024_S32x2048x1024_0_1_2 (broadcastInDim S1x1x1024 ![2] bcast_S1024_S1x1x1024_2 b))

/-- The reference's result as a function of its seven arguments. -/
def whole (X : FVec Ideal S32x2048x1024 .f32) (W : FVec Ideal S1024x5632 .f32) (CW : FVec Ideal S3x5632 .f32) (CB : FVec Ideal S5632 .f32)
    (WD : FVec Ideal S2816x1024 .f32) (g b : FVec Ideal S1024 .f32) : FVec Ideal S32x2048x1024 .f32 :=
  normOf (resid X (gatedOf (convolved X W CW CB)) WD) g b

/-- The printed reference computes `whole` of its arguments. -/
theorem run_term (m : (ℓ : Loc nD τ sig) → Buf (Elt Ideal) ℓ) (c : Dev nD) :
    Cert.Reference2Ideal.Value.res_main_v56 m c = whole
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := by
  rfl

/-- The rows added before a sequence are zeros. -/
theorem zero_fill : (FloatOps.sitofp (F := Ideal) FTy.f32 (0#32 : BitVec 32) : EReal) = 0 := by
  simp [FloatOps.sitofp]

/-- The padded up-projection read `d` rows back, as the taps of the convolution read it. -/
theorem tap2_at (X : FVec Ideal S32x2048x1024 .f32) (W : FVec Ideal S1024x5632 .f32) (a : Fin 32) (r : Fin 2048) (f : Fin 5632) :
    extractStridedSlice S32x2048x5632 ![0, 0, 0] (padded X W) slices_S32x2050x5632_S32x2048x5632_0_0_0 (ix3 a r f)
      = back 2 (up (fun k f => W (ix2 k f)) (fun r k => X (ix3 a r k)) f) r := by
  pointwise [padded, back, up]
  by_cases h : 2 ≤ r.val
  · rw [dif_pos ⟨h, by omega⟩, if_pos h]
  · rw [dif_neg (fun e => h e.1), if_neg h]; exact zero_fill

theorem tap1_at (X : FVec Ideal S32x2048x1024 .f32) (W : FVec Ideal S1024x5632 .f32) (a : Fin 32) (r : Fin 2048) (f : Fin 5632) :
    extractStridedSlice S32x2048x5632 ![0, 1, 0] (padded X W) slices_S32x2050x5632_S32x2048x5632_0_1_0 (ix3 a r f)
      = back 1 (up (fun k f => W (ix2 k f)) (fun r k => X (ix3 a r k)) f) r := by
  pointwise [padded, back, up]
  by_cases h : 1 ≤ r.val
  · rw [dif_pos ⟨by omega, by omega⟩, if_pos h]
    refine Finset.sum_congr rfl fun k _ => congrArg (· * _) (congrArg (fun r => X (ix3 a r k)) (Fin.ext ?_))
    simp only; omega
  · rw [dif_neg (fun e => h (by omega)), if_neg h]; exact zero_fill

theorem tap0_at (X : FVec Ideal S32x2048x1024 .f32) (W : FVec Ideal S1024x5632 .f32) (a : Fin 32) (r : Fin 2048) (f : Fin 5632) :
    extractStridedSlice S32x2048x5632 ![0, 2, 0] (padded X W) slices_S32x2050x5632_S32x2048x5632_0_2_0 (ix3 a r f)
      = up (fun k f => W (ix2 k f)) (fun r k => X (ix3 a r k)) f r := by
  pointwise [padded, up]

/-- The convolution at an entry. -/
theorem convolved_at (X : FVec Ideal S32x2048x1024 .f32) (W : FVec Ideal S1024x5632 .f32) (CW : FVec Ideal S3x5632 .f32) (CB : FVec Ideal S5632 .f32)
    (a : Fin 32) (r : Fin 2048) (f : Fin 5632) :
    convolved X W CW CB (ix3 a r f)
      = conv (fun k f => W (ix2 k f)) (fun i f => CW (ix2 i f)) (fun f => CB (ix1 f)) (fun r k => X (ix3 a r k)) f r := by
  unfold conv
  rw [← tap2_at, ← tap1_at, ← tap0_at]
  pointwise [convolved, spread, taps]

/-- The gated product at an entry. -/
theorem gatedOf_at (A : FVec Ideal S32x2048x5632 .f32) (a : Fin 32) (r : Fin 2048) (f : Fin 2816) :
    gatedOf A (ix3 a r f) = glu (A (ix3 a r (lo f))) (A (ix3 a r (hi f))) := by
  pointwise [gatedOf, glu, lo, hi, Ideal.logistic]

/-- The layer norm at an entry. -/
theorem normOf_at (v : FVec Ideal S32x2048x1024 .f32) (g b : FVec Ideal S1024 .f32) (a : Fin 32) (r : Fin 2048) (j : Fin 1024) :
    normOf v g b (ix3 a r j) = layerNorm (lit 0x44800000#32) (fun l => v (ix3 a r l)) (fun l => g (ix1 l)) (fun l => b (ix1 l)) j := by
  pointwise [normOf, centre, meanOf, layerNorm, mean, lit]

/-- The residual at an entry. -/
theorem resid_at (X : FVec Ideal S32x2048x1024 .f32) (h : FVec Ideal S32x2048x2816 .f32) (WD : FVec Ideal S2816x1024 .f32)
    (a : Fin 32) (r : Fin 2048) (j : Fin 1024) :
    resid X h WD (ix3 a r j) = lit 0x3FD744FD#32 * X (ix3 a r j) + ∑ f, h (ix3 a r f) * WD (ix2 f j) := by
  pointwise [resid, lit]

/-- The reference's result at token `r` of sequence `a`. -/
theorem whole_at (X : FVec Ideal S32x2048x1024 .f32) (W : FVec Ideal S1024x5632 .f32) (CW : FVec Ideal S3x5632 .f32) (CB : FVec Ideal S5632 .f32)
    (WD : FVec Ideal S2816x1024 .f32) (g b : FVec Ideal S1024 .f32) (a : Fin 32) (r : Fin 2048) (j : Fin 1024) :
    whole X W CW CB WD g b (ix3 a r j)
      = layer (fun k f => W (ix2 k f)) (fun i f => CW (ix2 i f)) (fun f => CB (ix1 f)) (fun f j => WD (ix2 f j))
          (fun j => g (ix1 j)) (fun j => b (ix1 j)) (fun r k => X (ix3 a r k)) r j := by
  unfold whole layer
  rw [normOf_at]
  simp only [resid_at, gatedOf_at, convolved_at]

end Cert.Ffn.Ref
-- ==== Proof.FfnPieces.lean ====
/-
  The convolutional feed-forward kernel in pieces. The printed body does five things, over and over: copy a slab of rows
  into the half-width scratch, project a slab up by one chunk of columns, convolve one chunk, store a gated chunk, and
  project a gated chunk down into the accumulator. Each is here one program over any references and offsets, with the
  value it leaves as one function.
-/
module

public import proofs.«01_k».proof.Proof.Gen.Kernel2Ideal.Frame
public import Idealize.ShloMosaic.Lib.VecWindow
public import Idealize.ShloMosaic.Lib.Memref

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Facts₀ Cert.Kernel2Ideal.Facts
open Idealize.ShloMosaic.VecWindow (window put)

/-- The body's programs. -/
abbrev Body (F : FTy → Type) [FloatOps F] (α : Type) : Type 1 := Prog (TpuEff nD τ sig (Elt F) Λ₀ .tc) α

variable {F : FTy → Type} [FloatOps F]

local notation "𝕄" => MT nD τ sig Unit (Elt F) ℕ (UR sig nD τ) ℕ

/-! ## Loads and stores of an owned reference -/

/-- A load through a unit-stride rectangle of a reference owned at `X` reads the window of `X` there. -/
theorem load_owned (c : Dev nD) {s : Shape} {e : EltTy} (m : Memref sig .tc .vmem s e) {off size : Fin s.rank → ℕ}
    (inb : ∀ a, off a + size a ≤ s.size a) (hl : m.view.LoadsAt (Rect.unit off size inb).toLoadRect) (X : s.Idx → Elt F e)
    {α : Type} (k : ((Rect.unit off size inb).shape.Idx → Elt F e) → Body F α) (Q : α → sProp 𝕄) :
    owns (c : Thread nD τ) m fullShare X
      ⊢ iprop((owns (c : Thread nD τ) m fullShare X -∗ wp frame (wpE (defs₀ (F := F)) Variants.none (c : Thread nD τ) none) Set.univ (k (window X off size inb)) Q)
        -∗ wp frame (wpE (defs₀ (F := F)) Variants.none (c : Thread nD τ) none) Set.univ (Prog.lift (.load m (Rect.unit off size inb).toLoadRect hl) >>= k) Q) := by
  show _ ⊢ iprop(_ -∗ wp frame (wpE (defs₀ (F := F)) Variants.none (c : Thread nD τ) none) Set.univ (.op (.load m (Rect.unit off size inb).toLoadRect hl) k) Q)
  unfold owns
  iintro ⟨%f, %hf, H⟩ HK
  subst hf
  iapply (wp_load Variants.none (c : Thread nD τ) none Set.univ (S := m.view.set) (q := fullShare) (f := f)
    (by intro x hx; obtain ⟨y, _, rfl⟩ := Finset.mem_map.mp hx; exact Finset.mem_map.mpr ⟨y, Finset.mem_univ _, rfl⟩)) $$ H
  iintro H
  iapply HK
  iexists f
  isplitr; · ipureintro; rfl
  iexact H

/-- A store of `w` through a unit-stride rectangle of a reference owned at `X` leaves it owned at `X` with `w` put there. -/
theorem store_owned (c : Dev nD) {s : Shape} {e : EltTy} (m : Memref sig .tc .vmem s e) {off size : Fin s.rank → ℕ}
    (inb : ∀ a, off a + size a ≤ s.size a) (w : (Rect.unit off size inb).shape.Idx → Elt F e)
    (hx : (m.access (Rect.unit off size inb)).Stores Finset.univ)
    (hm : (Finset.univ : Finset (Rect.unit off size inb).shape.Idx) = Finset.univ ∨ ∀ a, (Rect.unit off size inb).stride a = 1)
    (X : s.Idx → Elt F e) {α : Type} (k : PUnit → Body F α) (Q : α → sProp 𝕄) :
    owns (c : Thread nD τ) m fullShare X
      ⊢ iprop((owns (c : Thread nD τ) m fullShare (put X off size w) -∗ wp frame (wpE (defs₀ (F := F)) Variants.none (c : Thread nD τ) none) Set.univ (k ⟨⟩) Q)
        -∗ wp frame (wpE (defs₀ (F := F)) Variants.none (c : Thread nD τ) none) Set.univ (Prog.lift (.store m (Rect.unit off size inb) w Finset.univ hx hm) >>= k) Q) := by
  show _ ⊢ iprop(_ -∗ wp frame (wpE (defs₀ (F := F)) Variants.none (c : Thread nD τ) none) Set.univ (.op (.store m (Rect.unit off size inb) w Finset.univ hx hm) k) Q)
  unfold owns
  iintro ⟨%f, %hf, H⟩ HK
  subst hf
  iapply (wp_store Variants.none (c : Thread nD τ) none Set.univ (m := m) (r := Rect.unit off size inb) (w := w) (Mk := Finset.univ) (hx := hx) (hm := hm)
    (k := k) (Q := Q) (S := m.view.set) (f := f)
    (by intro x hx; obtain ⟨y, _, rfl⟩ := Finset.mem_map.mp hx; exact Finset.mem_map.mpr ⟨_, Finset.mem_univ _, rfl⟩)) $$ H
  iintro H
  iapply HK
  iexists _
  isplitr; swap; · iexact H
  ipureintro
  exact View.read_writes_cons_put m.view f inb w [] rfl

/-! ## The five pieces' values -/

/-- A slab of rows in half width. -/
def castV (x : Vec F S1x256x1024 .f32) : Vec F S256x1024 .bf16 :=
  shapeCast S256x1024 (truncf .bf16 (shapeCast S256x1024 x shapeCasts_S1x256x1024_S256x1024) bitsLt_bf16_f32) shapeCasts_S256x1024_S256x1024

/-- A slab projected up by one chunk of columns. -/
def upV (x : Vec F S256x1024 .bf16) (w : Vec F S1x1024x256 .bf16) : Vec F S1x256x256 .f32 :=
  shapeCast S1x256x256 (matmul dot_S256x1024_S1024x256_S256x256_1_0_0_1_n_n none x
    (shapeCast S1024x256 w shapeCasts_S1x1024x256_S1024x256) (constant S256x256 .f32 0x00000000#32)) shapeCasts_S256x256_S1x256x256

/-- The last eight rows of a chunk. -/
def tailV (a : Vec F S1x256x256 .f32) : Vec F S1x8x256 .f32 :=
  shapeCast S1x8x256 (extractStridedSlice S8x256 ![248, 0] (shapeCast S256x256 a shapeCasts_S1x256x256_S256x256)
    slices_S256x256_o248_0_S8x256) shapeCasts_S8x256_S1x8x256

/-- A chunk below the eight rows that precede it, rotated by `n` rows, without the first eight. -/
def shiftV (n : BitVec 32) (a : Vec F S1x256x256 .f32) (t : Vec F S1x8x256 .f32) : Vec F S256x256 .f32 :=
  extractStridedSlice S256x256 ![8, 0] (dynamicRotate 0 n none (concatenate S264x256 0
    [⟨S8x256, shapeCast S8x256 t shapeCasts_S1x8x256_S8x256⟩, ⟨S256x256, shapeCast S256x256 a shapeCasts_S1x256x256_S256x256⟩]
    concatenates_S8x256_S256x256_S264x256_d0) rotates_S264x256_d0) slices_S264x256_o8_0_S256x256

/-- One chunk after the three-tap causal convolution. -/
def convV (a : Vec F S1x256x256 .f32) (t : Vec F S1x8x256 .f32) (w : Vec F S1x3x256 .f32) (b : Vec F S1x1x256 .f32) : Vec F S256x256 .f32 :=
  have w' : Vec F S3x256 .f32 := shapeCast S3x256 w shapeCasts_S1x3x256_S3x256
  addf (addf (addf (broadcastTo S256x256 (shapeCast S1x256 b shapeCasts_S1x1x256_S1x256) broadcasts_S1x256_S256x256)
      (mulf (broadcastTo S256x256 (extractStridedSlice S1x256 ![0, 0] w' slices_S3x256_o0_0_S1x256) broadcasts_S1x256_S256x256) (shiftV 2#32 a t)))
      (mulf (broadcastTo S256x256 (extractStridedSlice S1x256 ![1, 0] w' slices_S3x256_o1_0_S1x256) broadcasts_S1x256_S256x256) (shiftV 1#32 a t)))
      (mulf (broadcastTo S256x256 (extractStridedSlice S1x256 ![2, 0] w' slices_S3x256_o2_0_S1x256) broadcasts_S1x256_S256x256)
        (shapeCast S256x256 a shapeCasts_S1x256x256_S256x256))

/-- The gate's chunk through the sigmoid unit times the value's chunk. -/
def gateV (p q : Vec F S256x256 .f32) : Vec F S256x256 .bf16 :=
  shapeCast S256x256 (truncf .bf16 (mulf (mulf p (logistic p)) q) bitsLt_bf16_f32) shapeCasts_S256x256_S256x256

/-- A slab of the accumulator with one gated chunk projected down added. -/
def downV (s : Vec F S256x1024 .f32) (g : Vec F S256x256 .bf16) (w : Vec F S1x256x1024 .bf16) : Vec F S256x1024 .f32 :=
  shapeCast S256x1024 (addf s (matmul dot_S256x256_S256x1024_S256x1024_1_0_0_1_n_n none g
    (shapeCast S256x1024 w shapeCasts_S1x256x1024_S256x1024) (constant S256x1024 .f32 0x00000000#32))) shapeCasts_S256x1024_S256x1024

/-! ## The five pieces -/

/-- Slab `o1` of the block copied in half width to rows `o2` of the scratch. -/
def castP (x : Memref sig .tc .vmem S1x1024x1024 .f32) (xb : Memref sig .tc .vmem S1024x1024 .bf16)
    (o1 : Fin 3 → ℕ) (h1 : ∀ a, o1 a + S1x256x1024.size a ≤ S1x1024x1024.size a)
    (o2 : Fin 2 → ℕ) (h2 : ∀ a, o2 a + S256x1024.size a ≤ S1024x1024.size a)
    (hx : (xb.access (Rect.unit (s := S1024x1024) o2 S256x1024.size h2)).Stores Finset.univ) : Body F PUnit := do
  let v : Vec F S1x256x1024 .f32 ← Prog.lift (.load x (Rect.unit (s := S1x1024x1024) o1 S1x256x1024.size h1).toLoadRect (View.loadsAt_vmem h_S1x256x1024))
  let _ : Vec F S256x1024 .bf16 ← Prog.lift (.load xb (Rect.unit (s := S1024x1024) o2 S256x1024.size h2).toLoadRect (View.loadsAt_vmem h_S256x1024))
  Prog.lift (.store xb (Rect.unit (s := S1024x1024) o2 S256x1024.size h2) (castV v) Finset.univ hx (.inl rfl))
  pure ⟨⟩

/-- Rows `ox` of the scratch projected up by chunks `o0` and `o1`, into the two halves of `a`. -/
def upP (xb : Memref sig .tc .vmem S1024x1024 .bf16) (wu : Memref sig .tc .vmem S22x1024x256 .bf16) (a : Memref sig .tc .vmem S2x256x256 .f32)
    (ox : Fin 2 → ℕ) (hx : ∀ a, ox a + S256x1024.size a ≤ S1024x1024.size a)
    (o0 : Fin 3 → ℕ) (h0 : ∀ a, o0 a + S1x1024x256.size a ≤ S22x1024x256.size a)
    (o1 : Fin 3 → ℕ) (h1 : ∀ a, o1 a + S1x1024x256.size a ≤ S22x1024x256.size a) : Body F PUnit := do
  let v : Vec F S256x1024 .bf16 ← Prog.lift (.load xb (Rect.unit (s := S1024x1024) ox S256x1024.size hx).toLoadRect (View.loadsAt_vmem h_S256x1024))
  let w0 : Vec F S1x1024x256 .bf16 ← Prog.lift (.load wu (Rect.unit (s := S22x1024x256) o0 S1x1024x256.size h0).toLoadRect (View.loadsAt_vmem h_S1x1024x256))
  let _ : Vec F S1x256x256 .f32 ← Prog.lift (.load a (Rect.unit (s := S2x256x256) ![0, 0, 0] S1x256x256.size inb_S2x256x256_S1x256x256_0_0_0).toLoadRect (View.loadsAt_vmem h_S1x256x256))
  Prog.lift (.store a (Rect.unit (s := S2x256x256) ![0, 0, 0] S1x256x256.size inb_S2x256x256_S1x256x256_0_0_0) (upV v w0) Finset.univ (View.stores_vmem_bits_univ h_S1x256x256 rfl) (.inl rfl))
  let w1 : Vec F S1x1024x256 .bf16 ← Prog.lift (.load wu (Rect.unit (s := S22x1024x256) o1 S1x1024x256.size h1).toLoadRect (View.loadsAt_vmem h_S1x1024x256))
  let _ : Vec F S1x256x256 .f32 ← Prog.lift (.load a (Rect.unit (s := S2x256x256) ![1, 0, 0] S1x256x256.size inb_S2x256x256_S1x256x256_1_0_0).toLoadRect (View.loadsAt_vmem h_S1x256x256))
  Prog.lift (.store a (Rect.unit (s := S2x256x256) ![1, 0, 0] S1x256x256.size inb_S2x256x256_S1x256x256_1_0_0) (upV v w1) Finset.univ (View.stores_vmem_bits_univ h_S1x256x256 rfl) (.inl rfl))
  pure ⟨⟩

/-- Half `oa` of `a` convolved, behind the rows kept at `ot`, which its own last rows replace. -/
def convP (a : Memref sig .tc .vmem S2x256x256 .f32) (tl : Memref sig .tc .vmem S22x8x256 .f32) (cw : Memref sig .tc .vmem S22x3x256 .f32)
    (cb : Memref sig .tc .vmem S22x1x256 .f32)
    (oa : Fin 3 → ℕ) (ha : ∀ a, oa a + S1x256x256.size a ≤ S2x256x256.size a)
    (ot : Fin 3 → ℕ) (ht : ∀ a, ot a + S1x8x256.size a ≤ S22x8x256.size a)
    (ow : Fin 3 → ℕ) (hw : ∀ a, ow a + S1x3x256.size a ≤ S22x3x256.size a)
    (ob : Fin 3 → ℕ) (hb : ∀ a, ob a + S1x1x256.size a ≤ S22x1x256.size a) : Body F (FVec F S256x256 .f32) := do
  let v : Vec F S1x256x256 .f32 ← Prog.lift (.load a (Rect.unit (s := S2x256x256) oa S1x256x256.size ha).toLoadRect (View.loadsAt_vmem h_S1x256x256))
  let t : Vec F S1x8x256 .f32 ← Prog.lift (.load tl (Rect.unit (s := S22x8x256) ot S1x8x256.size ht).toLoadRect (View.loadsAt_vmem h_S1x8x256))
  let _ : Vec F S1x8x256 .f32 ← Prog.lift (.load tl (Rect.unit (s := S22x8x256) ot S1x8x256.size ht).toLoadRect (View.loadsAt_vmem h_S1x8x256))
  Prog.lift (.store tl (Rect.unit (s := S22x8x256) ot S1x8x256.size ht) (tailV v) Finset.univ (View.stores_vmem_bits_univ h_S1x8x256 rfl) (.inl rfl))
  let w : Vec F S1x3x256 .f32 ← Prog.lift (.load cw (Rect.unit (s := S22x3x256) ow S1x3x256.size hw).toLoadRect (View.loadsAt_vmem h_S1x3x256))
  let b : Vec F S1x1x256 .f32 ← Prog.lift (.load cb (Rect.unit (s := S22x1x256) ob S1x1x256.size hb).toLoadRect (View.loadsAt_vmem h_S1x1x256))
  pure (convV v t w b)

/-- A gated chunk stored. -/
def gateP (g : Memref sig .tc .vmem S256x256 .bf16) (hg : g.IsWhole) (p q : FVec F S256x256 .f32) : Body F PUnit := do
  let _ : Vec F S256x256 .bf16 ← Prog.lift (.load g (Rect.unit (s := S256x256) ![0, 0] S256x256.size inb_S256x256_S256x256_0_0).toLoadRect (View.loadsAt_vmem h_S256x256))
  Prog.lift (.store g (Rect.unit (s := S256x256) ![0, 0] S256x256.size inb_S256x256_S256x256_0_0) (gateV p q) Finset.univ (View.stores_vmem h_S256x256 (hg.storeExact_slice rfl _ packedbf16_S256x256_S256x256_0_0) (fun _ => rfl)) (.inl rfl))
  pure ⟨⟩

/-- A gated chunk projected down by `ow` and added to rows `o` of the accumulator. -/
def downP (acc : Memref sig .tc .vmem S1024x1024 .f32) (g : Memref sig .tc .vmem S256x256 .bf16) (wd : Memref sig .tc .vmem S11x256x1024 .bf16)
    (o : Fin 2 → ℕ) (h : ∀ a, o a + S256x1024.size a ≤ S1024x1024.size a)
    (ow : Fin 3 → ℕ) (hw : ∀ a, ow a + S1x256x1024.size a ≤ S11x256x1024.size a) : Body F PUnit := do
  let s : Vec F S256x1024 .f32 ← Prog.lift (.load acc (Rect.unit (s := S1024x1024) o S256x1024.size h).toLoadRect (View.loadsAt_vmem h_S256x1024))
  let v : Vec F S256x256 .bf16 ← Prog.lift (.load g (Rect.unit (s := S256x256) ![0, 0] S256x256.size inb_S256x256_S256x256_0_0).toLoadRect (View.loadsAt_vmem h_S256x256))
  let w : Vec F S1x256x1024 .bf16 ← Prog.lift (.load wd (Rect.unit (s := S11x256x1024) ow S1x256x1024.size hw).toLoadRect (View.loadsAt_vmem h_S1x256x1024))
  let _ : Vec F S256x1024 .f32 ← Prog.lift (.load acc (Rect.unit (s := S1024x1024) o S256x1024.size h).toLoadRect (View.loadsAt_vmem h_S256x1024))
  Prog.lift (.store acc (Rect.unit (s := S1024x1024) o S256x1024.size h) (downV s v w) Finset.univ (View.stores_vmem_bits_univ h_S256x1024 rfl) (.inl rfl))
  pure ⟨⟩

end Cert.Ffn

end
-- ==== Proof.FfnProgram.lean ====
/-
  The printed body of the feed-forward kernel is the composition of the pieces: the slabs copied, the items of (chunk, slab)
  taken in order with two projected up ahead and one projected down behind, and the layer normalisation at the end.
-/
module

public import proofs.«01_k».proof.Proof.FfnPieces

@[expose] public section

set_option maxRecDepth 16384

noncomputable section

namespace Cert.Ffn

open Idealize.ShloMosaic Idealize.ShloMosaic.TcCoe Idealize.ShloMosaic.Tactic
open Idealize.SL Idealize.SL.Sem
open Cert.Kernel2Ideal Cert.Kernel2Ideal.Facts₀ Cert.Kernel2Ideal.Facts

variable {F : FTy → Type} [FloatOps F]

/-- The references the body works on: the block, the weights, the output block and the scratch. -/
structure Refs where
  x : Memref sig .tc .vmem S1x1024x1024 .f32
  wu : Memref sig .tc .vmem S22x1024x256 .bf16
  cw : Memref sig .tc .vmem S22x3x256 .f32
  cb : Memref sig .tc .vmem S22x1x256 .f32
  wd : Memref sig .tc .vmem S11x256x1024 .bf16
  g : Memref sig .tc .vmem S1x1024 .f32
  b : Memref sig .tc .vmem S1x1024 .f32
  o : Memref sig .tc .vmem S1x1024x1024 .f32
  acc : Memref sig .tc .vmem S1024x1024 .f32
  tl : Memref sig .tc .vmem S22x8x256 .f32
  xb : Memref sig .tc .vmem S1024x1024 .bf16
  a0 : Memref sig .tc .vmem S2x256x256 .f32
  a1 : Memref sig .tc .vmem S2x256x256 .f32
  a2 : Memref sig .tc .vmem S2x256x256 .f32
  a3 : Memref sig .tc .vmem S2x256x256 .f32
  g0 : Memref sig .tc .vmem S256x256 .bf16
  g1 : Memref sig .tc .vmem S256x256 .bf16
  g2 : Memref sig .tc .vmem S256x256 .bf16
  g3 : Memref sig .tc .vmem S256x256 .bf16
  hxb : xb.IsWhole
  h0 : g0.IsWhole
  h1 : g1.IsWhole
  h2 : g2.IsWhole
  h3 : g3.IsWhole

/-! ## Bounds -/

theorem bd3 {n d0 d1 : ℕ} (k : ℕ) (hk : k < n) : ∀ a : Fin 3, (![k, 0, 0] : Fin 3 → ℕ) a + (![1, d0, d1] : Fin 3 → ℕ) a ≤ (![n, d0, d1] : Fin 3 → ℕ) a := by
  intro a
  fin_cases a
  · show k + 1 ≤ n; omega
  · show 0 + d0 ≤ d0; omega
  · show 0 + d1 ≤ d1; omega

theorem bdRow (k : ℕ) (hk : k < 4) : ∀ a : Fin 2, (![k * 256, 0] : Fin 2 → ℕ) a + (![256, 1024] : Fin 2 → ℕ) a ≤ (![1024, 1024] : Fin 2 → ℕ) a := by
  intro a
  fin_cases a
  · show k * 256 + 256 ≤ 1024; omega
  · show 0 + 1024 ≤ 1024; omega

theorem bdSlab (k : ℕ) (hk : k < 4) : ∀ a : Fin 3, (![0, k * 256, 0] : Fin 3 → ℕ) a + (![1, 256, 1024] : Fin 3 → ℕ) a ≤ (![1, 1024, 1024] : Fin 3 → ℕ) a := by
  intro a
  fin_cases a
  · show 0 + 1 ≤ 1; omega
  · show k * 256 + 256 ≤ 1024; omega
  · show 0 + 1024 ≤ 1024; omega

/-! ## One item -/

/-- The chunk pair of an item convolved and gated. -/
def pairP (a : Memref sig .tc .vmem S2x256x256 .f32) (R : Refs) (g : Memref sig .tc .vmem S256x256 .bf16) (hg : g.IsWhole)
    (t0 : Fin 3 → ℕ) (ht0 : ∀ a, t0 a + S1x8x256.size a ≤ S22x8x256.size a)
    (w0 : Fin 3 → ℕ) (hw0 : ∀ a, w0 a + S1x3x256.size a ≤ S22x3x256.size a)
    (b0 : Fin 3 → ℕ) (hb0 : ∀ a, b0 a + S1x1x256.size a ≤ S22x1x256.size a)
    (t1 : Fin 3 → ℕ) (ht1 : ∀ a, t1 a + S1x8x256.size a ≤ S22x8x256.size a)
    (w1 : Fin 3 → ℕ) (hw1 : ∀ a, w1 a + S1x3x256.size a ≤ S22x3x256.size a)
    (b1 : Fin 3 → ℕ) (hb1 : ∀ a, b1 a + S1x1x256.size a ≤ S22x1x256.size a) : Body F PUnit := do
  let p : FVec F S256x256 .f32 ← convP a R.tl R.cw R.cb ![0, 0, 0] inb_S2x256x256_S1x256x256_0_0_0 t0 ht0 w0 hw0 b0 hb0
  let q : FVec F S256x256 .f32 ← convP a R.tl R.cw R.cb ![1, 0, 0] inb_S2x256x256_S1x256x256_1_0_0 t1 ht1 w1 hw1 b1 hb1
  gateP g hg p q

/-- Item `n` projected up into `a`. -/
def upL (R : Refs) (a : Memref sig .tc .vmem S2x256x256 .f32) (n : ℕ) : Body F PUnit :=
  upP R.xb R.wu a ![n % 4 * 256, 0] (bdRow (n % 4) (by omega)) ![n / 4 % 11, 0, 0] (bd3 (n / 4 % 11) (by omega)) ![11 + n / 4 % 11, 0, 0] (bd3 (11 + n / 4 % 11) (by omega))

/-- Item `n`, in `a`, convolved and gated into `g`. -/
def pairL (R : Refs) (a : Memref sig .tc .vmem S2x256x256 .f32) (g : Memref sig .tc .vmem S256x256 .bf16) (hg : g.IsWhole) (n : ℕ) : Body F PUnit :=
  pairP a R g hg ![n / 4 % 11, 0, 0] (bd3 (n / 4 % 11) (by omega)) ![n / 4 % 11, 0, 0] (bd3 (n / 4 % 11) (by omega)) ![n / 4 % 11, 0, 0] (bd3 (n / 4 % 11) (by omega))
    ![11 + n / 4 % 11, 0, 0] (bd3 (11 + n / 4 % 11) (by omega)) ![11 + n / 4 % 11, 0, 0] (bd3 (11 + n / 4 % 11) (by omega)) ![11 + n / 4 % 11, 0, 0] (bd3 (11 + n / 4 % 11) (by omega))

/-- Item `n`, gated in `g`, projected down. -/
def downL (R : Refs) (g : Memref sig .tc .vmem S256x256 .bf16) (n : ℕ) : Body F PUnit :=
  downP R.acc g R.wd ![n % 4 * 256, 0] (bdRow (n % 4) (by omega)) ![n / 4 % 11, 0, 0] (bd3 (n / 4 % 11) (by omega))

/-- Slab `k` copied in half width. -/
def castL (R : Refs) (k : ℕ)
    (hx : (R.xb.access (Rect.unit (s := S1024x1024) ![k % 4 * 256, 0] S256x1024.size (bdRow (k % 4) (by omega)))).Stores Finset.univ) : Body F PUnit :=
  castP R.x R.xb ![0, k % 4 * 256, 0] (bdSlab (k % 4) (by omega)) ![k % 4 * 256, 0] (bdRow (k % 4) (by omega)) hx

/-! ## The loop's trips -/

/-- One stage of trip `q` of the loop, at the printed offsets: the item in `a` convolved and gated into `g`, the item two
    ahead projected up into `a'`, the item before, gated in `g'`, projected down. -/
def tripStage (R : Refs) (q : Fin k0_t1_loop.trips) (r : Fin 20) (a a' : Memref sig .tc .vmem S2x256x256 .f32) (g : Memref sig .tc .vmem S256x256 .bf16) (hg : g.IsWhole)
    (g' : Memref sig .tc .vmem S256x256 .bf16) : Body F PUnit := do
  pairP a R g hg (k0_off1 q 0#32 (BitVec.ofNat 32 r.val)) (k0_off1_inb q 0 r) (k0_off2 q 0#32 (BitVec.ofNat 32 r.val)) (k0_off2_inb q 0 r)
    (k0_off3 q 0#32 (BitVec.ofNat 32 r.val)) (k0_off3_inb q 0 r) (k0_off1 q 11#32 (BitVec.ofNat 32 r.val)) (k0_off1_inb q 1 r)
    (k0_off2 q 11#32 (BitVec.ofNat 32 r.val)) (k0_off2_inb q 1 r) (k0_off3 q 11#32 (BitVec.ofNat 32 r.val)) (k0_off3_inb q 1 r)
  upP R.xb R.wu a' (k0_off4 q (BitVec.ofNat 32 r.val)) (k0_off4_inb q r) (k0_off5 q 0#32 (BitVec.ofNat 32 r.val)) (k0_off5_inb q 0 r)
    (k0_off5 q 11#32 (BitVec.ofNat 32 r.val)) (k0_off5_inb q 1 r)
  downP R.acc g' R.wd (k0_off6 q (BitVec.ofNat 32 r.val)) (k0_off6_inb q r) (k0_off7 q (BitVec.ofNat 32 r.val)) (k0_off7_inb q r)

/-- One trip of the loop: twenty stages. -/
def tripP (R : Refs) (q : Fin k0_t1_loop.trips) : Body F PUnit := do
  tripStage R q 0 R.a2 R.a0 R.g2 R.h2 R.g1
  tripStage R q 1 R.a3 R.a1 R.g3 R.h3 R.g2
  tripStage R q 2 R.a0 R.a2 R.g0 R.h0 R.g3
  tripStage R q 3 R.a1 R.a3 R.g1 R.h1 R.g0
  tripStage R q 4 R.a2 R.a0 R.g2 R.h2 R.g1
  tripStage R q 5 R.a3 R.a1 R.g3 R.h3 R.g2
  tripStage R q 6 R.a0 R.a2 R.g0 R.h0 R.g3
  tripStage R q 7 R.a1 R.a3 R.g1 R.h1 R.g0
  tripStage R q 8 R.a2 R.a0 R.g2 R.h2 R.g1
  tripStage R q 9 R.a3 R.a1 R.g3 R.h3 R.g2
  tripStage R q 10 R.a0 R.a2 R.g0 R.h0 R.g3
  tripStage R q 11 R.a1 R.a3 R.g1 R.h1 R.g0
  tripStage R q 12 R.a2 R.a0 R.g2 R.h2 R.g1
  tripStage R q 13 R.a3 R.a1 R.g3 R.h3 R.g2
  tripStage R q 14 R.a0 R.a2 R.g0 R.h0 R.g3
  tripStage R q 15 R.a1 R.a3 R.g1 R.h1 R.g0
  tripStage R q 16 R.a2 R.a0 R.g2 R.h2 R.g1
  tripStage R q 17 R.a3 R.a1 R.g3 R.h3 R.g2
  tripStage R q 18 R.a0 R.a2 R.g0 R.h0 R.g3
  tripStage R q 19 R.a1 R.a3 R.g1 R.h1 R.g0
  pure ⟨⟩

/-! ## Around the loop -/

/-- The accumulator set to zero. -/
def zeroV : Vec F S1024x1024 .f32 := shapeCast S1024x1024 (broadcast S1024x1024 (Scalar.ofBits .f32 0x00000000#32)) shapeCasts_S1024x1024_S1024x1024

/-- The accumulator cleared. -/
def clearP (R : Refs) : Body F PUnit := do
  let _ : Vec F S1024x1024 .f32 ← Prog.lift (.load R.acc (Rect.unit (s := S1024x1024) ![0, 0] S1024x1024.size inb_S1024x1024_S1024x1024_0_0).toLoadRect (View.loadsAt_vmem h_S1024x1024))
  Prog.lift (.store R.acc (Rect.unit (s := S1024x1024) ![0, 0] S1024x1024.size inb_S1024x1024_S1024x1024_0_0) zeroV Finset.univ (View.stores_vmem_bits_univ h_S1024x1024 rfl) (.inl rfl))
  pure ⟨⟩

/-- The rows kept before a sequence's first tile: zeros. -/
def noTailV : Vec F S22x8x256 .f32 := shapeCast S22x8x256 (broadcast S22x8x256 (Scalar.ofBits .f32 0x00000000#32)) shapeCasts_S22x8x256_S22x8x256

/-- The scaled block plus the accumulator, normalised over each row, scaled and shifted. -/
def normV (x : Vec F S1x1024x1024 .f32) (s : Vec F S1024x1024 .f32) (g b : Vec F S1x1024 .f32) : Vec F S1x1024x1024 .f32 :=
  have v413 : FVec F S1024x1024 .f32 := addf (mulf (broadcast S1024x1024 (Scalar.ofBits .f32 0x3FD744FD#32)) (shapeCast S1024x1024 x shapeCasts_S1x1024x1024_S1024x1024)) s
  have v421 : FVec F S1024x1 .f32 := divf (shapeCast S1024x1 (multiReduction .add [1] S1024 v413 0x00000000#32 reduces_S1024x1024_S1024 (.inl rfl) rfl) shapeCasts_S1024_S1024x1) (broadcast S1024x1 (Scalar.ofBits .f32 0x44800000#32))
  have v423 : FVec F S1024x1024 .f32 := subf v413 (broadcastTo S1024x1024 v421 broadcasts_S1024x1_S1024x1024)
  have v428 : FVec F S1024x1 .f32 := divf (shapeCast S1024x1 (multiReduction .add [1] S1024 (mulf v423 v423) 0x00000000#32 reduces_S1024x1024_S1024 (.inl rfl) rfl) shapeCasts_S1024_S1024x1) (broadcast S1024x1 (Scalar.ofBits .f32 0x44800000#32))
  have v431 : FVec F S1024x1 .f32 := rsqrt (addf v428 (broadcast S1024x1 (Scalar.ofBits .f32 0x3727C5AC#32)))
  have v433 : FVec F S1024x1024 .f32 := mulf v423 (broadcastTo S1024x1024 v431 broadcasts_S1024x1_S1024x1024)
  shapeCast S1x1024x1024 (addf (mulf v433 (broadcastTo S1024x1024 (shapeCast S1x1024 g shapeCasts_S1x1024_S1x1024) broadcasts_S1x1024_S1024x1024))
    (broadcastTo S1024x1024 (shapeCast S1x1024 b shapeCasts_S1x1024_S1x1024) broadcasts_S1x1024_S1024x1024)) shapeCasts_S1024x1024_S1x1024x1024

/-- The output block written. -/
def normP (R : Refs) : Body F PUnit := do
  let x : Vec F S1x1024x1024 .f32 ← Prog.lift (.load R.x (Rect.unit (s := S1x1024x1024) ![0, 0, 0] S1x1024x1024.size inb_S1x1024x1024_S1x1024x1024_0_0_0).toLoadRect (View.loadsAt_vmem h_S1x1024x1024))
  let s : Vec F S1024x1024 .f32 ← Prog.lift (.load R.acc (Rect.unit (s := S1024x1024) ![0, 0] S1024x1024.size inb_S1024x1024_S1024x1024_0_0).toLoadRect (View.loadsAt_vmem h_S1024x1024))
  let g : Vec F S1x1024 .f32 ← Prog.lift (.load R.g (Rect.unit (s := S1x1024) ![0, 0] S1x1024.size inb_S1x1024_S1x1024_0_0).toLoadRect (View.loadsAt_vmem h_S1x1024))
  let b : Vec F S1x1024 .f32 ← Prog.lift (.load R.b (Rect.unit (s := S1x1024) ![0, 0] S1x1024.size inb_S1x1024_S1x1024_0_0).toLoadRect (View.loadsAt_vmem h_S1x1024))
  let _ : Vec F S1x1024x1024 .f32 ← Prog.lift (.load R.o (Rect.unit (s := S1x1024x1024) ![0, 0, 0] S1x1024x1024.size inb_S1x1024x1024_S1x1024x1024_0_0_0).toLoadRect (View.loadsAt_vmem h_S1x1024x1024))
  Prog.lift (.store R.o (Rect.unit (s := S1x1024x1024) ![0, 0, 0] S1x1024x1024.size inb_S1x1024x1024_S1x1024x1024_0_0_0) (normV x s g b) Finset.univ (View.stores_vmem_bits_univ h_S1x1024x1024 rfl) (.inl rfl))
  pure ⟨⟩

/-- The body before the loop, followed by `k`. -/
def headP (R : Refs) (k : Body F PUnit) : Body F PUnit := do
  castL R 0 (View.stores_vmem h_S256x1024 (R.hxb.storeExact_slice rfl _ packedbf16_S1024x1024_S256x1024_0_0) (fun _ => rfl))
  upL R R.a0 0
  castL R 1 (View.stores_vmem h_S256x1024 (R.hxb.storeExact_slice rfl _ packedbf16_S1024x1024_S256x1024_256_0) (fun _ => rfl))
  upL R R.a1 1
  castL R 2 (View.stores_vmem h_S256x1024 (R.hxb.storeExact_slice rfl _ packedbf16_S1024x1024_S256x1024_512_0) (fun _ => rfl))
  castL R 3 (View.stores_vmem h_S256x1024 (R.hxb.storeExact_slice rfl _ packedbf16_S1024x1024_S256x1024_768_0) (fun _ => rfl))
  clearP R
  pairL R R.a0 R.g0 R.h0 0
  upL R R.a2 2
  pairL R R.a1 R.g1 R.h1 1
  upL R R.a3 3
  downL R R.g0 0
  k

/-- The body after the loop. -/
def endP (R : Refs) : Body F PUnit := do
  pairL R R.a2 R.g2 R.h2 42
  downL R R.g1 41
  pairL R R.a3 R.g3 R.h3 43
  downL R R.g2 42
  downL R R.g3 43
  normP R

/-- The loop. -/
def loopP (R : Refs) : Body F PUnit := Scf.Loop.for k0_t1_loop k0_t1_ok ⟨⟩ fun q _ => tripP R q

/-- The body after the reset of the kept rows. -/
def restP (R : Refs) : Body F PUnit := headP R (do loopP R; endP R)

/-- The kept rows set to zero, followed by `k`. -/
def resetP (R : Refs) (k : Body F PUnit) : Body F PUnit := do
  let _ : Vec F S22x8x256 .f32 ← Prog.lift (.load R.tl (Rect.unit (s := S22x8x256) ![0, 0, 0] S22x8x256.size inb_S22x8x256_S22x8x256_0_0_0).toLoadRect (View.loadsAt_vmem h_S22x8x256))
  Prog.lift (.store R.tl (Rect.unit (s := S22x8x256) ![0, 0, 0] S22x8x256.size inb_S22x8x256_S22x8x256_0_0_0) noTailV Finset.univ (View.stores_vmem_bits_univ h_S22x8x256 rfl) (.inl rfl))
  k

/-! ## The printed text around the loop's end -/

/-- The printed text from the end of the loop to the next cut. -/
def sufP (i : grid0.Coords) (arg2 : Memref sig .tc .vmem S1x1024x1024 .f32) (harg2 : arg2.IsWhole) (arg3 : Memref sig .tc .vmem S22x1024x256 .bf16) (harg3 : arg3.IsWhole) (arg4 : Memref sig .tc .vmem S22x3x256 .f32) (harg4 : arg4.IsWhole) (arg5 : Memref sig .tc .vmem S22x1x256 .f32) (harg5 : arg5.IsWhole) (arg6 : Memref sig .tc .vmem S11x256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S8x128 .i32) (harg9 : arg9.IsWhole) (arg10 : Memref sig .tc .vmem S1x1024x1024 .f32) (harg10 : arg10.IsWhole) (arg11 : Memref sig .tc .vmem S1024x1024 .f32) (harg11 : arg11.IsWhole) (arg12 : Memref sig .tc .vmem S22x8x256 .f32) (harg12 : arg12.IsWhole) (arg13 : Memref sig .tc .vmem S1024x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x256 .f32) (harg16 : arg16.IsWhole) (arg17 : Memref sig .tc .vmem S2x256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x256 .bf16) (harg20 : arg20.IsWhole) (arg21 : Memref sig .tc .vmem S256x256 .bf16) (harg21 : arg21.IsWhole) : Body F (Σ' (v239 : FVec F S256x256 .f32) (v252 : FVec F S3x256 .f32), FVec F S256x256 .f32) := do
  let c2_i32_160 : BitVec 32 := 2#32
  let c0_161 : Index := 0#32
  let c0_162 : Index := 0#32
  let c0_163 : Index := 0#32
  let v238 : Vec F S1x256x256 .f32 ← Prog.lift (.load arg16 (Rect.unit (s := S2x256x256) ![0, 0, 0] S1x256x256.size inb_S2x256x256_S1x256x256_0_0_0).toLoadRect (View.loadsAt_vmem h_S1x256x256))
  have v239 : FVec F S256x256 .f32 := shapeCast S256x256 v238 shapeCasts_S1x256x256_S256x256
  let c10 : Index := 10#32
  let c0_164 : Index := 0#32
  let c0_165 : Index := 0#32
  let v240 : Vec F S1x8x256 .f32 ← Prog.lift (.load arg12 (Rect.unit (s := S22x8x256) ![10, 0, 0] S1x8x256.size inb_S22x8x256_S1x8x256_10_0_0).toLoadRect (View.loadsAt_vmem h_S1x8x256))
  have v241 : FVec F S8x256 .f32 := shapeCast S8x256 v240 shapeCasts_S1x8x256_S8x256
  have v242 : FVec F S8x256 .f32 := extractStridedSlice S8x256 ![248, 0] v239 slices_S256x256_o248_0_S8x256
  let c10_166 : Index := 10#32
  let c0_167 : Index := 0#32
  let c0_168 : Index := 0#32
  let v243 : Vec F S1x8x256 .f32 ← Prog.lift (.load arg12 (Rect.unit (s := S22x8x256) ![10, 0, 0] S1x8x256.size inb_S22x8x256_S1x8x256_10_0_0).toLoadRect (View.loadsAt_vmem h_S1x8x256))
  have v244 : FVec F S8x256 .f32 := shapeCast S8x256 v243 shapeCasts_S1x8x256_S8x256
  have v245 : FVec F S1x8x256 .f32 := shapeCast S1x8x256 v242 shapeCasts_S8x256_S1x8x256
  Prog.lift (.store arg12 (Rect.unit (s := S22x8x256) ![10, 0, 0] S1x8x256.size inb_S22x8x256_S1x8x256_10_0_0) v245 Finset.univ (View.stores_vmem_bits_univ h_S1x8x256 rfl) (.inl rfl))
  have v246 : FVec F S264x256 .f32 := concatenate S264x256 0 [⟨S8x256, v241⟩, ⟨S256x256, v239⟩] concatenates_S8x256_S256x256_S264x256_d0
  let c1_i32_169 : BitVec 32 := 1#32
  have v247 : FVec F S264x256 .f32 := dynamicRotate 0 c1_i32_169 none v246 rotates_S264x256_d0
  have v248 : FVec F S256x256 .f32 := extractStridedSlice S256x256 ![8, 0] v247 slices_S264x256_o8_0_S256x256
  let c2_i32_170 : BitVec 32 := 2#32
  have v249 : FVec F S264x256 .f32 := dynamicRotate 0 c2_i32_170 none v246 rotates_S264x256_d0
  have v250 : FVec F S256x256 .f32 := extractStridedSlice S256x256 ![8, 0] v249 slices_S264x256_o8_0_S256x256
  let c10_171 : Index := 10#32
  let c0_172 : Index := 0#32
  let c0_173 : Index := 0#32
  let v251 : Vec F S1x3x256 .f32 ← Prog.lift (.load arg4 (Rect.unit (s := S22x3x256) ![10, 0, 0] S1x3x256.size inb_S22x3x256_S1x3x256_10_0_0).toLoadRect (View.loadsAt_vmem h_S1x3x256))
  have v252 : FVec F S3x256 .f32 := shapeCast S3x256 v251 shapeCasts_S1x3x256_S3x256
  let c10_174 : Index := 10#32
  let c0_175 : Index := 0#32
  let c0_176 : Index := 0#32
  let v253 : Vec F S1x1x256 .f32 ← Prog.lift (.load arg5 (Rect.unit (s := S22x1x256) ![10, 0, 0] S1x1x256.size inb_S22x1x256_S1x1x256_10_0_0).toLoadRect (View.loadsAt_vmem h_S1x1x256))
  have v254 : FVec F S1x256 .f32 := shapeCast S1x256 v253 shapeCasts_S1x1x256_S1x256
  have v255 : FVec F S1x256 .f32 := extractStridedSlice S1x256 ![0, 0] v252 slices_S3x256_o0_0_S1x256
  have v256 : FVec F S256x256 .f32 := broadcastTo S256x256 v255 broadcasts_S1x256_S256x256
  have v257 : FVec F S256x256 .f32 := mulf v256 v250
  have v258 : FVec F S256x256 .f32 := broadcastTo S256x256 v254 broadcasts_S1x256_S256x256
  have v259 : FVec F S256x256 .f32 := addf v258 v257
  have v260 : FVec F S1x256 .f32 := extractStridedSlice S1x256 ![1, 0] v252 slices_S3x256_o1_0_S1x256
  have v261 : FVec F S256x256 .f32 := broadcastTo S256x256 v260 broadcasts_S1x256_S256x256
  have v262 : FVec F S256x256 .f32 := mulf v261 v248
  have v263 : FVec F S256x256 .f32 := addf v259 v262
  pure ⟨v239, v252, v263⟩

/-- The printed text from that cut on. -/
def aftP (i : grid0.Coords) (arg2 : Memref sig .tc .vmem S1x1024x1024 .f32) (harg2 : arg2.IsWhole) (arg3 : Memref sig .tc .vmem S22x1024x256 .bf16) (harg3 : arg3.IsWhole) (arg4 : Memref sig .tc .vmem S22x3x256 .f32) (harg4 : arg4.IsWhole) (arg5 : Memref sig .tc .vmem S22x1x256 .f32) (harg5 : arg5.IsWhole) (arg6 : Memref sig .tc .vmem S11x256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S8x128 .i32) (harg9 : arg9.IsWhole) (arg10 : Memref sig .tc .vmem S1x1024x1024 .f32) (harg10 : arg10.IsWhole) (arg11 : Memref sig .tc .vmem S1024x1024 .f32) (harg11 : arg11.IsWhole) (arg12 : Memref sig .tc .vmem S22x8x256 .f32) (harg12 : arg12.IsWhole) (arg13 : Memref sig .tc .vmem S1024x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x256 .f32) (harg16 : arg16.IsWhole) (arg17 : Memref sig .tc .vmem S2x256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x256 .bf16) (harg20 : arg20.IsWhole) (arg21 : Memref sig .tc .vmem S256x256 .bf16) (harg21 : arg21.IsWhole) : (Σ' (v239 : FVec F S256x256 .f32) (v252 : FVec F S3x256 .f32), FVec F S256x256 .f32) → Body F PUnit := fun ⟨v239, v252, v263⟩ => do
  let v301 : FVec F S256x256 .bf16 ← k0_part104 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v239 v252 v263
  let ⟨v318, v327, v329, v331, v333, v334⟩ : Σ' (v318 : FVec F S256x256 .f32) (v327 : FVec F S256x256 .f32) (v329 : FVec F S256x256 .f32) (v331 : FVec F S3x256 .f32) (v333 : FVec F S1x256 .f32), FVec F S1x256 .f32 ← k0_part105 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v301
  let ⟨v346, v376⟩ : Σ' (v346 : FVec F S256x256 .f32), FVec F S256x256 .f32 ← k0_part106 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v318 v327 v329 v331 v333 v334
  let ⟨v409, cst_261⟩ : Σ' (v409 : FVec F S1024x1024 .f32), F .f32 ← k0_part107 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v346 v376
  have v410 : FVec F S1024x1024 .f32 := broadcast S1024x1024 cst_261
  have v411 : FVec F S1024x1024 .f32 := mulf v410 v409
  let c0_262 : Index := 0#32
  let c0_263 : Index := 0#32
  let v412 : Vec F S1024x1024 .f32 ← Prog.lift (.load arg11 (Rect.unit (s := S1024x1024) ![0, 0] S1024x1024.size inb_S1024x1024_S1024x1024_0_0).toLoadRect (View.loadsAt_vmem h_S1024x1024))
  have v413 : FVec F S1024x1024 .f32 := addf v411 v412
  let c0_264 : Index := 0#32
  let c0_265 : Index := 0#32
  let v414 : Vec F S1x1024 .f32 ← Prog.lift (.load arg7 (Rect.unit (s := S1x1024) ![0, 0] S1x1024.size inb_S1x1024_S1x1024_0_0).toLoadRect (View.loadsAt_vmem h_S1x1024))
  have v415 : FVec F S1x1024 .f32 := shapeCast S1x1024 v414 shapeCasts_S1x1024_S1x1024
  let c0_266 : Index := 0#32
  let c0_267 : Index := 0#32
  let v416 : Vec F S1x1024 .f32 ← Prog.lift (.load arg8 (Rect.unit (s := S1x1024) ![0, 0] S1x1024.size inb_S1x1024_S1x1024_0_0).toLoadRect (View.loadsAt_vmem h_S1x1024))
  have v417 : FVec F S1x1024 .f32 := shapeCast S1x1024 v416 shapeCasts_S1x1024_S1x1024
  have cst_268 : FVec F S1024 .f32 := constant S1024 .f32 0x00000000#32
  have v418 : FVec F S1024 .f32 := multiReduction .add [1] S1024 v413 0x00000000#32 reduces_S1024x1024_S1024 (.inl rfl) rfl
  have v419 : FVec F S1024x1 .f32 := shapeCast S1024x1 v418 shapeCasts_S1024_S1024x1
  have cst_269 : F .f32 := Scalar.ofBits .f32 0x44800000#32
  have v420 : FVec F S1024x1 .f32 := broadcast S1024x1 cst_269
  have v421 : FVec F S1024x1 .f32 := divf v419 v420
  have v422 : FVec F S1024x1024 .f32 := broadcastTo S1024x1024 v421 broadcasts_S1024x1_S1024x1024
  have v423 : FVec F S1024x1024 .f32 := subf v413 v422
  have v424 : FVec F S1024x1024 .f32 := mulf v423 v423
  have cst_270 : FVec F S1024 .f32 := constant S1024 .f32 0x00000000#32
  have v425 : FVec F S1024 .f32 := multiReduction .add [1] S1024 v424 0x00000000#32 reduces_S1024x1024_S1024 (.inl rfl) rfl
  have v426 : FVec F S1024x1 .f32 := shapeCast S1024x1 v425 shapeCasts_S1024_S1024x1
  have cst_271 : F .f32 := Scalar.ofBits .f32 0x44800000#32
  have v427 : FVec F S1024x1 .f32 := broadcast S1024x1 cst_271
  have v428 : FVec F S1024x1 .f32 := divf v426 v427
  have cst_272 : F .f32 := Scalar.ofBits .f32 0x3727C5AC#32
  have v429 : FVec F S1024x1 .f32 := broadcast S1024x1 cst_272
  have v430 : FVec F S1024x1 .f32 := addf v428 v429
  have v431 : FVec F S1024x1 .f32 := rsqrt v430
  have v432 : FVec F S1024x1024 .f32 := broadcastTo S1024x1024 v431 broadcasts_S1024x1_S1024x1024
  have v433 : FVec F S1024x1024 .f32 := mulf v423 v432
  have v434 : FVec F S1024x1024 .f32 := broadcastTo S1024x1024 v415 broadcasts_S1x1024_S1024x1024
  have v435 : FVec F S1024x1024 .f32 := mulf v433 v434
  have v436 : FVec F S1024x1024 .f32 := broadcastTo S1024x1024 v417 broadcasts_S1x1024_S1024x1024
  have v437 : FVec F S1024x1024 .f32 := addf v435 v436
  let c0_273 : Index := 0#32
  let c0_274 : Index := 0#32
  let c0_275 : Index := 0#32
  let v438 : Vec F S1x1024x1024 .f32 ← Prog.lift (.load arg10 (Rect.unit (s := S1x1024x1024) ![0, 0, 0] S1x1024x1024.size inb_S1x1024x1024_S1x1024x1024_0_0_0).toLoadRect (View.loadsAt_vmem h_S1x1024x1024))
  have v439 : FVec F S1024x1024 .f32 := shapeCast S1024x1024 v438 shapeCasts_S1x1024x1024_S1024x1024
  have v440 : FVec F S1x1024x1024 .f32 := shapeCast S1x1024x1024 v437 shapeCasts_S1024x1024_S1x1024x1024
  Prog.lift (.store arg10 (Rect.unit (s := S1x1024x1024) ![0, 0, 0] S1x1024x1024.size inb_S1x1024x1024_S1x1024x1024_0_0_0) v440 Finset.univ (View.stores_vmem_bits_univ h_S1x1024x1024 rfl) (.inl rfl))
  pure ⟨⟩

/-- The printed text from the end of the loop on is the composition. -/
theorem end_eq (i : grid0.Coords) (arg2 : Memref sig .tc .vmem S1x1024x1024 .f32) (harg2 : arg2.IsWhole) (arg3 : Memref sig .tc .vmem S22x1024x256 .bf16) (harg3 : arg3.IsWhole) (arg4 : Memref sig .tc .vmem S22x3x256 .f32) (harg4 : arg4.IsWhole) (arg5 : Memref sig .tc .vmem S22x1x256 .f32) (harg5 : arg5.IsWhole) (arg6 : Memref sig .tc .vmem S11x256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S8x128 .i32) (harg9 : arg9.IsWhole) (arg10 : Memref sig .tc .vmem S1x1024x1024 .f32) (harg10 : arg10.IsWhole) (arg11 : Memref sig .tc .vmem S1024x1024 .f32) (harg11 : arg11.IsWhole) (arg12 : Memref sig .tc .vmem S22x8x256 .f32) (harg12 : arg12.IsWhole) (arg13 : Memref sig .tc .vmem S1024x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x256 .f32) (harg16 : arg16.IsWhole) (arg17 : Memref sig .tc .vmem S2x256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x256 .bf16) (harg20 : arg20.IsWhole) (arg21 : Memref sig .tc .vmem S256x256 .bf16) (harg21 : arg21.IsWhole) :
    (sufP (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 >>= aftP (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
      = endP (F := F) ⟨arg2, arg3, arg4, arg5, arg6, arg7, arg8, arg10, arg11, arg12, arg13, arg14, arg15, arg16, arg17, arg18, arg19, arg20, arg21, harg13, harg18, harg19, harg20, harg21⟩ := by
  sl_kernel_rfl

/-- The printed body at the first tile of a sequence, the loop and what follows kept as printed. -/
theorem body_first_printed (i : grid0.Coords) (arg2 : Memref sig .tc .vmem S1x1024x1024 .f32) (harg2 : arg2.IsWhole) (arg3 : Memref sig .tc .vmem S22x1024x256 .bf16) (harg3 : arg3.IsWhole) (arg4 : Memref sig .tc .vmem S22x3x256 .f32) (harg4 : arg4.IsWhole) (arg5 : Memref sig .tc .vmem S22x1x256 .f32) (harg5 : arg5.IsWhole) (arg6 : Memref sig .tc .vmem S11x256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S8x128 .i32) (harg9 : arg9.IsWhole) (arg10 : Memref sig .tc .vmem S1x1024x1024 .f32) (harg10 : arg10.IsWhole) (arg11 : Memref sig .tc .vmem S1024x1024 .f32) (harg11 : arg11.IsWhole) (arg12 : Memref sig .tc .vmem S22x8x256 .f32) (harg12 : arg12.IsWhole) (arg13 : Memref sig .tc .vmem S1024x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x256 .f32) (harg16 : arg16.IsWhole) (arg17 : Memref sig .tc .vmem S2x256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x256 .bf16) (harg20 : arg20.IsWhole) (arg21 : Memref sig .tc .vmem S256x256 .bf16) (harg21 : arg21.IsWhole) :
    (cc0_conv_ffn (F := F) (Function.update i 1 (⟨0, by decide⟩ : Fin 2)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 : Body F PUnit)
      = resetP (F := F) ⟨arg2, arg3, arg4, arg5, arg6, arg7, arg8, arg10, arg11, arg12, arg13, arg14, arg15, arg16, arg17, arg18, arg19, arg20, arg21, harg13, harg18, harg19, harg20, harg21⟩ (headP (F := F) ⟨arg2, arg3, arg4, arg5, arg6, arg7, arg8, arg10, arg11, arg12, arg13, arg14, arg15, arg16, arg17, arg18, arg19, arg20, arg21, harg13, harg18, harg19, harg20, harg21⟩ ((loopP (F := F) ⟨arg2, arg3, arg4, arg5, arg6, arg7, arg8, arg10, arg11, arg12, arg13, arg14, arg15, arg16, arg17, arg18, arg19, arg20, arg21, harg13, harg18, harg19, harg20, harg21⟩ >>= fun _ => sufP (F := F) (Function.update i 1 (⟨0, by decide⟩ : Fin 2)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) >>= aftP (F := F) (Function.update i 1 (⟨0, by decide⟩ : Fin 2)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)) := by
  sl_kernel_rfl

/-- The printed body at the first tile of a sequence. -/
theorem body_first (i : grid0.Coords) (arg2 : Memref sig .tc .vmem S1x1024x1024 .f32) (harg2 : arg2.IsWhole) (arg3 : Memref sig .tc .vmem S22x1024x256 .bf16) (harg3 : arg3.IsWhole) (arg4 : Memref sig .tc .vmem S22x3x256 .f32) (harg4 : arg4.IsWhole) (arg5 : Memref sig .tc .vmem S22x1x256 .f32) (harg5 : arg5.IsWhole) (arg6 : Memref sig .tc .vmem S11x256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S8x128 .i32) (harg9 : arg9.IsWhole) (arg10 : Memref sig .tc .vmem S1x1024x1024 .f32) (harg10 : arg10.IsWhole) (arg11 : Memref sig .tc .vmem S1024x1024 .f32) (harg11 : arg11.IsWhole) (arg12 : Memref sig .tc .vmem S22x8x256 .f32) (harg12 : arg12.IsWhole) (arg13 : Memref sig .tc .vmem S1024x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x256 .f32) (harg16 : arg16.IsWhole) (arg17 : Memref sig .tc .vmem S2x256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x256 .bf16) (harg20 : arg20.IsWhole) (arg21 : Memref sig .tc .vmem S256x256 .bf16) (harg21 : arg21.IsWhole) :
    (cc0_conv_ffn (F := F) (Function.update i 1 (⟨0, by decide⟩ : Fin 2)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 : Body F PUnit)
      = resetP (F := F) ⟨arg2, arg3, arg4, arg5, arg6, arg7, arg8, arg10, arg11, arg12, arg13, arg14, arg15, arg16, arg17, arg18, arg19, arg20, arg21, harg13, harg18, harg19, harg20, harg21⟩ (restP (F := F) ⟨arg2, arg3, arg4, arg5, arg6, arg7, arg8, arg10, arg11, arg12, arg13, arg14, arg15, arg16, arg17, arg18, arg19, arg20, arg21, harg13, harg18, harg19, harg20, harg21⟩) := by
  rw [body_first_printed, bind_assoc, end_eq]
  rfl

/-- The printed body at the second tile of a sequence, the loop and what follows kept as printed. -/
theorem body_next_printed (i : grid0.Coords) (arg2 : Memref sig .tc .vmem S1x1024x1024 .f32) (harg2 : arg2.IsWhole) (arg3 : Memref sig .tc .vmem S22x1024x256 .bf16) (harg3 : arg3.IsWhole) (arg4 : Memref sig .tc .vmem S22x3x256 .f32) (harg4 : arg4.IsWhole) (arg5 : Memref sig .tc .vmem S22x1x256 .f32) (harg5 : arg5.IsWhole) (arg6 : Memref sig .tc .vmem S11x256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S8x128 .i32) (harg9 : arg9.IsWhole) (arg10 : Memref sig .tc .vmem S1x1024x1024 .f32) (harg10 : arg10.IsWhole) (arg11 : Memref sig .tc .vmem S1024x1024 .f32) (harg11 : arg11.IsWhole) (arg12 : Memref sig .tc .vmem S22x8x256 .f32) (harg12 : arg12.IsWhole) (arg13 : Memref sig .tc .vmem S1024x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x256 .f32) (harg16 : arg16.IsWhole) (arg17 : Memref sig .tc .vmem S2x256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x256 .bf16) (harg20 : arg20.IsWhole) (arg21 : Memref sig .tc .vmem S256x256 .bf16) (harg21 : arg21.IsWhole) :
    (cc0_conv_ffn (F := F) (Function.update i 1 (⟨1, by decide⟩ : Fin 2)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 : Body F PUnit)
      = headP (F := F) ⟨arg2, arg3, arg4, arg5, arg6, arg7, arg8, arg10, arg11, arg12, arg13, arg14, arg15, arg16, arg17, arg18, arg19, arg20, arg21, harg13, harg18, harg19, harg20, harg21⟩ ((loopP (F := F) ⟨arg2, arg3, arg4, arg5, arg6, arg7, arg8, arg10, arg11, arg12, arg13, arg14, arg15, arg16, arg17, arg18, arg19, arg20, arg21, harg13, harg18, harg19, harg20, harg21⟩ >>= fun _ => sufP (F := F) (Function.update i 1 (⟨1, by decide⟩ : Fin 2)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) >>= aftP (F := F) (Function.update i 1 (⟨1, by decide⟩ : Fin 2)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  sl_kernel_rfl

/-- The printed body at the second tile of a sequence. -/
theorem body_next (i : grid0.Coords) (arg2 : Memref sig .tc .vmem S1x1024x1024 .f32) (harg2 : arg2.IsWhole) (arg3 : Memref sig .tc .vmem S22x1024x256 .bf16) (harg3 : arg3.IsWhole) (arg4 : Memref sig .tc .vmem S22x3x256 .f32) (harg4 : arg4.IsWhole) (arg5 : Memref sig .tc .vmem S22x1x256 .f32) (harg5 : arg5.IsWhole) (arg6 : Memref sig .tc .vmem S11x256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S8x128 .i32) (harg9 : arg9.IsWhole) (arg10 : Memref sig .tc .vmem S1x1024x1024 .f32) (harg10 : arg10.IsWhole) (arg11 : Memref sig .tc .vmem S1024x1024 .f32) (harg11 : arg11.IsWhole) (arg12 : Memref sig .tc .vmem S22x8x256 .f32) (harg12 : arg12.IsWhole) (arg13 : Memref sig .tc .vmem S1024x1024 .bf16) (harg13 : arg13.IsWhole) (arg14 : Memref sig .tc .vmem S2x256x256 .f32) (harg14 : arg14.IsWhole) (arg15 : Memref sig .tc .vmem S2x256x256 .f32) (harg15 : arg15.IsWhole) (arg16 : Memref sig .tc .vmem S2x256x256 .f32) (harg16 : arg16.IsWhole) (arg17 : Memref sig .tc .vmem S2x256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x256 .bf16) (harg20 : arg20.IsWhole) (arg21 : Memref sig .tc .vmem S256x256 .bf16) (harg21 : arg21.IsWhole) :
    (cc0_conv_ffn (F := F) (Function.update i 1 (⟨1, by decide⟩ : Fin 2)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 : Body F PUnit)
      = restP (F := F) ⟨arg2, arg3, arg4, arg5, arg6, arg7, arg8, arg10, arg11, arg12, arg13, arg14, arg15, arg16, arg17, arg18, arg19, arg20, arg21, harg13, harg18, harg19, harg20, harg21⟩ := by
  rw [body_next_printed, bind_assoc, end_eq]
  rfl

end Cert.Ffn

end
-- ==== Proof.FfnTriples.lean ====
/-
  What each piece of the feed-forward kernel does to the references it touches.
-/
module

public import proofs.«01_k».proof.Proof.FfnPieces

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Facts₀ Cert.Kernel2Ideal.Facts
open Idealize.ShloMosaic.VecWindow (window put)

variable {F : FTy → Type} [FloatOps F]

local notation "𝕄" => MT nD τ sig Unit (Elt F) ℕ (UR sig nD τ) ℕ

/-- A slab copied. -/
theorem castP_wp (c : Dev nD) (x : Memref sig .tc .vmem S1x1024x1024 .f32) (xb : Memref sig .tc .vmem S1024x1024 .bf16)
    (o1 : Fin 3 → ℕ) (h1 : ∀ a, o1 a + S1x256x1024.size a ≤ S1x1024x1024.size a)
    (o2 : Fin 2 → ℕ) (h2 : ∀ a, o2 a + S256x1024.size a ≤ S1024x1024.size a)
    (hx : (xb.access (Rect.unit (s := S1024x1024) o2 S256x1024.size h2)).Stores Finset.univ)
    (X : Vec F S1x1024x1024 .f32) (Y : Vec F S1024x1024 .bf16) (Q : PUnit → sProp 𝕄) :
    iprop(owns (c : Thread nD τ) x fullShare X ∗ owns (c : Thread nD τ) xb fullShare Y
        ∗ (owns (c : Thread nD τ) x fullShare X ∗ owns (c : Thread nD τ) xb fullShare (put Y o2 S256x1024.size (castV (window X o1 S1x256x1024.size h1))) -∗ Q ⟨⟩))
      ⊢ wp frame (wpE (defs₀ (F := F)) Variants.none (c : Thread nD τ) none) Set.univ (castP x xb o1 h1 o2 h2 hx) Q := by
  unfold castP
  iintro ⟨Hx, Hb, HQ⟩
  iapply (load_owned c x h1 _ X _ _) $$ Hx; iintro Hx
  iapply (load_owned c xb h2 _ Y _ _) $$ Hb; iintro Hb
  iapply (store_owned c xb h2 _ hx _ Y _ _) $$ Hb; iintro Hb
  rw [wp_pure]; imodintro
  iapply HQ
  isplitl [Hx]; · iexact Hx
  iexact Hb

/-- A slab projected up. -/
theorem upP_wp (c : Dev nD) (xb : Memref sig .tc .vmem S1024x1024 .bf16) (wu : Memref sig .tc .vmem S22x1024x256 .bf16) (a : Memref sig .tc .vmem S2x256x256 .f32)
    (ox : Fin 2 → ℕ) (hx : ∀ a, ox a + S256x1024.size a ≤ S1024x1024.size a)
    (o0 : Fin 3 → ℕ) (h0 : ∀ a, o0 a + S1x1024x256.size a ≤ S22x1024x256.size a)
    (o1 : Fin 3 → ℕ) (h1 : ∀ a, o1 a + S1x1024x256.size a ≤ S22x1024x256.size a)
    (X : Vec F S1024x1024 .bf16) (W : Vec F S22x1024x256 .bf16) (A : Vec F S2x256x256 .f32) (Q : PUnit → sProp 𝕄) :
    iprop(owns (c : Thread nD τ) xb fullShare X ∗ owns (c : Thread nD τ) wu fullShare W ∗ owns (c : Thread nD τ) a fullShare A
        ∗ (owns (c : Thread nD τ) xb fullShare X ∗ owns (c : Thread nD τ) wu fullShare W
          ∗ owns (c : Thread nD τ) a fullShare (put (put A ![0, 0, 0] S1x256x256.size (upV (window X ox S256x1024.size hx) (window W o0 S1x1024x256.size h0)))
              ![1, 0, 0] S1x256x256.size (upV (window X ox S256x1024.size hx) (window W o1 S1x1024x256.size h1))) -∗ Q ⟨⟩))
      ⊢ wp frame (wpE (defs₀ (F := F)) Variants.none (c : Thread nD τ) none) Set.univ (upP xb wu a ox hx o0 h0 o1 h1) Q := by
  unfold upP
  iintro ⟨Hx, Hw, Ha, HQ⟩
  iapply (load_owned c xb hx _ X _ _) $$ Hx; iintro Hx
  iapply (load_owned c wu h0 _ W _ _) $$ Hw; iintro Hw
  iapply (load_owned c a inb_S2x256x256_S1x256x256_0_0_0 _ A _ _) $$ Ha; iintro Ha
  iapply (store_owned c a inb_S2x256x256_S1x256x256_0_0_0 _ _ _ A _ _) $$ Ha; iintro Ha
  iapply (load_owned c wu h1 _ W _ _) $$ Hw; iintro Hw
  iapply (load_owned c a inb_S2x256x256_S1x256x256_1_0_0 _ _ _ _) $$ Ha; iintro Ha
  iapply (store_owned c a inb_S2x256x256_S1x256x256_1_0_0 _ _ _ _ _ _) $$ Ha; iintro Ha
  rw [wp_pure]; imodintro
  iapply HQ
  isplitl [Hx]; · iexact Hx
  isplitl [Hw]; · iexact Hw
  iexact Ha

/-- Half a chunk pair convolved. -/
theorem convP_wp (c : Dev nD) (a : Memref sig .tc .vmem S2x256x256 .f32) (tl : Memref sig .tc .vmem S22x8x256 .f32) (cw : Memref sig .tc .vmem S22x3x256 .f32)
    (cb : Memref sig .tc .vmem S22x1x256 .f32)
    (oa : Fin 3 → ℕ) (ha : ∀ a, oa a + S1x256x256.size a ≤ S2x256x256.size a)
    (ot : Fin 3 → ℕ) (ht : ∀ a, ot a + S1x8x256.size a ≤ S22x8x256.size a)
    (ow : Fin 3 → ℕ) (hw : ∀ a, ow a + S1x3x256.size a ≤ S22x3x256.size a)
    (ob : Fin 3 → ℕ) (hb : ∀ a, ob a + S1x1x256.size a ≤ S22x1x256.size a)
    (A : Vec F S2x256x256 .f32) (T : Vec F S22x8x256 .f32) (W : Vec F S22x3x256 .f32) (B : Vec F S22x1x256 .f32) (Q : FVec F S256x256 .f32 → sProp 𝕄) :
    iprop(owns (c : Thread nD τ) a fullShare A ∗ owns (c : Thread nD τ) tl fullShare T ∗ owns (c : Thread nD τ) cw fullShare W ∗ owns (c : Thread nD τ) cb fullShare B
        ∗ (owns (c : Thread nD τ) a fullShare A ∗ owns (c : Thread nD τ) tl fullShare (put T ot S1x8x256.size (tailV (window A oa S1x256x256.size ha)))
            ∗ owns (c : Thread nD τ) cw fullShare W ∗ owns (c : Thread nD τ) cb fullShare B
          -∗ Q (convV (window A oa S1x256x256.size ha) (window T ot S1x8x256.size ht) (window W ow S1x3x256.size hw) (window B ob S1x1x256.size hb))))
      ⊢ wp frame (wpE (defs₀ (F := F)) Variants.none (c : Thread nD τ) none) Set.univ (convP a tl cw cb oa ha ot ht ow hw ob hb) Q := by
  unfold convP
  iintro ⟨Ha, Ht, Hw, Hb, HQ⟩
  iapply (load_owned c a ha _ A _ _) $$ Ha; iintro Ha
  iapply (load_owned c tl ht _ T _ _) $$ Ht; iintro Ht
  iapply (load_owned c tl ht _ T _ _) $$ Ht; iintro Ht
  iapply (store_owned c tl ht _ _ _ T _ _) $$ Ht; iintro Ht
  iapply (load_owned c cw hw _ W _ _) $$ Hw; iintro Hw
  iapply (load_owned c cb hb _ B _ _) $$ Hb; iintro Hb
  rw [wp_pure]; imodintro
  iapply HQ
  isplitl [Ha]; · iexact Ha
  isplitl [Ht]; · iexact Ht
  isplitl [Hw]; · iexact Hw
  iexact Hb

/-- Putting a value of the whole shape leaves the value. -/
theorem put_whole {s : Shape} {α : Type} (X : s.Idx → α) (off : Fin s.rank → ℕ) (h0 : ∀ a, off a = 0) (w : s.Idx → α) :
    put X off s.size w = w := by
  funext y
  unfold put
  rw [dif_pos (fun a => by rw [h0 a]; exact ⟨Nat.zero_le _, by have := (y a).isLt; omega⟩)]
  exact congrArg w (funext fun a => Fin.ext (by rw [Rect.unitLocal_val, h0 a]; rfl))

/-- The window of the whole shape is the value. -/
theorem window_whole {s : Shape} {α : Type} (X : s.Idx → α) (off : Fin s.rank → ℕ) (h0 : ∀ a, off a = 0) (inb : ∀ a, off a + s.size a ≤ s.size a) :
    window X off s.size inb = X := by
  funext y
  exact congrArg X (funext fun a => Fin.ext (by
    show off a + 1 * (y a).val = (y a).val
    rw [h0 a]; omega))

/-- A gated chunk stored. -/
theorem gateP_wp (c : Dev nD) (g : Memref sig .tc .vmem S256x256 .bf16) (hg : g.IsWhole) (p q : FVec F S256x256 .f32)
    (G : Vec F S256x256 .bf16) (Q : PUnit → sProp 𝕄) :
    iprop(owns (c : Thread nD τ) g fullShare G ∗ (owns (c : Thread nD τ) g fullShare (gateV p q) -∗ Q ⟨⟩))
      ⊢ wp frame (wpE (defs₀ (F := F)) Variants.none (c : Thread nD τ) none) Set.univ (gateP g hg p q) Q := by
  unfold gateP
  iintro ⟨Hg, HQ⟩
  iapply (load_owned c g inb_S256x256_S256x256_0_0 _ G _ _) $$ Hg; iintro Hg
  iapply (store_owned c g inb_S256x256_S256x256_0_0 _ _ _ G _ _) $$ Hg; iintro Hg
  rw [wp_pure, put_whole (s := S256x256) G ![0, 0] (by decide) (gateV p q)]; imodintro
  iapply HQ; iexact Hg

/-- A gated chunk projected down and added. -/
theorem downP_wp (c : Dev nD) (acc : Memref sig .tc .vmem S1024x1024 .f32) (g : Memref sig .tc .vmem S256x256 .bf16) (wd : Memref sig .tc .vmem S11x256x1024 .bf16)
    (o : Fin 2 → ℕ) (h : ∀ a, o a + S256x1024.size a ≤ S1024x1024.size a)
    (ow : Fin 3 → ℕ) (hw : ∀ a, ow a + S1x256x1024.size a ≤ S11x256x1024.size a)
    (S : Vec F S1024x1024 .f32) (G : Vec F S256x256 .bf16) (W : Vec F S11x256x1024 .bf16) (Q : PUnit → sProp 𝕄) :
    iprop(owns (c : Thread nD τ) acc fullShare S ∗ owns (c : Thread nD τ) g fullShare G ∗ owns (c : Thread nD τ) wd fullShare W
        ∗ (owns (c : Thread nD τ) acc fullShare (put S o S256x1024.size (downV (window S o S256x1024.size h) G (window W ow S1x256x1024.size hw)))
            ∗ owns (c : Thread nD τ) g fullShare G ∗ owns (c : Thread nD τ) wd fullShare W -∗ Q ⟨⟩))
      ⊢ wp frame (wpE (defs₀ (F := F)) Variants.none (c : Thread nD τ) none) Set.univ (downP acc g wd o h ow hw) Q := by
  unfold downP
  iintro ⟨Hs, Hg, Hw, HQ⟩
  iapply (load_owned c acc h _ S _ _) $$ Hs; iintro Hs
  iapply (load_owned c g inb_S256x256_S256x256_0_0 _ G _ _) $$ Hg; iintro Hg
  iapply (load_owned c wd hw _ W _ _) $$ Hw; iintro Hw
  iapply (load_owned c acc h _ S _ _) $$ Hs; iintro Hs
  iapply (store_owned c acc h _ _ _ S _ _) $$ Hs; iintro Hs
  rw [wp_pure, window_whole (s := S256x256) G ![0, 0] (by decide) inb_S256x256_S256x256_0_0]; imodintro
  iapply HQ
  isplitl [Hs]; · iexact Hs
  isplitl [Hg]; · iexact Hg
  iexact Hw

end Cert.Ffn

end
-- ==== Proof.FfnStates.lean ====
/-
  The state of the feed-forward body between its pieces, as values: what each item of (chunk, slab) is after projection,
  what is kept of it for the next slab, what its gate is, and the accumulator after it; and each piece's step from one
  state to the next.
-/
module

public import proofs.«01_k».proof.Proof.FfnProgram
public import proofs.«01_k».proof.Proof.FfnTriples

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Facts₀ Cert.Kernel2Ideal.Facts
open Idealize.ShloMosaic.VecWindow (window put)

variable {F : FTy → Type} [FloatOps F]

local notation "𝕄" => MT nD τ sig Unit (Elt F) ℕ (UR sig nD τ) ℕ

/-! ## The values -/

/-- What the body reads: the block, the weights, and the rows kept from the tile before. -/
structure Vals (F : FTy → Type) [FloatOps F] where
  x : Vec F S1x1024x1024 .f32
  wu : Vec F S22x1024x256 .bf16
  cw : Vec F S22x3x256 .f32
  cb : Vec F S22x1x256 .f32
  wd : Vec F S11x256x1024 .bf16
  t0 : Vec F S22x8x256 .f32

/-- Two chunks side by side. -/
def aPair (u v : Vec F S1x256x256 .f32) : Vec F S2x256x256 .f32 :=
  put (put (fun _ => FloatOps.ofBits .f32 0x00000000#32) ![0, 0, 0] S1x256x256.size u) ![1, 0, 0] S1x256x256.size v

/-- Slab `n % 4` of the block in half width. -/
def xslab (V : Vals F) (n : ℕ) : Vec F S256x1024 .bf16 := castV (window V.x ![0, n % 4 * 256, 0] S1x256x1024.size (bdSlab (n % 4) (by omega)))

/-- Item `n`'s gate chunk and value chunk, projected up. -/
def upG (V : Vals F) (n : ℕ) : Vec F S1x256x256 .f32 := upV (xslab V n) (window V.wu ![n / 4 % 11, 0, 0] S1x1024x256.size (bd3 (n / 4 % 11) (by omega)))
def upU (V : Vals F) (n : ℕ) : Vec F S1x256x256 .f32 := upV (xslab V n) (window V.wu ![11 + n / 4 % 11, 0, 0] S1x1024x256.size (bd3 (11 + n / 4 % 11) (by omega)))

/-- Item `n` projected up. -/
def aItem (V : Vals F) (n : ℕ) : Vec F S2x256x256 .f32 := aPair (upG V n) (upU V n)

/-- The kept rows before item `n`. -/
def tailAt (V : Vals F) : ℕ → Vec F S22x8x256 .f32
  | 0 => V.t0
  | n + 1 => put (put (tailAt V n) ![n / 4 % 11, 0, 0] S1x8x256.size (tailV (upG V n))) ![11 + n / 4 % 11, 0, 0] S1x8x256.size (tailV (upU V n))

/-- Item `n`'s gate chunk convolved. -/
def convG (V : Vals F) (n : ℕ) : Vec F S256x256 .f32 :=
  convV (upG V n) (window (tailAt V n) ![n / 4 % 11, 0, 0] S1x8x256.size (bd3 (n / 4 % 11) (by omega)))
    (window V.cw ![n / 4 % 11, 0, 0] S1x3x256.size (bd3 (n / 4 % 11) (by omega))) (window V.cb ![n / 4 % 11, 0, 0] S1x1x256.size (bd3 (n / 4 % 11) (by omega)))

/-- Item `n`'s value chunk convolved. -/
def convU (V : Vals F) (n : ℕ) : Vec F S256x256 .f32 :=
  convV (upU V n) (window (tailAt V n) ![11 + n / 4 % 11, 0, 0] S1x8x256.size (bd3 (11 + n / 4 % 11) (by omega)))
    (window V.cw ![11 + n / 4 % 11, 0, 0] S1x3x256.size (bd3 (11 + n / 4 % 11) (by omega))) (window V.cb ![11 + n / 4 % 11, 0, 0] S1x1x256.size (bd3 (11 + n / 4 % 11) (by omega)))

/-- Item `n` gated. -/
def gItem (V : Vals F) (n : ℕ) : Vec F S256x256 .bf16 := gateV (convG V n) (convU V n)

/-- The accumulator before item `n`. -/
def accAt (V : Vals F) : ℕ → Vec F S1024x1024 .f32
  | 0 => zeroV
  | n + 1 => put (accAt V n) ![n % 4 * 256, 0] S256x1024.size (downV (window (accAt V n) ![n % 4 * 256, 0] S256x1024.size (bdRow (n % 4) (by omega)))
      (gItem V n) (window V.wd ![n / 4 % 11, 0, 0] S1x256x1024.size (bd3 (n / 4 % 11) (by omega))))

/-- The half-width scratch holds slab `n % 4`. -/
def Holds (V : Vals F) (XB : Vec F S1024x1024 .bf16) (n : ℕ) : Prop := window XB ![n % 4 * 256, 0] S256x1024.size (bdRow (n % 4) (by omega)) = xslab V n

/-! ## The two halves -/

theorem put_pair (A : Vec F S2x256x256 .f32) (u v : Vec F S1x256x256 .f32) :
    put (put A ![0, 0, 0] S1x256x256.size u) ![1, 0, 0] S1x256x256.size v = aPair u v := by
  unfold aPair
  funext y
  unfold put
  by_cases h1 : ∀ a, (![1, 0, 0] : Fin 3 → ℕ) a ≤ (y a).val ∧ (y a).val < (![1, 0, 0] : Fin 3 → ℕ) a + S1x256x256.size a
  · rw [dif_pos h1, dif_pos h1]
  · rw [dif_neg h1, dif_neg h1]
    by_cases h0 : ∀ a, (![0, 0, 0] : Fin 3 → ℕ) a ≤ (y a).val ∧ (y a).val < (![0, 0, 0] : Fin 3 → ℕ) a + S1x256x256.size a
    · rw [dif_pos h0, dif_pos h0]
    · exfalso
      have b0 : (y 0).val < 2 := (y 0).isLt
      have b1 : (y 1).val < 256 := (y 1).isLt
      have b2 : (y 2).val < 256 := (y 2).isLt
      rcases Nat.lt_or_ge (y 0).val 1 with h | h
      · refine h0 ?_
        intro a
        fin_cases a
        · exact ⟨Nat.zero_le _, h⟩
        · exact ⟨Nat.zero_le _, by show (y 1).val < 0 + 256; omega⟩
        · exact ⟨Nat.zero_le _, by show (y 2).val < 0 + 256; omega⟩
      · refine h1 ?_
        intro a
        fin_cases a
        · exact ⟨h, by show (y 0).val < 1 + 1; omega⟩
        · exact ⟨Nat.zero_le _, by show (y 1).val < 0 + 256; omega⟩
        · exact ⟨Nat.zero_le _, by show (y 2).val < 0 + 256; omega⟩

theorem window_pair0 (u v : Vec F S1x256x256 .f32) : window (aPair u v) ![0, 0, 0] S1x256x256.size inb_S2x256x256_S1x256x256_0_0_0 = u := by
  unfold aPair
  rw [VecWindow.window_put_of_disjoint (s := S2x256x256) _ ![1, 0, 0] S1x256x256.size ![0, 0, 0] S1x256x256.size _ _ 0 (.inl (by decide)), VecWindow.window_put_same]

theorem window_pair1 (u v : Vec F S1x256x256 .f32) : window (aPair u v) ![1, 0, 0] S1x256x256.size inb_S2x256x256_S1x256x256_1_0_0 = v := by
  unfold aPair
  rw [VecWindow.window_put_same]

/-! ## One piece at a literal item -/

theorem upL_wp (c : Dev nD) (R : Refs) (a : Memref sig .tc .vmem S2x256x256 .f32) (n : ℕ) (V : Vals F) (XB : Vec F S1024x1024 .bf16) (h : Holds V XB n)
    (A : Vec F S2x256x256 .f32) (Q : PUnit → sProp 𝕄) :
    iprop(owns (c : Thread nD τ) R.xb fullShare XB ∗ owns (c : Thread nD τ) R.wu fullShare V.wu ∗ owns (c : Thread nD τ) a fullShare A
        ∗ (owns (c : Thread nD τ) R.xb fullShare XB ∗ owns (c : Thread nD τ) R.wu fullShare V.wu ∗ owns (c : Thread nD τ) a fullShare (aItem V n) -∗ Q ⟨⟩))
      ⊢ wp frame (wpE (defs₀ (F := F)) Variants.none (c : Thread nD τ) none) Set.univ (upL R a n) Q := by
  have e := upP_wp c R.xb R.wu a ![n % 4 * 256, 0] (bdRow (n % 4) (by omega)) ![n / 4 % 11, 0, 0] (bd3 (n / 4 % 11) (by omega)) ![11 + n / 4 % 11, 0, 0]
    (bd3 (11 + n / 4 % 11) (by omega)) XB V.wu A Q
  rw [put_pair, show window XB ![n % 4 * 256, 0] S256x1024.size (bdRow (n % 4) (by omega)) = xslab V n from h] at e
  exact e

theorem pairL_wp (c : Dev nD) (R : Refs) (a : Memref sig .tc .vmem S2x256x256 .f32) (g : Memref sig .tc .vmem S256x256 .bf16) (hg : g.IsWhole) (n : ℕ) (V : Vals F)
    (G : Vec F S256x256 .bf16) (Q : PUnit → sProp 𝕄) :
    iprop(owns (c : Thread nD τ) R.cw fullShare V.cw ∗ owns (c : Thread nD τ) R.cb fullShare V.cb ∗ owns (c : Thread nD τ) a fullShare (aItem V n)
        ∗ owns (c : Thread nD τ) R.tl fullShare (tailAt V n) ∗ owns (c : Thread nD τ) g fullShare G
        ∗ (owns (c : Thread nD τ) R.cw fullShare V.cw ∗ owns (c : Thread nD τ) R.cb fullShare V.cb ∗ owns (c : Thread nD τ) a fullShare (aItem V n)
          ∗ owns (c : Thread nD τ) R.tl fullShare (tailAt V (n + 1)) ∗ owns (c : Thread nD τ) g fullShare (gItem V n) -∗ Q ⟨⟩))
      ⊢ wp frame (wpE (defs₀ (F := F)) Variants.none (c : Thread nD τ) none) Set.univ (pairL R a g hg n) Q := by
  unfold pairL pairP
  rw [wp_bind]
  iintro ⟨Hw, Hb, Ha, Ht, Hg, HQ⟩
  iapply (convP_wp c a R.tl R.cw R.cb ![0, 0, 0] inb_S2x256x256_S1x256x256_0_0_0 ![n / 4 % 11, 0, 0] (bd3 (n / 4 % 11) (by omega)) ![n / 4 % 11, 0, 0] (bd3 (n / 4 % 11) (by omega))
    ![n / 4 % 11, 0, 0] (bd3 (n / 4 % 11) (by omega)) (aItem V n) (tailAt V n) V.cw V.cb _)
  isplitl [Ha]; · iexact Ha
  isplitl [Ht]; · iexact Ht
  isplitl [Hw]; · iexact Hw
  isplitl [Hb]; · iexact Hb
  iintro ⟨Ha, Ht, Hw, Hb⟩
  rw [wp_bind]
  iapply (convP_wp c a R.tl R.cw R.cb ![1, 0, 0] inb_S2x256x256_S1x256x256_1_0_0 ![11 + n / 4 % 11, 0, 0] (bd3 (11 + n / 4 % 11) (by omega)) ![11 + n / 4 % 11, 0, 0]
    (bd3 (11 + n / 4 % 11) (by omega)) ![11 + n / 4 % 11, 0, 0] (bd3 (11 + n / 4 % 11) (by omega)) (aItem V n) _ V.cw V.cb _)
  isplitl [Ha]; · iexact Ha
  isplitl [Ht]; · iexact Ht
  isplitl [Hw]; · iexact Hw
  isplitl [Hb]; · iexact Hb
  iintro ⟨Ha, Ht, Hw, Hb⟩
  iapply (gateP_wp c g hg _ _ G _)
  isplitl [Hg]; · iexact Hg
  iintro Hg
  have e0 : window (aItem V n) ![0, 0, 0] S1x256x256.size inb_S2x256x256_S1x256x256_0_0_0 = upG V n := window_pair0 _ _
  have e1 : window (aItem V n) ![1, 0, 0] S1x256x256.size inb_S2x256x256_S1x256x256_1_0_0 = upU V n := window_pair1 _ _
  rw [e0, e1, VecWindow.window_put_of_disjoint (tailAt V n) ![n / 4 % 11, 0, 0] S1x8x256.size ![11 + n / 4 % 11, 0, 0] S1x8x256.size (bd3 (11 + n / 4 % 11) (by omega)) _ 0
    (.inr (by show n / 4 % 11 + 1 ≤ 11 + n / 4 % 11; omega))]
  iapply HQ
  isplitl [Hw]; · iexact Hw
  isplitl [Hb]; · iexact Hb
  isplitl [Ha]; · iexact Ha
  isplitl [Ht]; · iexact Ht
  iexact Hg

theorem downL_wp (c : Dev nD) (R : Refs) (g : Memref sig .tc .vmem S256x256 .bf16) (n : ℕ) (V : Vals F) (Q : PUnit → sProp 𝕄) :
    iprop(owns (c : Thread nD τ) R.acc fullShare (accAt V n) ∗ owns (c : Thread nD τ) g fullShare (gItem V n) ∗ owns (c : Thread nD τ) R.wd fullShare V.wd
        ∗ (owns (c : Thread nD τ) R.acc fullShare (accAt V (n + 1)) ∗ owns (c : Thread nD τ) g fullShare (gItem V n) ∗ owns (c : Thread nD τ) R.wd fullShare V.wd -∗ Q ⟨⟩))
      ⊢ wp frame (wpE (defs₀ (F := F)) Variants.none (c : Thread nD τ) none) Set.univ (downL R g n) Q :=
  downP_wp c R.acc g R.wd ![n % 4 * 256, 0] (bdRow (n % 4) (by omega)) ![n / 4 % 11, 0, 0] (bd3 (n / 4 % 11) (by omega)) (accAt V n) (gItem V n) V.wd Q

/-! ## The whole state -/

/-- Everything the body's middle works on, owned at values. -/
def St (c : Dev nD) (R : Refs) (V : Vals F) (XB : Vec F S1024x1024 .bf16) (A0 A1 A2 A3 : Vec F S2x256x256 .f32) (G0 G1 G2 G3 : Vec F S256x256 .bf16)
    (T : Vec F S22x8x256 .f32) (S : Vec F S1024x1024 .f32) : sProp 𝕄 :=
  iprop(owns (c : Thread nD τ) R.xb fullShare XB ∗ owns (c : Thread nD τ) R.wu fullShare V.wu ∗ owns (c : Thread nD τ) R.cw fullShare V.cw
    ∗ owns (c : Thread nD τ) R.cb fullShare V.cb ∗ owns (c : Thread nD τ) R.wd fullShare V.wd
    ∗ owns (c : Thread nD τ) R.a0 fullShare A0 ∗ owns (c : Thread nD τ) R.a1 fullShare A1 ∗ owns (c : Thread nD τ) R.a2 fullShare A2 ∗ owns (c : Thread nD τ) R.a3 fullShare A3
    ∗ owns (c : Thread nD τ) R.g0 fullShare G0 ∗ owns (c : Thread nD τ) R.g1 fullShare G1 ∗ owns (c : Thread nD τ) R.g2 fullShare G2 ∗ owns (c : Thread nD τ) R.g3 fullShare G3
    ∗ owns (c : Thread nD τ) R.tl fullShare T ∗ owns (c : Thread nD τ) R.acc fullShare S)

/-- Slot 0 projected up. -/
theorem up0_wp (c : Dev nD) (R : Refs) (V : Vals F) (XB : Vec F S1024x1024 .bf16) (A0 A1 A2 A3 : Vec F S2x256x256 .f32) (G0 G1 G2 G3 : Vec F S256x256 .bf16) (T : Vec F S22x8x256 .f32) (S : Vec F S1024x1024 .f32)
    (n : ℕ) (h : Holds V XB n) (k : PUnit → Body F PUnit) (Q : PUnit → sProp 𝕄) :
    St c R V XB A0 A1 A2 A3 G0 G1 G2 G3 T S
      ⊢ iprop((St c R V XB (aItem V n) A1 A2 A3 G0 G1 G2 G3 T S -∗ wp frame (wpE (defs₀ (F := F)) Variants.none (c : Thread nD τ) none) Set.univ (k ⟨⟩) Q)
        -∗ wp frame (wpE (defs₀ (F := F)) Variants.none (c : Thread nD τ) none) Set.univ (upL R R.a0 n >>= k) Q) := by
  unfold St
  rw [wp_bind]
  iintro ⟨HXb, HWu, HCw, HCb, HWd, HA0, HA1, HA2, HA3, HG0, HG1, HG2, HG3, HT, HS⟩ HK
  iapply (upL_wp c R R.a0 n V XB h A0 _)
  isplitl [HXb]; · iexact HXb
  isplitl [HWu]; · iexact HWu
  isplitl [HA0]; · iexact HA0
  iintro ⟨HXb, HWu, HA0⟩
  iapply HK
  isplitl [HXb]; · iexact HXb
  isplitl [HWu]; · iexact HWu
  isplitl [HCw]; · iexact HCw
  isplitl [HCb]; · iexact HCb
  isplitl [HWd]; · iexact HWd
  isplitl [HA0]; · iexact HA0
  isplitl [HA1]; · iexact HA1
  isplitl [HA2]; · iexact HA2
  isplitl [HA3]; · iexact HA3
  isplitl [HG0]; · iexact HG0
  isplitl [HG1]; · iexact HG1
  isplitl [HG2]; · iexact HG2
  isplitl [HG3]; · iexact HG3
  isplitl [HT]; · iexact HT
  iexact HS

/-- Slot 1 projected up. -/
theorem up1_wp (c : Dev nD) (R : Refs) (V : Vals F) (XB : Vec F S1024x1024 .bf16) (A0 A1 A2 A3 : Vec F S2x256x256 .f32) (G0 G1 G2 G3 : Vec F S256x256 .bf16) (T : Vec F S22x8x256 .f32) (S : Vec F S1024x1024 .f32)
    (n : ℕ) (h : Holds V XB n) (k : PUnit → Body F PUnit) (Q : PUnit → sProp 𝕄) :
    St c R V XB A0 A1 A2 A3 G0 G1 G2 G3 T S
      ⊢ iprop((St c R V XB A0 (aItem V n) A2 A3 G0 G1 G2 G3 T S -∗ wp frame (wpE (defs₀ (F := F)) Variants.none (c : Thread nD τ) none) Set.univ (k ⟨⟩) Q)
        -∗ wp frame (wpE (defs₀ (F := F)) Variants.none (c : Thread nD τ) none) Set.univ (upL R R.a1 n >>= k) Q) := by
  unfold St
  rw [wp_bind]
  iintro ⟨HXb, HWu, HCw, HCb, HWd, HA0, HA1, HA2, HA3, HG0, HG1, HG2, HG3, HT, HS⟩ HK
  iapply (upL_wp c R R.a1 n V XB h A1 _)
  isplitl [HXb]; · iexact HXb
  isplitl [HWu]; · iexact HWu
  isplitl [HA1]; · iexact HA1
  iintro ⟨HXb, HWu, HA1⟩
  iapply HK
  isplitl [HXb]; · iexact HXb
  isplitl [HWu]; · iexact HWu
  isplitl [HCw]; · iexact HCw
  isplitl [HCb]; · iexact HCb
  isplitl [HWd]; · iexact HWd
  isplitl [HA0]; · iexact HA0
  isplitl [HA1]; · iexact HA1
  isplitl [HA2]; · iexact HA2
  isplitl [HA3]; · iexact HA3
  isplitl [HG0]; · iexact HG0
  isplitl [HG1]; · iexact HG1
  isplitl [HG2]; · iexact HG2
  isplitl [HG3]; · iexact HG3
  isplitl [HT]; · iexact HT
  iexact HS

/-- Slot 2 projected up. -/
theorem up2_wp (c : Dev nD) (R : Refs) (V : Vals F) (XB : Vec F S1024x1024 .bf16) (A0 A1 A2 A3 : Vec F S2x256x256 .f32) (G0 G1 G2 G3 : Vec F S256x256 .bf16) (T : Vec F S22x8x256 .f32) (S : Vec F S1024x1024 .f32)
    (n : ℕ) (h : Holds V XB n) (k : PUnit → Body F PUnit) (Q : PUnit → sProp 𝕄) :
    St c R V XB A0 A1 A2 A3 G0 G1 G2 G3 T S
      ⊢ iprop((St c R V XB A0 A1 (aItem V n) A3 G0 G1 G2 G3 T S -∗ wp frame (wpE (defs₀ (F := F)) Variants.none (c : Thread nD τ) none) Set.univ (k ⟨⟩) Q)
        -∗ wp frame (wpE (defs₀ (F := F)) Variants.none (c : Thread nD τ) none) Set.univ (upL R R.a2 n >>= k) Q) := by
  unfold St
  rw [wp_bind]
  iintro ⟨HXb, HWu, HCw, HCb, HWd, HA0, HA1, HA2, HA3, HG0, HG1, HG2, HG3, HT, HS⟩ HK
  iapply (upL_wp c R R.a2 n V XB h A2 _)
  isplitl [HXb]; · iexact HXb
  isplitl [HWu]; · iexact HWu
  isplitl [HA2]; · iexact HA2
  iintro ⟨HXb, HWu, HA2⟩
  iapply HK
  isplitl [HXb]; · iexact HXb
  isplitl [HWu]; · iexact HWu
  isplitl [HCw]; · iexact HCw
  isplitl [HCb]; · iexact HCb
  isplitl [HWd]; · iexact HWd
  isplitl [HA0]; · iexact HA0
  isplitl [HA1]; · iexact HA1
  isplitl [HA2]; · iexact HA2
  isplitl [HA3]; · iexact HA3
  isplitl [HG0]; · iexact HG0
  isplitl [HG1]; · iexact HG1
  isplitl [HG2]; · iexact HG2
  isplitl [HG3]; · iexact HG3
  isplitl [HT]; · iexact HT
  iexact HS

/-- Slot 3 projected up. -/
theorem up3_wp (c : Dev nD) (R : Refs) (V : Vals F) (XB : Vec F S1024x1024 .bf16) (A0 A1 A2 A3 : Vec F S2x256x256 .f32) (G0 G1 G2 G3 : Vec F S256x256 .bf16) (T : Vec F S22x8x256 .f32) (S : Vec F S1024x1024 .f32)
    (n : ℕ) (h : Holds V XB n) (k : PUnit → Body F PUnit) (Q : PUnit → sProp 𝕄) :
    St c R V XB A0 A1 A2 A3 G0 G1 G2 G3 T S
      ⊢ iprop((St c R V XB A0 A1 A2 (aItem V n) G0 G1 G2 G3 T S -∗ wp frame (wpE (defs₀ (F := F)) Variants.none (c : Thread nD τ) none) Set.univ (k ⟨⟩) Q)
        -∗ wp frame (wpE (defs₀ (F := F)) Variants.none (c : Thread nD τ) none) Set.univ (upL R R.a3 n >>= k) Q) := by
  unfold St
  rw [wp_bind]
  iintro ⟨HXb, HWu, HCw, HCb, HWd, HA0, HA1, HA2, HA3, HG0, HG1, HG2, HG3, HT, HS⟩ HK
  iapply (upL_wp c R R.a3 n V XB h A3 _)
  isplitl [HXb]; · iexact HXb
  isplitl [HWu]; · iexact HWu
  isplitl [HA3]; · iexact HA3
  iintro ⟨HXb, HWu, HA3⟩
  iapply HK
  isplitl [HXb]; · iexact HXb
  isplitl [HWu]; · iexact HWu
  isplitl [HCw]; · iexact HCw
  isplitl [HCb]; · iexact HCb
  isplitl [HWd]; · iexact HWd
  isplitl [HA0]; · iexact HA0
  isplitl [HA1]; · iexact HA1
  isplitl [HA2]; · iexact HA2
  isplitl [HA3]; · iexact HA3
  isplitl [HG0]; · iexact HG0
  isplitl [HG1]; · iexact HG1
  isplitl [HG2]; · iexact HG2
  isplitl [HG3]; · iexact HG3
  isplitl [HT]; · iexact HT
  iexact HS

/-- Slot 0 convolved and gated. -/
theorem pair0_wp (c : Dev nD) (R : Refs) (V : Vals F) (XB : Vec F S1024x1024 .bf16) (A1 A2 A3 : Vec F S2x256x256 .f32) (G0 G1 G2 G3 : Vec F S256x256 .bf16) (S : Vec F S1024x1024 .f32)
    (n : ℕ) (k : PUnit → Body F PUnit) (Q : PUnit → sProp 𝕄) :
    St c R V XB (aItem V n) A1 A2 A3 G0 G1 G2 G3 (tailAt V n) S
      ⊢ iprop((St c R V XB (aItem V n) A1 A2 A3 (gItem V n) G1 G2 G3 (tailAt V (n + 1)) S -∗ wp frame (wpE (defs₀ (F := F)) Variants.none (c : Thread nD τ) none) Set.univ (k ⟨⟩) Q)
        -∗ wp frame (wpE (defs₀ (F := F)) Variants.none (c : Thread nD τ) none) Set.univ (pairL R R.a0 R.g0 R.h0 n >>= k) Q) := by
  unfold St
  rw [wp_bind]
  iintro ⟨HXb, HWu, HCw, HCb, HWd, HA0, HA1, HA2, HA3, HG0, HG1, HG2, HG3, HT, HS⟩ HK
  iapply (pairL_wp c R R.a0 R.g0 R.h0 n V G0 _)
  isplitl [HCw]; · iexact HCw
  isplitl [HCb]; · iexact HCb
  isplitl [HA0]; · iexact HA0
  isplitl [HT]; · iexact HT
  isplitl [HG0]; · iexact HG0
  iintro ⟨HCw, HCb, HA0, HT, HG0⟩
  iapply HK
  isplitl [HXb]; · iexact HXb
  isplitl [HWu]; · iexact HWu
  isplitl [HCw]; · iexact HCw
  isplitl [HCb]; · iexact HCb
  isplitl [HWd]; · iexact HWd
  isplitl [HA0]; · iexact HA0
  isplitl [HA1]; · iexact HA1
  isplitl [HA2]; · iexact HA2
  isplitl [HA3]; · iexact HA3
  isplitl [HG0]; · iexact HG0
  isplitl [HG1]; · iexact HG1
  isplitl [HG2]; · iexact HG2
  isplitl [HG3]; · iexact HG3
  isplitl [HT]; · iexact HT
  iexact HS

/-- Slot 1 convolved and gated. -/
theorem pair1_wp (c : Dev nD) (R : Refs) (V : Vals F) (XB : Vec F S1024x1024 .bf16) (A0 A2 A3 : Vec F S2x256x256 .f32) (G0 G1 G2 G3 : Vec F S256x256 .bf16) (S : Vec F S1024x1024 .f32)
    (n : ℕ) (k : PUnit → Body F PUnit) (Q : PUnit → sProp 𝕄) :
    St c R V XB A0 (aItem V n) A2 A3 G0 G1 G2 G3 (tailAt V n) S
      ⊢ iprop((St c R V XB A0 (aItem V n) A2 A3 G0 (gItem V n) G2 G3 (tailAt V (n + 1)) S -∗ wp frame (wpE (defs₀ (F := F)) Variants.none (c : Thread nD τ) none) Set.univ (k ⟨⟩) Q)
        -∗ wp frame (wpE (defs₀ (F := F)) Variants.none (c : Thread nD τ) none) Set.univ (pairL R R.a1 R.g1 R.h1 n >>= k) Q) := by
  unfold St
  rw [wp_bind]
  iintro ⟨HXb, HWu, HCw, HCb, HWd, HA0, HA1, HA2, HA3, HG0, HG1, HG2, HG3, HT, HS⟩ HK
  iapply (pairL_wp c R R.a1 R.g1 R.h1 n V G1 _)
  isplitl [HCw]; · iexact HCw
  isplitl [HCb]; · iexact HCb
  isplitl [HA1]; · iexact HA1
  isplitl [HT]; · iexact HT
  isplitl [HG1]; · iexact HG1
  iintro ⟨HCw, HCb, HA1, HT, HG1⟩
  iapply HK
  isplitl [HXb]; · iexact HXb
  isplitl [HWu]; · iexact HWu
  isplitl [HCw]; · iexact HCw
  isplitl [HCb]; · iexact HCb
  isplitl [HWd]; · iexact HWd
  isplitl [HA0]; · iexact HA0
  isplitl [HA1]; · iexact HA1
  isplitl [HA2]; · iexact HA2
  isplitl [HA3]; · iexact HA3
  isplitl [HG0]; · iexact HG0
  isplitl [HG1]; · iexact HG1
  isplitl [HG2]; · iexact HG2
  isplitl [HG3]; · iexact HG3
  isplitl [HT]; · iexact HT
  iexact HS

/-- Slot 2 convolved and gated. -/
theorem pair2_wp (c : Dev nD) (R : Refs) (V : Vals F) (XB : Vec F S1024x1024 .bf16) (A0 A1 A3 : Vec F S2x256x256 .f32) (G0 G1 G2 G3 : Vec F S256x256 .bf16) (S : Vec F S1024x1024 .f32)
    (n : ℕ) (k : PUnit → Body F PUnit) (Q : PUnit → sProp 𝕄) :
    St c R V XB A0 A1 (aItem V n) A3 G0 G1 G2 G3 (tailAt V n) S
      ⊢ iprop((St c R V XB A0 A1 (aItem V n) A3 G0 G1 (gItem V n) G3 (tailAt V (n + 1)) S -∗ wp frame (wpE (defs₀ (F := F)) Variants.none (c : Thread nD τ) none) Set.univ (k ⟨⟩) Q)
        -∗ wp frame (wpE (defs₀ (F := F)) Variants.none (c : Thread nD τ) none) Set.univ (pairL R R.a2 R.g2 R.h2 n >>= k) Q) := by
  unfold St
  rw [wp_bind]
  iintro ⟨HXb, HWu, HCw, HCb, HWd, HA0, HA1, HA2, HA3, HG0, HG1, HG2, HG3, HT, HS⟩ HK
  iapply (pairL_wp c R R.a2 R.g2 R.h2 n V G2 _)
  isplitl [HCw]; · iexact HCw
  isplitl [HCb]; · iexact HCb
  isplitl [HA2]; · iexact HA2
  isplitl [HT]; · iexact HT
  isplitl [HG2]; · iexact HG2
  iintro ⟨HCw, HCb, HA2, HT, HG2⟩
  iapply HK
  isplitl [HXb]; · iexact HXb
  isplitl [HWu]; · iexact HWu
  isplitl [HCw]; · iexact HCw
  isplitl [HCb]; · iexact HCb
  isplitl [HWd]; · iexact HWd
  isplitl [HA0]; · iexact HA0
  isplitl [HA1]; · iexact HA1
  isplitl [HA2]; · iexact HA2
  isplitl [HA3]; · iexact HA3
  isplitl [HG0]; · iexact HG0
  isplitl [HG1]; · iexact HG1
  isplitl [HG2]; · iexact HG2
  isplitl [HG3]; · iexact HG3
  isplitl [HT]; · iexact HT
  iexact HS

/-- Slot 3 convolved and gated. -/
theorem pair3_wp (c : Dev nD) (R : Refs) (V : Vals F) (XB : Vec F S1024x1024 .bf16) (A0 A1 A2 : Vec F S2x256x256 .f32) (G0 G1 G2 G3 : Vec F S256x256 .bf16) (S : Vec F S1024x1024 .f32)
    (n : ℕ) (k : PUnit → Body F PUnit) (Q : PUnit → sProp 𝕄) :
    St c R V XB A0 A1 A2 (aItem V n) G0 G1 G2 G3 (tailAt V n) S
      ⊢ iprop((St c R V XB A0 A1 A2 (aItem V n) G0 G1 G2 (gItem V n) (tailAt V (n + 1)) S -∗ wp frame (wpE (defs₀ (F := F)) Variants.none (c : Thread nD τ) none) Set.univ (k ⟨⟩) Q)
        -∗ wp frame (wpE (defs₀ (F := F)) Variants.none (c : Thread nD τ) none) Set.univ (pairL R R.a3 R.g3 R.h3 n >>= k) Q) := by
  unfold St
  rw [wp_bind]
  iintro ⟨HXb, HWu, HCw, HCb, HWd, HA0, HA1, HA2, HA3, HG0, HG1, HG2, HG3, HT, HS⟩ HK
  iapply (pairL_wp c R R.a3 R.g3 R.h3 n V G3 _)
  isplitl [HCw]; · iexact HCw
  isplitl [HCb]; · iexact HCb
  isplitl [HA3]; · iexact HA3
  isplitl [HT]; · iexact HT
  isplitl [HG3]; · iexact HG3
  iintro ⟨HCw, HCb, HA3, HT, HG3⟩
  iapply HK
  isplitl [HXb]; · iexact HXb
  isplitl [HWu]; · iexact HWu
  isplitl [HCw]; · iexact HCw
  isplitl [HCb]; · iexact HCb
  isplitl [HWd]; · iexact HWd
  isplitl [HA0]; · iexact HA0
  isplitl [HA1]; · iexact HA1
  isplitl [HA2]; · iexact HA2
  isplitl [HA3]; · iexact HA3
  isplitl [HG0]; · iexact HG0
  isplitl [HG1]; · iexact HG1
  isplitl [HG2]; · iexact HG2
  isplitl [HG3]; · iexact HG3
  isplitl [HT]; · iexact HT
  iexact HS

/-- Slot 0 projected down. -/
theorem down0_wp (c : Dev nD) (R : Refs) (V : Vals F) (XB : Vec F S1024x1024 .bf16) (A0 A1 A2 A3 : Vec F S2x256x256 .f32) (G1 G2 G3 : Vec F S256x256 .bf16) (T : Vec F S22x8x256 .f32)
    (n : ℕ) (k : PUnit → Body F PUnit) (Q : PUnit → sProp 𝕄) :
    St c R V XB A0 A1 A2 A3 (gItem V n) G1 G2 G3 T (accAt V n)
      ⊢ iprop((St c R V XB A0 A1 A2 A3 (gItem V n) G1 G2 G3 T (accAt V (n + 1)) -∗ wp frame (wpE (defs₀ (F := F)) Variants.none (c : Thread nD τ) none) Set.univ (k ⟨⟩) Q)
        -∗ wp frame (wpE (defs₀ (F := F)) Variants.none (c : Thread nD τ) none) Set.univ (downL R R.g0 n >>= k) Q) := by
  unfold St
  rw [wp_bind]
  iintro ⟨HXb, HWu, HCw, HCb, HWd, HA0, HA1, HA2, HA3, HG0, HG1, HG2, HG3, HT, HS⟩ HK
  iapply (downL_wp c R R.g0 n V _)
  isplitl [HS]; · iexact HS
  isplitl [HG0]; · iexact HG0
  isplitl [HWd]; · iexact HWd
  iintro ⟨HS, HG0, HWd⟩
  iapply HK
  isplitl [HXb]; · iexact HXb
  isplitl [HWu]; · iexact HWu
  isplitl [HCw]; · iexact HCw
  isplitl [HCb]; · iexact HCb
  isplitl [HWd]; · iexact HWd
  isplitl [HA0]; · iexact HA0
  isplitl [HA1]; · iexact HA1
  isplitl [HA2]; · iexact HA2
  isplitl [HA3]; · iexact HA3
  isplitl [HG0]; · iexact HG0
  isplitl [HG1]; · iexact HG1
  isplitl [HG2]; · iexact HG2
  isplitl [HG3]; · iexact HG3
  isplitl [HT]; · iexact HT
  iexact HS

/-- Slot 1 projected down. -/
theorem down1_wp (c : Dev nD) (R : Refs) (V : Vals F) (XB : Vec F S1024x1024 .bf16) (A0 A1 A2 A3 : Vec F S2x256x256 .f32) (G0 G2 G3 : Vec F S256x256 .bf16) (T : Vec F S22x8x256 .f32)
    (n : ℕ) (k : PUnit → Body F PUnit) (Q : PUnit → sProp 𝕄) :
    St c R V XB A0 A1 A2 A3 G0 (gItem V n) G2 G3 T (accAt V n)
      ⊢ iprop((St c R V XB A0 A1 A2 A3 G0 (gItem V n) G2 G3 T (accAt V (n + 1)) -∗ wp frame (wpE (defs₀ (F := F)) Variants.none (c : Thread nD τ) none) Set.univ (k ⟨⟩) Q)
        -∗ wp frame (wpE (defs₀ (F := F)) Variants.none (c : Thread nD τ) none) Set.univ (downL R R.g1 n >>= k) Q) := by
  unfold St
  rw [wp_bind]
  iintro ⟨HXb, HWu, HCw, HCb, HWd, HA0, HA1, HA2, HA3, HG0, HG1, HG2, HG3, HT, HS⟩ HK
  iapply (downL_wp c R R.g1 n V _)
  isplitl [HS]; · iexact HS
  isplitl [HG1]; · iexact HG1
  isplitl [HWd]; · iexact HWd
  iintro ⟨HS, HG1, HWd⟩
  iapply HK
  isplitl [HXb]; · iexact HXb
  isplitl [HWu]; · iexact HWu
  isplitl [HCw]; · iexact HCw
  isplitl [HCb]; · iexact HCb
  isplitl [HWd]; · iexact HWd
  isplitl [HA0]; · iexact HA0
  isplitl [HA1]; · iexact HA1
  isplitl [HA2]; · iexact HA2
  isplitl [HA3]; · iexact HA3
  isplitl [HG0]; · iexact HG0
  isplitl [HG1]; · iexact HG1
  isplitl [HG2]; · iexact HG2
  isplitl [HG3]; · iexact HG3
  isplitl [HT]; · iexact HT
  iexact HS

/-- Slot 2 projected down. -/
theorem down2_wp (c : Dev nD) (R : Refs) (V : Vals F) (XB : Vec F S1024x1024 .bf16) (A0 A1 A2 A3 : Vec F S2x256x256 .f32) (G0 G1 G3 : Vec F S256x256 .bf16) (T : Vec F S22x8x256 .f32)
    (n : ℕ) (k : PUnit → Body F PUnit) (Q : PUnit → sProp 𝕄) :
    St c R V XB A0 A1 A2 A3 G0 G1 (gItem V n) G3 T (accAt V n)
      ⊢ iprop((St c R V XB A0 A1 A2 A3 G0 G1 (gItem V n) G3 T (accAt V (n + 1)) -∗ wp frame (wpE (defs₀ (F := F)) Variants.none (c : Thread nD τ) none) Set.univ (k ⟨⟩) Q)
        -∗ wp frame (wpE (defs₀ (F := F)) Variants.none (c : Thread nD τ) none) Set.univ (downL R R.g2 n >>= k) Q) := by
  unfold St
  rw [wp_bind]
  iintro ⟨HXb, HWu, HCw, HCb, HWd, HA0, HA1, HA2, HA3, HG0, HG1, HG2, HG3, HT, HS⟩ HK
  iapply (downL_wp c R R.g2 n V _)
  isplitl [HS]; · iexact HS
  isplitl [HG2]; · iexact HG2
  isplitl [HWd]; · iexact HWd
  iintro ⟨HS, HG2, HWd⟩
  iapply HK
  isplitl [HXb]; · iexact HXb
  isplitl [HWu]; · iexact HWu
  isplitl [HCw]; · iexact HCw
  isplitl [HCb]; · iexact HCb
  isplitl [HWd]; · iexact HWd
  isplitl [HA0]; · iexact HA0
  isplitl [HA1]; · iexact HA1
  isplitl [HA2]; · iexact HA2
  isplitl [HA3]; · iexact HA3
  isplitl [HG0]; · iexact HG0
  isplitl [HG1]; · iexact HG1
  isplitl [HG2]; · iexact HG2
  isplitl [HG3]; · iexact HG3
  isplitl [HT]; · iexact HT
  iexact HS

/-- Slot 3 projected down. -/
theorem down3_wp (c : Dev nD) (R : Refs) (V : Vals F) (XB : Vec F S1024x1024 .bf16) (A0 A1 A2 A3 : Vec F S2x256x256 .f32) (G0 G1 G2 : Vec F S256x256 .bf16) (T : Vec F S22x8x256 .f32)
    (n : ℕ) (k : PUnit → Body F PUnit) (Q : PUnit → sProp 𝕄) :
    St c R V XB A0 A1 A2 A3 G0 G1 G2 (gItem V n) T (accAt V n)
      ⊢ iprop((St c R V XB A0 A1 A2 A3 G0 G1 G2 (gItem V n) T (accAt V (n + 1)) -∗ wp frame (wpE (defs₀ (F := F)) Variants.none (c : Thread nD τ) none) Set.univ (k ⟨⟩) Q)
        -∗ wp frame (wpE (defs₀ (F := F)) Variants.none (c : Thread nD τ) none) Set.univ (downL R R.g3 n >>= k) Q) := by
  unfold St
  rw [wp_bind]
  iintro ⟨HXb, HWu, HCw, HCb, HWd, HA0, HA1, HA2, HA3, HG0, HG1, HG2, HG3, HT, HS⟩ HK
  iapply (downL_wp c R R.g3 n V _)
  isplitl [HS]; · iexact HS
  isplitl [HG3]; · iexact HG3
  isplitl [HWd]; · iexact HWd
  iintro ⟨HS, HG3, HWd⟩
  iapply HK
  isplitl [HXb]; · iexact HXb
  isplitl [HWu]; · iexact HWu
  isplitl [HCw]; · iexact HCw
  isplitl [HCb]; · iexact HCb
  isplitl [HWd]; · iexact HWd
  isplitl [HA0]; · iexact HA0
  isplitl [HA1]; · iexact HA1
  isplitl [HA2]; · iexact HA2
  isplitl [HA3]; · iexact HA3
  isplitl [HG0]; · iexact HG0
  isplitl [HG1]; · iexact HG1
  isplitl [HG2]; · iexact HG2
  isplitl [HG3]; · iexact HG3
  isplitl [HT]; · iexact HT
  iexact HS

end Cert.Ffn

end
-- ==== Proof.FfnTile.lean ====
module

public import proofs.«01_k».proof.Proof.FfnSpec
public import proofs.«01_k».proof.Proof.FfnStates

/-!
# The feed-forward body's pieces, entry by entry

What each piece of the body computes over the extended reals, read at an entry: the projections are sums of
products, the convolution is three taps and a bias over a chunk preceded by eight kept rows, and the gate is the
SiLU product.
-/

set_option maxRecDepth 16384

@[expose] public section

noncomputable section

open Idealize.ShloMosaic Idealize.ShloMosaic.TcCoe Idealize.SL.Sem
open Cert.Kernel2Ideal Cert.Kernel2Ideal.Facts₀ Cert.Kernel2Ideal.Facts
open Idealize.ShloMosaic.VecWindow (window put)
open Cert.Gmlp (lit mean layerNorm)
open Cert.Ffn.Spec

namespace Cert.Ffn

/-! ## Windows and puts at an entry -/

/-- One leading slice of an array, read at an entry. -/
theorem window_lead {α : Type} {N R C : ℕ} (x : (⟨3, ![N, R, C]⟩ : Shape).Idx → α) (q : ℕ) (hq : q < N)
    (inb : ∀ a, (![q, 0, 0] : Fin 3 → ℕ) a + (![1, R, C] : Fin 3 → ℕ) a ≤ (![N, R, C] : Fin 3 → ℕ) a) (r : Fin R) (c : Fin C) :
    window (s := ⟨3, ![N, R, C]⟩) x ![q, 0, 0] ![1, R, C] inb (ix3 0 r c) = x (ix3 ⟨q, hq⟩ r c) := by
  refine congrArg x (funext fun a => ?_)
  fin_cases a
  · exact Fin.ext (show q + 1 * 0 = q by omega)
  · exact Fin.ext (show 0 + 1 * r.val = r.val by omega)
  · exact Fin.ext (show 0 + 1 * c.val = c.val by omega)

/-- A run of rows of a one-slice array, read at an entry. -/
theorem window_mid {α : Type} {N R C : ℕ} (x : (⟨3, ![1, N, C]⟩ : Shape).Idx → α) (o : ℕ)
    (inb : ∀ a, (![0, o, 0] : Fin 3 → ℕ) a + (![1, R, C] : Fin 3 → ℕ) a ≤ (![1, N, C] : Fin 3 → ℕ) a) (r : Fin R) (c : Fin C) (h : o + r.val < N) :
    window (s := ⟨3, ![1, N, C]⟩) x ![0, o, 0] ![1, R, C] inb (ix3 0 r c) = x (ix3 0 ⟨o + r.val, h⟩ c) := by
  refine congrArg x (funext fun a => ?_)
  fin_cases a
  · exact Fin.ext (show 0 + 1 * 0 = 0 by omega)
  · exact Fin.ext (show o + 1 * r.val = o + r.val by omega)
  · exact Fin.ext (show 0 + 1 * c.val = c.val by omega)

/-- A run of rows of a matrix, read at an entry. -/
theorem window_rows {α : Type} {N R C : ℕ} (x : (⟨2, ![N, C]⟩ : Shape).Idx → α) (o : ℕ)
    (inb : ∀ a, (![o, 0] : Fin 2 → ℕ) a + (![R, C] : Fin 2 → ℕ) a ≤ (![N, C] : Fin 2 → ℕ) a) (r : Fin R) (c : Fin C) (h : o + r.val < N) :
    window (s := ⟨2, ![N, C]⟩) x ![o, 0] ![R, C] inb (ix2 r c) = x (ix2 ⟨o + r.val, h⟩ c) := by
  refine congrArg x (funext fun a => ?_)
  fin_cases a
  · exact Fin.ext (show o + 1 * r.val = o + r.val by omega)
  · exact Fin.ext (show 0 + 1 * c.val = c.val by omega)

/-- An array with one leading slice replaced, read at an entry. -/
theorem put_lead {α : Type} {N R C : ℕ} (x : (⟨3, ![N, R, C]⟩ : Shape).Idx → α) (q : ℕ)
    (w : (⟨3, ![1, R, C]⟩ : Shape).Idx → α) (n : Fin N) (r : Fin R) (c : Fin C) :
    put (s := ⟨3, ![N, R, C]⟩) x ![q, 0, 0] ![1, R, C] w (ix3 n r c) = if n.val = q then w (ix3 0 r c) else x (ix3 n r c) := by
  unfold put
  by_cases h : n.val = q
  · rw [if_pos h, dif_pos (by
      intro a
      fin_cases a
      · exact ⟨h.ge, show n.val < q + 1 by omega⟩
      · exact ⟨Nat.zero_le _, show r.val < 0 + R by omega⟩
      · exact ⟨Nat.zero_le _, show c.val < 0 + C by omega⟩)]
    refine congrArg w (funext fun a => ?_)
    fin_cases a
    · exact Fin.ext (show n.val - q = 0 by omega)
    · exact Fin.ext (show r.val - 0 = r.val by omega)
    · exact Fin.ext (show c.val - 0 = c.val by omega)
  · rw [if_neg h, dif_neg]
    intro hh
    have h0 : q ≤ n.val ∧ n.val < q + 1 := hh 0
    omega

/-- A matrix with a run of rows replaced, read at an entry outside it. -/
theorem put_rows_out {α : Type} {N R C : ℕ} (x : (⟨2, ![N, C]⟩ : Shape).Idx → α) (o : ℕ)
    (w : (⟨2, ![R, C]⟩ : Shape).Idx → α) (r : Fin N) (c : Fin C) (h : ¬ (o ≤ r.val ∧ r.val < o + R)) :
    put (s := ⟨2, ![N, C]⟩) x ![o, 0] ![R, C] w (ix2 r c) = x (ix2 r c) := by
  unfold put
  rw [dif_neg]
  intro hh
  exact h (hh 0)

/-- A matrix with a run of rows replaced, read at an entry inside it. -/
theorem put_rows_in {α : Type} {N R C : ℕ} (x : (⟨2, ![N, C]⟩ : Shape).Idx → α) (o : ℕ)
    (w : (⟨2, ![R, C]⟩ : Shape).Idx → α) (r : Fin N) (c : Fin C) (h : o ≤ r.val ∧ r.val < o + R) :
    put (s := ⟨2, ![N, C]⟩) x ![o, 0] ![R, C] w (ix2 r c) = w (ix2 ⟨r.val - o, by omega⟩ c) := by
  unfold put
  rw [dif_pos (by
      intro a
      fin_cases a
      · exact h
      · exact ⟨Nat.zero_le _, show c.val < 0 + C by omega⟩)]
  refine congrArg w (funext fun a => ?_)
  fin_cases a
  · rfl
  · exact Fin.ext (show c.val - 0 = c.val by omega)

/-! ## The pieces -/

/-- A slab in half width is the slab. -/
theorem castV_at (x : FVec Ideal S1x256x1024 .f32) (r : Fin 256) (k : Fin 1024) :
    castV (F := Ideal) x (ix2 r k) = x (ix3 0 r k) := by
  pointwise [castV]

/-- The projection up. -/
theorem upV_at (x : FVec Ideal S256x1024 .bf16) (w : FVec Ideal S1x1024x256 .bf16) (r c : Fin 256) :
    upV (F := Ideal) x w (ix3 0 r c) = ∑ k, x (ix2 r k) * w (ix3 0 k c) := by
  pointwise [upV]

/-- The last eight rows. -/
theorem tailV_at (a : FVec Ideal S1x256x256 .f32) (e : Fin 8) (c : Fin 256) :
    tailV (F := Ideal) a (ix3 0 e c) = a (ix3 0 ⟨248 + e, by omega⟩ c) := by
  pointwise [tailV]

/-- The chunk one row back: the last kept row comes before its first. -/
theorem shiftV_one (a : FVec Ideal S1x256x256 .f32) (t : FVec Ideal S1x8x256 .f32) (r c : Fin 256) :
    shiftV (F := Ideal) 1#32 a t (ix2 r c)
      = if h : 1 ≤ r.val then a (ix3 0 ⟨r - 1, by omega⟩ c) else t (ix3 0 ⟨7 + r, by omega⟩ c) := by
  pointwise [shiftV]
  by_cases h : 1 ≤ r.val
  · rw [dif_pos h, dif_neg (by omega)]
    exact congrArg a (congrArg (fun z => ix3 0 z c) (Fin.ext (by simp only; omega)))
  · rw [dif_neg h, dif_pos (by omega)]
    exact congrArg t (congrArg (fun z => ix3 0 z c) (Fin.ext (by simp only; omega)))

/-- The chunk two rows back: the last two kept rows come before its first. -/
theorem shiftV_two (a : FVec Ideal S1x256x256 .f32) (t : FVec Ideal S1x8x256 .f32) (r c : Fin 256) :
    shiftV (F := Ideal) 2#32 a t (ix2 r c)
      = if h : 2 ≤ r.val then a (ix3 0 ⟨r - 2, by omega⟩ c) else t (ix3 0 ⟨6 + r, by omega⟩ c) := by
  pointwise [shiftV]
  by_cases h : 2 ≤ r.val
  · rw [dif_pos h, dif_neg (by omega)]
    exact congrArg a (congrArg (fun z => ix3 0 z c) (Fin.ext (by simp only; omega)))
  · rw [dif_neg h, dif_pos (by omega)]
    exact congrArg t (congrArg (fun z => ix3 0 z c) (Fin.ext (by simp only; omega)))

/-- The convolution. -/
theorem convV_at (a : FVec Ideal S1x256x256 .f32) (t : FVec Ideal S1x8x256 .f32) (w : FVec Ideal S1x3x256 .f32)
    (b : FVec Ideal S1x1x256 .f32) (r c : Fin 256) :
    convV (F := Ideal) a t w b (ix2 r c)
      = taps (w (ix3 0 0 c)) (w (ix3 0 1 c)) (w (ix3 0 2 c)) (b (ix3 0 0 c))
        (shiftV (F := Ideal) 2#32 a t (ix2 r c)) (shiftV (F := Ideal) 1#32 a t (ix2 r c)) (a (ix3 0 r c)) := by
  pointwise [convV, taps]

/-- The gate. -/
theorem gateV_at (p q : FVec Ideal S256x256 .f32) (r c : Fin 256) :
    gateV (F := Ideal) p q (ix2 r c) = glu (p (ix2 r c)) (q (ix2 r c)) := by
  pointwise [gateV, glu, Ideal.logistic]

/-- The projection down, added. -/
theorem downV_at (s : FVec Ideal S256x1024 .f32) (g : FVec Ideal S256x256 .bf16) (w : FVec Ideal S1x256x1024 .bf16) (r : Fin 256) (l : Fin 1024) :
    downV (F := Ideal) s g w (ix2 r l) = s (ix2 r l) + ∑ c, g (ix2 r c) * w (ix3 0 c l) := by
  pointwise [downV]

/-- The accumulator starts at zero. -/
theorem zeroV_at (r l : Fin 1024) : zeroV (F := Ideal) (ix2 r l) = 0 := by
  pointwise [zeroV]

/-- The kept rows start at zero. -/
theorem noTailV_at (n : Fin 22) (e : Fin 8) (c : Fin 256) : noTailV (F := Ideal) (ix3 n e c) = 0 := by
  pointwise [noTailV]

/-- The closing layer norm of the scaled block plus the accumulator. -/
theorem normV_at (x : FVec Ideal S1x1024x1024 .f32) (s : FVec Ideal S1024x1024 .f32) (g b : FVec Ideal S1x1024 .f32) (r j : Fin 1024) :
    normV (F := Ideal) x s g b (ix3 0 r j)
      = layerNorm (lit 0x44800000#32) (fun l => lit 0x3FD744FD#32 * x (ix3 0 r l) + s (ix2 r l)) (fun l => g (ix2 0 l)) (fun l => b (ix2 0 l)) j := by
  pointwise [normV, layerNorm, mean, lit]

end Cert.Ffn

end
-- ==== Proof.FfnItems.lean ====
module

public import proofs.«01_k».proof.Proof.FfnTile

/-!
# The feed-forward body's state, entry by entry

The body visits 44 items, chunk by chunk and within a chunk slab by slab. Read at an entry: an item's projections,
the rows kept for a chunk before an item, the item's convolution, and the accumulator, whose final entry is the sum
over the eleven chunks of the gated products projected down.
-/

set_option maxRecDepth 16384

@[expose] public section

noncomputable section

open Idealize.ShloMosaic Idealize.ShloMosaic.TcCoe Idealize.SL.Sem
open Cert.Kernel2Ideal Cert.Kernel2Ideal.Facts₀ Cert.Kernel2Ideal.Facts
open Idealize.ShloMosaic.VecWindow (window put)
open Cert.Ffn.Spec

namespace Cert.Ffn

/-- Row `R` of the block projected to column `c` of chunk `q`. -/
def pre (V : Vals Ideal) (q : Fin 22) (R : Fin 1024) (c : Fin 256) : EReal := ∑ k, V.x (ix3 0 R k) * V.wu (ix3 q k c)

/-- The projection `d` rows before row `R`: a row of the block, or a row kept from the tile before. -/
def behind (V : Vals Ideal) (q : Fin 22) (d : ℕ) (R : Fin 1024) (c : Fin 256) : EReal :=
  if h : d ≤ R.val then pre V q ⟨R - d, by omega⟩ c else V.t0 (ix3 q ⟨(8 + R - d) % 8, Nat.mod_lt _ (by decide)⟩ c)

/-- Row `R` of chunk `q` convolved. -/
def convAt (V : Vals Ideal) (q : Fin 22) (R : Fin 1024) (c : Fin 256) : EReal :=
  taps (V.cw (ix3 q 0 c)) (V.cw (ix3 q 1 c)) (V.cw (ix3 q 2 c)) (V.cb (ix3 q 0 c)) (behind V q 2 R c) (behind V q 1 R c) (pre V q R c)

/-- Chunk `q`'s gated product for row `R`, projected down to column `l`. -/
def down (V : Vals Ideal) (R : Fin 1024) (l : Fin 1024) (q : Fin 11) : EReal :=
  ∑ c : Fin 256, glu (convAt V ⟨q, by omega⟩ R c) (convAt V ⟨11 + q, by omega⟩ R c) * V.wd (ix3 q c l)

theorem xslab_at (V : Vals Ideal) (n : ℕ) (r : Fin 256) (k : Fin 1024) :
    xslab V n (ix2 r k) = V.x (ix3 0 ⟨n % 4 * 256 + r, by omega⟩ k) := by
  unfold xslab
  exact (castV_at _ r k).trans (window_mid V.x (n % 4 * 256) _ r k (by omega))

/-- An item's gate projection. -/
theorem upG_at (V : Vals Ideal) (n : ℕ) (r c : Fin 256) :
    upG V n (ix3 0 r c) = pre V ⟨n / 4 % 11, by omega⟩ ⟨n % 4 * 256 + r, by omega⟩ c := by
  unfold upG
  refine (upV_at _ _ r c).trans (Finset.sum_congr rfl fun k _ => congrArg₂ (· * ·) (xslab_at V n r k) ?_)
  exact window_lead V.wu (n / 4 % 11) (by omega) _ k c

/-- An item's value projection. -/
theorem upU_at (V : Vals Ideal) (n : ℕ) (r c : Fin 256) :
    upU V n (ix3 0 r c) = pre V ⟨11 + n / 4 % 11, by omega⟩ ⟨n % 4 * 256 + r, by omega⟩ c := by
  unfold upU
  refine (upV_at _ _ r c).trans (Finset.sum_congr rfl fun k _ => congrArg₂ (· * ·) (xslab_at V n r k) ?_)
  exact window_lead V.wu (11 + n / 4 % 11) (by omega) _ k c

/-- The rows kept for a chunk before item `n`: the last eight of the last slab visited, or those of the tile before. -/
theorem tailAt_at (V : Vals Ideal) (q : Fin 22) (e : Fin 8) (c : Fin 256) : ∀ n : ℕ, n ≤ 44 →
    tailAt V n (ix3 q e c) = if h : 4 * (q.val % 11) < n
      then pre V q ⟨min (n - 4 * (q.val % 11)) 4 * 256 - 8 + e, by omega⟩ c else V.t0 (ix3 q e c) := by
  intro n
  induction n with
  | zero => intro _; rw [dif_neg (Nat.not_lt_zero _)]; rfl
  | succ n ih =>
    intro hn
    have ih := ih (by omega)
    refine (put_lead (put (tailAt V n) ![n / 4 % 11, 0, 0] S1x8x256.size (tailV (upG V n))) (11 + n / 4 % 11) (tailV (upU V n)) q e c).trans ?_
    by_cases h1 : q.val = 11 + n / 4 % 11
    · rw [if_pos h1, dif_pos (by omega)]
      refine (tailV_at _ e c).trans ((upU_at V n _ c).trans ?_)
      refine congrArg₂ (fun a b => pre V a b c) (Fin.ext ?_) (Fin.ext ?_)
      · exact h1.symm
      · show n % 4 * 256 + (248 + e.val) = _
        simp only
        omega
    · rw [if_neg h1]
      refine (put_lead (tailAt V n) (n / 4 % 11) (tailV (upG V n)) q e c).trans ?_
      by_cases h0 : q.val = n / 4 % 11
      · rw [if_pos h0, dif_pos (by omega)]
        refine (tailV_at _ e c).trans ((upG_at V n _ c).trans ?_)
        refine congrArg₂ (fun a b => pre V a b c) (Fin.ext ?_) (Fin.ext ?_)
        · exact h0.symm
        · show n % 4 * 256 + (248 + e.val) = _
          simp only
          omega
      · rw [if_neg h0, ih]
        by_cases h : 4 * (q.val % 11) < n
        · rw [dif_pos h, dif_pos (by omega)]
          exact congrArg (fun b => pre V q b c) (Fin.ext (by simp only; omega))
        · rw [dif_neg h, dif_neg (by omega)]

/-- A projection whose two shifts come from the kept rows of its own chunk. -/
theorem shifted (V : Vals Ideal) (n : ℕ) (hn : n < 44) (q : Fin 22) (hq : q.val % 11 = n / 4) (a : FVec Ideal S1x256x256 .f32)
    (ha : ∀ r c : Fin 256, a (ix3 0 r c) = pre V q ⟨n % 4 * 256 + r, by omega⟩ c) (t : FVec Ideal S1x8x256 .f32)
    (ht : ∀ (e : Fin 8) (c : Fin 256), t (ix3 0 e c) = tailAt V n (ix3 q e c)) (w : FVec Ideal S1x3x256 .f32)
    (hw : ∀ (i : Fin 3) (c : Fin 256), w (ix3 0 i c) = V.cw (ix3 q i c)) (b : FVec Ideal S1x1x256 .f32)
    (hb : ∀ c : Fin 256, b (ix3 0 0 c) = V.cb (ix3 q 0 c)) (r c : Fin 256) :
    convV (F := Ideal) a t w b (ix2 r c) = convAt V q ⟨n % 4 * 256 + r, by omega⟩ c := by
  rw [convV_at, hw, hw, hw, hb, ha, shiftV_one, shiftV_two]
  have h2 : (if h : 2 ≤ r.val then a (ix3 0 ⟨r - 2, by omega⟩ c) else t (ix3 0 ⟨6 + r, by omega⟩ c))
      = behind V q 2 ⟨n % 4 * 256 + r, by omega⟩ c := by
    unfold behind
    by_cases h : 2 ≤ r.val
    · rw [dif_pos h, dif_pos (by simp only; omega), ha]
      exact congrArg (fun b => pre V q b c) (Fin.ext (by simp only; omega))
    · rw [dif_neg h, ht, tailAt_at V q _ c n (by omega)]
      by_cases hs : n % 4 = 0
      · rw [dif_neg (by omega), dif_neg (by simp only; omega)]
        exact congrArg V.t0 (congrArg (fun z => ix3 q z c) (Fin.ext (by simp only; omega)))
      · rw [dif_pos (by omega), dif_pos (by simp only; omega)]
        exact congrArg (fun b => pre V q b c) (Fin.ext (by simp only; omega))
  have h1 : (if h : 1 ≤ r.val then a (ix3 0 ⟨r - 1, by omega⟩ c) else t (ix3 0 ⟨7 + r, by omega⟩ c))
      = behind V q 1 ⟨n % 4 * 256 + r, by omega⟩ c := by
    unfold behind
    by_cases h : 1 ≤ r.val
    · rw [dif_pos h, dif_pos (by simp only; omega), ha]
      exact congrArg (fun b => pre V q b c) (Fin.ext (by simp only; omega))
    · rw [dif_neg h, ht, tailAt_at V q _ c n (by omega)]
      by_cases hs : n % 4 = 0
      · rw [dif_neg (by omega), dif_neg (by simp only; omega)]
        exact congrArg V.t0 (congrArg (fun z => ix3 q z c) (Fin.ext (by simp only; omega)))
      · rw [dif_pos (by omega), dif_pos (by simp only; omega)]
        exact congrArg (fun b => pre V q b c) (Fin.ext (by simp only; omega))
  rw [h2, h1]
  rfl

/-- An item's gate chunk convolved. -/
theorem convG_at (V : Vals Ideal) (n : ℕ) (hn : n < 44) (r c : Fin 256) :
    convG V n (ix2 r c) = convAt V ⟨n / 4 % 11, by omega⟩ ⟨n % 4 * 256 + r, by omega⟩ c :=
  shifted V n hn ⟨n / 4 % 11, by omega⟩ (by simp only; omega) (upG V n) (fun r c => upG_at V n r c)
    _ (fun e c => window_lead (tailAt V n) (n / 4 % 11) (by omega) _ e c)
    _ (fun i c => window_lead V.cw (n / 4 % 11) (by omega) _ i c) _ (fun c => window_lead V.cb (n / 4 % 11) (by omega) _ 0 c) r c

/-- An item's value chunk convolved. -/
theorem convU_at (V : Vals Ideal) (n : ℕ) (hn : n < 44) (r c : Fin 256) :
    convU V n (ix2 r c) = convAt V ⟨11 + n / 4 % 11, by omega⟩ ⟨n % 4 * 256 + r, by omega⟩ c :=
  shifted V n hn ⟨11 + n / 4 % 11, by omega⟩ (by simp only; omega) (upU V n) (fun r c => upU_at V n r c)
    _ (fun e c => window_lead (tailAt V n) (11 + n / 4 % 11) (by omega) _ e c)
    _ (fun i c => window_lead V.cw (11 + n / 4 % 11) (by omega) _ i c) _ (fun c => window_lead V.cb (11 + n / 4 % 11) (by omega) _ 0 c) r c

/-- The accumulator before item `n`: the chunks whose item for the row's slab has been visited. -/
theorem accAt_at (V : Vals Ideal) (R l : Fin 1024) : ∀ n : ℕ, n ≤ 44 →
    accAt V n (ix2 R l) = ∑ q ∈ Finset.range ((n + 3 - R.val / 256) / 4), down V R l ⟨q % 11, Nat.mod_lt _ (by decide)⟩ := by
  intro n
  have hR : R.val / 256 ≤ 3 := by omega
  induction n with
  | zero =>
    intro _
    rw [show (0 + 3 - R.val / 256) / 4 = 0 by omega, Finset.range_zero, Finset.sum_empty]
    exact zeroV_at R l
  | succ n ih =>
    intro hn
    have ih := ih (by omega)
    by_cases h : n % 4 * 256 ≤ R.val ∧ R.val < n % 4 * 256 + 256
    · refine (put_rows_in (accAt V n) (n % 4 * 256) _ R l h).trans ?_
      rw [show (n + 1 + 3 - R.val / 256) / 4 = (n + 3 - R.val / 256) / 4 + 1 by omega, Finset.sum_range_succ, ← ih]
      refine (downV_at _ _ _ _ l).trans (congrArg₂ (· + ·) ?_ ?_)
      · refine (window_rows (accAt V n) (n % 4 * 256) _ _ l (by simp only; omega)).trans ?_
        exact congrArg (fun z => accAt V n (ix2 z l)) (Fin.ext (by simp only; omega))
      · have hq : (n + 3 - R.val / 256) / 4 = n / 4 := by omega
        refine Finset.sum_congr rfl fun c _ => congrArg₂ (· * ·) ?_ ?_
        · refine (gateV_at _ _ _ c).trans ?_
          rw [convG_at V n (by omega), convU_at V n (by omega)]
          refine congrArg₂ glu ?_ ?_
          · exact congrArg₂ (fun a b => convAt V a b c) (Fin.ext (by simp only; omega)) (Fin.ext (by simp only; omega))
          · exact congrArg₂ (fun a b => convAt V a b c) (Fin.ext (by simp only; omega)) (Fin.ext (by simp only; omega))
        · refine (window_lead V.wd (n / 4 % 11) (by omega) _ c l).trans ?_
          exact congrArg (fun z => V.wd (ix3 z c l)) (Fin.ext (by simp only; omega))
    · refine (put_rows_out (accAt V n) (n % 4 * 256) _ R l h).trans ?_
      rw [ih, show (n + 1 + 3 - R.val / 256) / 4 = (n + 3 - R.val / 256) / 4 by omega]

/-- The accumulator after the last item. -/
theorem acc_end (V : Vals Ideal) (R l : Fin 1024) : accAt V 44 (ix2 R l) = ∑ q : Fin 11, down V R l q := by
  rw [accAt_at V R l 44 le_rfl, show (44 + 3 - R.val / 256) / 4 = 11 by omega, Finset.sum_range]
  exact Finset.sum_congr rfl fun q _ => congrArg (down V R l) (Fin.ext (by simp only; omega))

end Cert.Ffn

end
-- ==== Proof.FfnBody.lean ====
/-
  The feed-forward body as a whole: from the block, the weights and the rows kept from the tile before, the normalised
  block in the output and this tile's last rows kept.
-/
module

public import proofs.«01_k».proof.Proof.FfnStates

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Facts₀ Cert.Kernel2Ideal.Facts
open Idealize.ShloMosaic.VecWindow (window put)

variable {F : FTy → Type} [FloatOps F]

local notation "𝕄" => MT nD τ sig Unit (Elt F) ℕ (UR sig nD τ) ℕ

/-! ## The printed offsets in closed form -/

theorem off1_g : ∀ (q : Fin k0_t1_loop.trips) (r : Fin 20), k0_off1 q 0#32 (BitVec.ofNat 32 r.val) = ![(20 * q.val + 2 + r.val) / 4 % 11, 0, 0] := by decide +kernel
theorem off1_u : ∀ (q : Fin k0_t1_loop.trips) (r : Fin 20), k0_off1 q 11#32 (BitVec.ofNat 32 r.val) = ![11 + (20 * q.val + 2 + r.val) / 4 % 11, 0, 0] := by decide +kernel
theorem off2_g : ∀ (q : Fin k0_t1_loop.trips) (r : Fin 20), k0_off2 q 0#32 (BitVec.ofNat 32 r.val) = ![(20 * q.val + 2 + r.val) / 4 % 11, 0, 0] := by decide +kernel
theorem off2_u : ∀ (q : Fin k0_t1_loop.trips) (r : Fin 20), k0_off2 q 11#32 (BitVec.ofNat 32 r.val) = ![11 + (20 * q.val + 2 + r.val) / 4 % 11, 0, 0] := by decide +kernel
theorem off3_g : ∀ (q : Fin k0_t1_loop.trips) (r : Fin 20), k0_off3 q 0#32 (BitVec.ofNat 32 r.val) = ![(20 * q.val + 2 + r.val) / 4 % 11, 0, 0] := by decide +kernel
theorem off3_u : ∀ (q : Fin k0_t1_loop.trips) (r : Fin 20), k0_off3 q 11#32 (BitVec.ofNat 32 r.val) = ![11 + (20 * q.val + 2 + r.val) / 4 % 11, 0, 0] := by decide +kernel
theorem off4_eq : ∀ (q : Fin k0_t1_loop.trips) (r : Fin 20), k0_off4 q (BitVec.ofNat 32 r.val) = ![(20 * q.val + 2 + r.val + 2) % 4 * 256, 0] := by decide +kernel
theorem off5_g : ∀ (q : Fin k0_t1_loop.trips) (r : Fin 20), k0_off5 q 0#32 (BitVec.ofNat 32 r.val) = ![(20 * q.val + 2 + r.val + 2) / 4 % 11, 0, 0] := by decide +kernel
theorem off5_u : ∀ (q : Fin k0_t1_loop.trips) (r : Fin 20), k0_off5 q 11#32 (BitVec.ofNat 32 r.val) = ![11 + (20 * q.val + 2 + r.val + 2) / 4 % 11, 0, 0] := by decide +kernel
theorem off6_eq : ∀ (q : Fin k0_t1_loop.trips) (r : Fin 20), k0_off6 q (BitVec.ofNat 32 r.val) = ![(20 * q.val + 1 + r.val) % 4 * 256, 0] := by decide +kernel
theorem off7_eq : ∀ (q : Fin k0_t1_loop.trips) (r : Fin 20), k0_off7 q (BitVec.ofNat 32 r.val) = ![(20 * q.val + 1 + r.val) / 4 % 11, 0, 0] := by decide +kernel

theorem pairP_congr (a : Memref sig .tc .vmem S2x256x256 .f32) (R : Refs) (g : Memref sig .tc .vmem S256x256 .bf16) (hg : g.IsWhole)
    {t0 w0 b0 t1 w1 b1 t0' w0' b0' t1' w1' b1' : Fin 3 → ℕ} (ht0 : ∀ a, t0 a + S1x8x256.size a ≤ S22x8x256.size a) (hw0 : ∀ a, w0 a + S1x3x256.size a ≤ S22x3x256.size a)
    (hb0 : ∀ a, b0 a + S1x1x256.size a ≤ S22x1x256.size a) (ht1 : ∀ a, t1 a + S1x8x256.size a ≤ S22x8x256.size a) (hw1 : ∀ a, w1 a + S1x3x256.size a ≤ S22x3x256.size a)
    (hb1 : ∀ a, b1 a + S1x1x256.size a ≤ S22x1x256.size a)
    (et0 : t0 = t0') (ew0 : w0 = w0') (eb0 : b0 = b0') (et1 : t1 = t1') (ew1 : w1 = w1') (eb1 : b1 = b1')
    (ht0' : ∀ a, t0' a + S1x8x256.size a ≤ S22x8x256.size a) (hw0' : ∀ a, w0' a + S1x3x256.size a ≤ S22x3x256.size a)
    (hb0' : ∀ a, b0' a + S1x1x256.size a ≤ S22x1x256.size a) (ht1' : ∀ a, t1' a + S1x8x256.size a ≤ S22x8x256.size a) (hw1' : ∀ a, w1' a + S1x3x256.size a ≤ S22x3x256.size a)
    (hb1' : ∀ a, b1' a + S1x1x256.size a ≤ S22x1x256.size a) :
    (pairP a R g hg t0 ht0 w0 hw0 b0 hb0 t1 ht1 w1 hw1 b1 hb1 : Body F PUnit) = pairP a R g hg t0' ht0' w0' hw0' b0' hb0' t1' ht1' w1' hw1' b1' hb1' := by
  subst et0 ew0 eb0 et1 ew1 eb1; rfl

theorem upP_congr (xb : Memref sig .tc .vmem S1024x1024 .bf16) (wu : Memref sig .tc .vmem S22x1024x256 .bf16) (a : Memref sig .tc .vmem S2x256x256 .f32)
    {ox ox' : Fin 2 → ℕ} {o0 o1 o0' o1' : Fin 3 → ℕ} (hx : ∀ a, ox a + S256x1024.size a ≤ S1024x1024.size a) (h0 : ∀ a, o0 a + S1x1024x256.size a ≤ S22x1024x256.size a)
    (h1 : ∀ a, o1 a + S1x1024x256.size a ≤ S22x1024x256.size a) (ex : ox = ox') (e0 : o0 = o0') (e1 : o1 = o1')
    (hx' : ∀ a, ox' a + S256x1024.size a ≤ S1024x1024.size a) (h0' : ∀ a, o0' a + S1x1024x256.size a ≤ S22x1024x256.size a) (h1' : ∀ a, o1' a + S1x1024x256.size a ≤ S22x1024x256.size a) :
    (upP xb wu a ox hx o0 h0 o1 h1 : Body F PUnit) = upP xb wu a ox' hx' o0' h0' o1' h1' := by
  subst ex e0 e1; rfl

theorem downP_congr (acc : Memref sig .tc .vmem S1024x1024 .f32) (g : Memref sig .tc .vmem S256x256 .bf16) (wd : Memref sig .tc .vmem S11x256x1024 .bf16)
    {o o' : Fin 2 → ℕ} {ow ow' : Fin 3 → ℕ} (h : ∀ a, o a + S256x1024.size a ≤ S1024x1024.size a) (hw : ∀ a, ow a + S1x256x1024.size a ≤ S11x256x1024.size a)
    (e : o = o') (ew : ow = ow') (h' : ∀ a, o' a + S256x1024.size a ≤ S1024x1024.size a) (hw' : ∀ a, ow' a + S1x256x1024.size a ≤ S11x256x1024.size a) :
    (downP acc g wd o h ow hw : Body F PUnit) = downP acc g wd o' h' ow' hw' := by
  subst e ew; rfl

/-- A stage of the loop at literal items. -/
theorem tripStage_eq (R : Refs) (q : Fin k0_t1_loop.trips) (r : Fin 20) (a a' : Memref sig .tc .vmem S2x256x256 .f32) (g : Memref sig .tc .vmem S256x256 .bf16) (hg : g.IsWhole)
    (g' : Memref sig .tc .vmem S256x256 .bf16) :
    (tripStage R q r a a' g hg g' : Body F PUnit)
      = (do pairL R a g hg (20 * q.val + 2 + r.val); upL R a' (20 * q.val + 2 + r.val + 2); downL R g' (20 * q.val + 1 + r.val)) := by
  unfold tripStage pairL upL downL
  rw [pairP_congr a R g hg _ _ _ _ _ _ (off1_g q r) (off2_g q r) (off3_g q r) (off1_u q r) (off2_u q r) (off3_u q r)
      (bd3 _ (by omega)) (bd3 _ (by omega)) (bd3 _ (by omega)) (bd3 _ (by omega)) (bd3 _ (by omega)) (bd3 _ (by omega)),
    upP_congr R.xb R.wu a' _ _ _ (off4_eq q r) (off5_g q r) (off5_u q r) (bdRow _ (by omega)) (bd3 _ (by omega)) (bd3 _ (by omega)),
    downP_congr R.acc g' R.wd _ _ (off6_eq q r) (off7_eq q r) (bdRow _ (by omega)) (bd3 _ (by omega))]

/-! ## The stages' steps -/

/-- A stage with slot 0 in hand. -/
theorem stage0_wp (c : Dev nD) (R : Refs) (V : Vals F) (XB : Vec F S1024x1024 .bf16) (A1 A2 A3 : Vec F S2x256x256 .f32) (G0 G1 G2 : Vec F S256x256 .bf16)
    (n m : ℕ) (h : Holds V XB (n + 2)) (k : PUnit → Body F PUnit) (Q : PUnit → sProp 𝕄) :
    St c R V XB (aItem V n) A1 A2 A3 G0 G1 G2 (gItem V m) (tailAt V n) (accAt V m)
      ⊢ iprop((St c R V XB (aItem V n) A1 (aItem V (n + 2)) A3 (gItem V n) G1 G2 (gItem V m) (tailAt V (n + 1)) (accAt V (m + 1)) -∗ wp frame (wpE (defs₀ (F := F)) Variants.none (c : Thread nD τ) none) Set.univ (k ⟨⟩) Q)
        -∗ wp frame (wpE (defs₀ (F := F)) Variants.none (c : Thread nD τ) none) Set.univ
          ((do pairL R R.a0 R.g0 R.h0 n; upL R R.a2 (n + 2); downL R R.g3 m) >>= k) Q) := by
  simp only [bind_assoc]
  iintro H HK
  iapply (pair0_wp c R V XB _ _ _ _ _ _ _ _ n _ Q) $$ H; iintro H
  iapply (up2_wp c R V XB _ _ _ _ _ _ _ _ _ _ (n + 2) h _ Q) $$ H; iintro H
  iapply (down3_wp c R V XB _ _ _ _ _ _ _ _ m _ Q) $$ H; iintro H
  iapply HK; iexact H

/-- A stage with slot 1 in hand. -/
theorem stage1_wp (c : Dev nD) (R : Refs) (V : Vals F) (XB : Vec F S1024x1024 .bf16) (A0 A2 A3 : Vec F S2x256x256 .f32) (G1 G2 G3 : Vec F S256x256 .bf16)
    (n m : ℕ) (h : Holds V XB (n + 2)) (k : PUnit → Body F PUnit) (Q : PUnit → sProp 𝕄) :
    St c R V XB A0 (aItem V n) A2 A3 (gItem V m) G1 G2 G3 (tailAt V n) (accAt V m)
      ⊢ iprop((St c R V XB A0 (aItem V n) A2 (aItem V (n + 2)) (gItem V m) (gItem V n) G2 G3 (tailAt V (n + 1)) (accAt V (m + 1)) -∗ wp frame (wpE (defs₀ (F := F)) Variants.none (c : Thread nD τ) none) Set.univ (k ⟨⟩) Q)
        -∗ wp frame (wpE (defs₀ (F := F)) Variants.none (c : Thread nD τ) none) Set.univ
          ((do pairL R R.a1 R.g1 R.h1 n; upL R R.a3 (n + 2); downL R R.g0 m) >>= k) Q) := by
  simp only [bind_assoc]
  iintro H HK
  iapply (pair1_wp c R V XB _ _ _ _ _ _ _ _ n _ Q) $$ H; iintro H
  iapply (up3_wp c R V XB _ _ _ _ _ _ _ _ _ _ (n + 2) h _ Q) $$ H; iintro H
  iapply (down0_wp c R V XB _ _ _ _ _ _ _ _ m _ Q) $$ H; iintro H
  iapply HK; iexact H

/-- A stage with slot 2 in hand. -/
theorem stage2_wp (c : Dev nD) (R : Refs) (V : Vals F) (XB : Vec F S1024x1024 .bf16) (A0 A1 A3 : Vec F S2x256x256 .f32) (G0 G2 G3 : Vec F S256x256 .bf16)
    (n m : ℕ) (h : Holds V XB (n + 2)) (k : PUnit → Body F PUnit) (Q : PUnit → sProp 𝕄) :
    St c R V XB A0 A1 (aItem V n) A3 G0 (gItem V m) G2 G3 (tailAt V n) (accAt V m)
      ⊢ iprop((St c R V XB (aItem V (n + 2)) A1 (aItem V n) A3 G0 (gItem V m) (gItem V n) G3 (tailAt V (n + 1)) (accAt V (m + 1)) -∗ wp frame (wpE (defs₀ (F := F)) Variants.none (c : Thread nD τ) none) Set.univ (k ⟨⟩) Q)
        -∗ wp frame (wpE (defs₀ (F := F)) Variants.none (c : Thread nD τ) none) Set.univ
          ((do pairL R R.a2 R.g2 R.h2 n; upL R R.a0 (n + 2); downL R R.g1 m) >>= k) Q) := by
  simp only [bind_assoc]
  iintro H HK
  iapply (pair2_wp c R V XB _ _ _ _ _ _ _ _ n _ Q) $$ H; iintro H
  iapply (up0_wp c R V XB _ _ _ _ _ _ _ _ _ _ (n + 2) h _ Q) $$ H; iintro H
  iapply (down1_wp c R V XB _ _ _ _ _ _ _ _ m _ Q) $$ H; iintro H
  iapply HK; iexact H

/-- A stage with slot 3 in hand. -/
theorem stage3_wp (c : Dev nD) (R : Refs) (V : Vals F) (XB : Vec F S1024x1024 .bf16) (A0 A1 A2 : Vec F S2x256x256 .f32) (G0 G1 G3 : Vec F S256x256 .bf16)
    (n m : ℕ) (h : Holds V XB (n + 2)) (k : PUnit → Body F PUnit) (Q : PUnit → sProp 𝕄) :
    St c R V XB A0 A1 A2 (aItem V n) G0 G1 (gItem V m) G3 (tailAt V n) (accAt V m)
      ⊢ iprop((St c R V XB A0 (aItem V (n + 2)) A2 (aItem V n) G0 G1 (gItem V m) (gItem V n) (tailAt V (n + 1)) (accAt V (m + 1)) -∗ wp frame (wpE (defs₀ (F := F)) Variants.none (c : Thread nD τ) none) Set.univ (k ⟨⟩) Q)
        -∗ wp frame (wpE (defs₀ (F := F)) Variants.none (c : Thread nD τ) none) Set.univ
          ((do pairL R R.a3 R.g3 R.h3 n; upL R R.a1 (n + 2); downL R R.g2 m) >>= k) Q) := by
  simp only [bind_assoc]
  iintro H HK
  iapply (pair3_wp c R V XB _ _ _ _ _ _ _ _ n _ Q) $$ H; iintro H
  iapply (up1_wp c R V XB _ _ _ _ _ _ _ _ _ _ (n + 2) h _ Q) $$ H; iintro H
  iapply (down2_wp c R V XB _ _ _ _ _ _ _ _ m _ Q) $$ H; iintro H
  iapply HK; iexact H

/-- What holds before trip `q` of the loop. -/
def LoopInv (c : Dev nD) (R : Refs) (V : Vals F) (XB : Vec F S1024x1024 .bf16) (q : ℕ) : sProp 𝕄 :=
  iprop(∃ (A0 : Vec F S2x256x256 .f32) (A1 : Vec F S2x256x256 .f32) (G0 : Vec F S256x256 .bf16) (G2 : Vec F S256x256 .bf16) (G3 : Vec F S256x256 .bf16), St c R V XB A0 A1 (aItem V (20 * q + 2)) (aItem V (20 * q + 3)) G0 (gItem V (20 * q + 1)) G2 G3 (tailAt V (20 * q + 2)) (accAt V (20 * q + 1)))

/-- One trip. -/
theorem trip_wp (c : Dev nD) (R : Refs) (V : Vals F) (XB : Vec F S1024x1024 .bf16) (h : ∀ n, Holds V XB n) (q : Fin k0_t1_loop.trips) :
    LoopInv c R V XB q.val ⊢ wp frame (wpE (defs₀ (F := F)) Variants.none (c : Thread nD τ) none) Set.univ (tripP R q : Body F PUnit) (fun _ => LoopInv c R V XB (q.val + 1)) := by
  unfold LoopInv tripP
  iintro ⟨%A0, %A1, %G0, %G2, %G3, H⟩
  rw [tripStage_eq R q 0]
  iapply (stage2_wp c R V XB _ _ _ _ _ _ (20 * q.val + 2 + ((0 : Fin 20)).val) (20 * q.val + 1 + ((0 : Fin 20)).val) (h _) _ _) $$ H; iintro H
  rw [tripStage_eq R q 1]
  iapply (stage3_wp c R V XB _ _ _ _ _ _ (20 * q.val + 2 + ((1 : Fin 20)).val) (20 * q.val + 1 + ((1 : Fin 20)).val) (h _) _ _) $$ H; iintro H
  rw [tripStage_eq R q 2]
  iapply (stage0_wp c R V XB _ _ _ _ _ _ (20 * q.val + 2 + ((2 : Fin 20)).val) (20 * q.val + 1 + ((2 : Fin 20)).val) (h _) _ _) $$ H; iintro H
  rw [tripStage_eq R q 3]
  iapply (stage1_wp c R V XB _ _ _ _ _ _ (20 * q.val + 2 + ((3 : Fin 20)).val) (20 * q.val + 1 + ((3 : Fin 20)).val) (h _) _ _) $$ H; iintro H
  rw [tripStage_eq R q 4]
  iapply (stage2_wp c R V XB _ _ _ _ _ _ (20 * q.val + 2 + ((4 : Fin 20)).val) (20 * q.val + 1 + ((4 : Fin 20)).val) (h _) _ _) $$ H; iintro H
  rw [tripStage_eq R q 5]
  iapply (stage3_wp c R V XB _ _ _ _ _ _ (20 * q.val + 2 + ((5 : Fin 20)).val) (20 * q.val + 1 + ((5 : Fin 20)).val) (h _) _ _) $$ H; iintro H
  rw [tripStage_eq R q 6]
  iapply (stage0_wp c R V XB _ _ _ _ _ _ (20 * q.val + 2 + ((6 : Fin 20)).val) (20 * q.val + 1 + ((6 : Fin 20)).val) (h _) _ _) $$ H; iintro H
  rw [tripStage_eq R q 7]
  iapply (stage1_wp c R V XB _ _ _ _ _ _ (20 * q.val + 2 + ((7 : Fin 20)).val) (20 * q.val + 1 + ((7 : Fin 20)).val) (h _) _ _) $$ H; iintro H
  rw [tripStage_eq R q 8]
  iapply (stage2_wp c R V XB _ _ _ _ _ _ (20 * q.val + 2 + ((8 : Fin 20)).val) (20 * q.val + 1 + ((8 : Fin 20)).val) (h _) _ _) $$ H; iintro H
  rw [tripStage_eq R q 9]
  iapply (stage3_wp c R V XB _ _ _ _ _ _ (20 * q.val + 2 + ((9 : Fin 20)).val) (20 * q.val + 1 + ((9 : Fin 20)).val) (h _) _ _) $$ H; iintro H
  rw [tripStage_eq R q 10]
  iapply (stage0_wp c R V XB _ _ _ _ _ _ (20 * q.val + 2 + ((10 : Fin 20)).val) (20 * q.val + 1 + ((10 : Fin 20)).val) (h _) _ _) $$ H; iintro H
  rw [tripStage_eq R q 11]
  iapply (stage1_wp c R V XB _ _ _ _ _ _ (20 * q.val + 2 + ((11 : Fin 20)).val) (20 * q.val + 1 + ((11 : Fin 20)).val) (h _) _ _) $$ H; iintro H
  rw [tripStage_eq R q 12]
  iapply (stage2_wp c R V XB _ _ _ _ _ _ (20 * q.val + 2 + ((12 : Fin 20)).val) (20 * q.val + 1 + ((12 : Fin 20)).val) (h _) _ _) $$ H; iintro H
  rw [tripStage_eq R q 13]
  iapply (stage3_wp c R V XB _ _ _ _ _ _ (20 * q.val + 2 + ((13 : Fin 20)).val) (20 * q.val + 1 + ((13 : Fin 20)).val) (h _) _ _) $$ H; iintro H
  rw [tripStage_eq R q 14]
  iapply (stage0_wp c R V XB _ _ _ _ _ _ (20 * q.val + 2 + ((14 : Fin 20)).val) (20 * q.val + 1 + ((14 : Fin 20)).val) (h _) _ _) $$ H; iintro H
  rw [tripStage_eq R q 15]
  iapply (stage1_wp c R V XB _ _ _ _ _ _ (20 * q.val + 2 + ((15 : Fin 20)).val) (20 * q.val + 1 + ((15 : Fin 20)).val) (h _) _ _) $$ H; iintro H
  rw [tripStage_eq R q 16]
  iapply (stage2_wp c R V XB _ _ _ _ _ _ (20 * q.val + 2 + ((16 : Fin 20)).val) (20 * q.val + 1 + ((16 : Fin 20)).val) (h _) _ _) $$ H; iintro H
  rw [tripStage_eq R q 17]
  iapply (stage3_wp c R V XB _ _ _ _ _ _ (20 * q.val + 2 + ((17 : Fin 20)).val) (20 * q.val + 1 + ((17 : Fin 20)).val) (h _) _ _) $$ H; iintro H
  rw [tripStage_eq R q 18]
  iapply (stage0_wp c R V XB _ _ _ _ _ _ (20 * q.val + 2 + ((18 : Fin 20)).val) (20 * q.val + 1 + ((18 : Fin 20)).val) (h _) _ _) $$ H; iintro H
  rw [tripStage_eq R q 19]
  iapply (stage1_wp c R V XB _ _ _ _ _ _ (20 * q.val + 2 + ((19 : Fin 20)).val) (20 * q.val + 1 + ((19 : Fin 20)).val) (h _) _ _) $$ H; iintro H
  rw [wp_pure]; imodintro
  iexists _; iexists _; iexists _; iexists _; iexists _
  iexact H

/-- The whole state with the slots left open. -/
def StOpen (c : Dev nD) (R : Refs) (V : Vals F) (T : Vec F S22x8x256 .f32) (S : Vec F S1024x1024 .f32) : sProp 𝕄 :=
  iprop(∃ (XB : Vec F S1024x1024 .bf16) (A0 : Vec F S2x256x256 .f32) (A1 : Vec F S2x256x256 .f32) (A2 : Vec F S2x256x256 .f32) (A3 : Vec F S2x256x256 .f32)
    (G0 : Vec F S256x256 .bf16) (G1 : Vec F S256x256 .bf16) (G2 : Vec F S256x256 .bf16) (G3 : Vec F S256x256 .bf16), St c R V XB A0 A1 A2 A3 G0 G1 G2 G3 T S)

/-! ## The half-width scratch -/

/-- The scratch with slab `k` copied. -/
def copied (V : Vals F) (Y : Vec F S1024x1024 .bf16) (k : ℕ) : Vec F S1024x1024 .bf16 := put Y ![k % 4 * 256, 0] S256x1024.size (xslab V k)

theorem holds_copied (V : Vals F) (Y : Vec F S1024x1024 .bf16) (k : ℕ) : Holds V (copied V Y k) k :=
  VecWindow.window_put_same Y ![k % 4 * 256, 0] S256x1024.size (bdRow (k % 4) (by omega)) (xslab V k)

theorem holds_keep (V : Vals F) (Y : Vec F S1024x1024 .bf16) (k n : ℕ) (hne : n % 4 ≠ k % 4) (h : Holds V Y n) : Holds V (copied V Y k) n := by
  refine (VecWindow.window_put_of_disjoint Y ![k % 4 * 256, 0] S256x1024.size ![n % 4 * 256, 0] S256x1024.size (bdRow (n % 4) (by omega)) (xslab V k) 0 ?_).trans h
  show n % 4 * 256 + 256 ≤ k % 4 * 256 ∨ k % 4 * 256 + 256 ≤ n % 4 * 256
  omega

theorem holds_mod (V : Vals F) (Y : Vec F S1024x1024 .bf16) (k n : ℕ) (e : n % 4 = k % 4) (h : Holds V Y k) : Holds V Y n := by
  have key : ∀ (p q : ℕ) (hp : p < 4) (hq : q < 4), p = q →
      window Y ![q * 256, 0] S256x1024.size (bdRow q hq) = castV (window V.x ![0, q * 256, 0] S1x256x1024.size (bdSlab q hq)) →
      window Y ![p * 256, 0] S256x1024.size (bdRow p hp) = castV (window V.x ![0, p * 256, 0] S1x256x1024.size (bdSlab p hp)) := by
    intro p q hp hq e; subst e; exact id
  exact key _ _ (Nat.mod_lt _ (by decide)) (Nat.mod_lt _ (by decide)) e h

theorem holds_all (V : Vals F) (Y : Vec F S1024x1024 .bf16) (n : ℕ) : Holds V (copied V (copied V (copied V (copied V Y 0) 1) 2) 3) n := by
  have h0 := holds_copied V Y 0
  have h1 := holds_copied V (copied V Y 0) 1
  have h2 := holds_copied V (copied V (copied V Y 0) 1) 2
  have h3 := holds_copied V (copied V (copied V (copied V Y 0) 1) 2) 3
  have hn : n % 4 = 0 ∨ n % 4 = 1 ∨ n % 4 = 2 ∨ n % 4 = 3 := by omega
  rcases hn with e | e | e | e
  · exact holds_mod V _ 0 n e (holds_keep V _ 3 0 (by decide) (holds_keep V _ 2 0 (by decide) (holds_keep V _ 1 0 (by decide) h0)))
  · exact holds_mod V _ 1 n e (holds_keep V _ 3 1 (by decide) (holds_keep V _ 2 1 (by decide) h1))
  · exact holds_mod V _ 2 n e (holds_keep V _ 3 2 (by decide) h2)
  · exact holds_mod V _ 3 n e h3

/-- A slab copied. -/
theorem cast_wp (c : Dev nD) (R : Refs) (V : Vals F) (Y : Vec F S1024x1024 .bf16) (A0 A1 A2 A3 : Vec F S2x256x256 .f32) (G0 G1 G2 G3 : Vec F S256x256 .bf16)
    (T : Vec F S22x8x256 .f32) (S : Vec F S1024x1024 .f32) (n : ℕ)
    (hx : (R.xb.access (Rect.unit (s := S1024x1024) ![n % 4 * 256, 0] S256x1024.size (bdRow (n % 4) (by omega)))).Stores Finset.univ) (k : PUnit → Body F PUnit) (Q : PUnit → sProp 𝕄) :
    iprop(owns (c : Thread nD τ) R.x fullShare V.x ∗ St c R V Y A0 A1 A2 A3 G0 G1 G2 G3 T S)
      ⊢ iprop((owns (c : Thread nD τ) R.x fullShare V.x ∗ St c R V (copied V Y n) A0 A1 A2 A3 G0 G1 G2 G3 T S
            -∗ wp frame (wpE (defs₀ (F := F)) Variants.none (c : Thread nD τ) none) Set.univ (k ⟨⟩) Q)
        -∗ wp frame (wpE (defs₀ (F := F)) Variants.none (c : Thread nD τ) none) Set.univ (castL R n hx >>= k) Q) := by
  unfold St castL
  rw [wp_bind]
  iintro ⟨Hx, HXb, HR⟩ HK
  iapply (castP_wp c R.x R.xb ![0, n % 4 * 256, 0] (bdSlab (n % 4) (by omega)) ![n % 4 * 256, 0] (bdRow (n % 4) (by omega)) hx V.x Y _)
  isplitl [Hx]; · iexact Hx
  isplitl [HXb]; · iexact HXb
  iintro ⟨Hx, HXb⟩
  iapply HK
  isplitl [Hx]; · iexact Hx
  isplitl [HXb]; · iexact HXb
  iexact HR

/-- The accumulator cleared. -/
theorem clear_wp (c : Dev nD) (R : Refs) (V : Vals F) (XB : Vec F S1024x1024 .bf16) (A0 A1 A2 A3 : Vec F S2x256x256 .f32) (G0 G1 G2 G3 : Vec F S256x256 .bf16)
    (T : Vec F S22x8x256 .f32) (S : Vec F S1024x1024 .f32) (k : PUnit → Body F PUnit) (Q : PUnit → sProp 𝕄) :
    St c R V XB A0 A1 A2 A3 G0 G1 G2 G3 T S
      ⊢ iprop((St c R V XB A0 A1 A2 A3 G0 G1 G2 G3 T (accAt V 0)
            -∗ wp frame (wpE (defs₀ (F := F)) Variants.none (c : Thread nD τ) none) Set.univ (k ⟨⟩) Q)
        -∗ wp frame (wpE (defs₀ (F := F)) Variants.none (c : Thread nD τ) none) Set.univ (clearP R >>= k) Q) := by
  unfold St clearP
  rw [wp_bind]
  iintro ⟨HXb, HWu, HCw, HCb, HWd, HA0, HA1, HA2, HA3, HG0, HG1, HG2, HG3, HT, HS⟩ HK
  iapply (load_owned c R.acc inb_S1024x1024_S1024x1024_0_0 _ S _ _) $$ HS; iintro HS
  iapply (store_owned c R.acc inb_S1024x1024_S1024x1024_0_0 _ _ _ S _ _) $$ HS; iintro HS
  rw [wp_pure, put_whole (s := S1024x1024) S ![0, 0] (by decide) zeroV]; imodintro
  iapply HK
  isplitl [HXb]; · iexact HXb
  isplitl [HWu]; · iexact HWu
  isplitl [HCw]; · iexact HCw
  isplitl [HCb]; · iexact HCb
  isplitl [HWd]; · iexact HWd
  isplitl [HA0]; · iexact HA0
  isplitl [HA1]; · iexact HA1
  isplitl [HA2]; · iexact HA2
  isplitl [HA3]; · iexact HA3
  isplitl [HG0]; · iexact HG0
  isplitl [HG1]; · iexact HG1
  isplitl [HG2]; · iexact HG2
  isplitl [HG3]; · iexact HG3
  isplitl [HT]; · iexact HT
  iexact HS

/-- The kept rows set to zero. -/
theorem reset_wp (c : Dev nD) (R : Refs) (T : Vec F S22x8x256 .f32) (k : Body F PUnit) (Q : PUnit → sProp 𝕄) :
    owns (c : Thread nD τ) R.tl fullShare T
      ⊢ iprop((owns (c : Thread nD τ) R.tl fullShare (noTailV (F := F)) -∗ wp frame (wpE (defs₀ (F := F)) Variants.none (c : Thread nD τ) none) Set.univ k Q)
        -∗ wp frame (wpE (defs₀ (F := F)) Variants.none (c : Thread nD τ) none) Set.univ (resetP R k) Q) := by
  unfold resetP
  iintro HT HK
  iapply (load_owned c R.tl inb_S22x8x256_S22x8x256_0_0_0 _ T _ _) $$ HT; iintro HT
  iapply (store_owned c R.tl inb_S22x8x256_S22x8x256_0_0_0 _ _ _ T _ _) $$ HT; iintro HT
  rw [put_whole (s := S22x8x256) T ![0, 0, 0] (by decide) noTailV]
  iapply HK; iexact HT

/-- The output block written. -/
theorem norm_wp (c : Dev nD) (R : Refs) (x : Vec F S1x1024x1024 .f32) (S : Vec F S1024x1024 .f32) (g b : Vec F S1x1024 .f32) (O : Vec F S1x1024x1024 .f32) (Q : PUnit → sProp 𝕄) :
    iprop(owns (c : Thread nD τ) R.x fullShare x ∗ owns (c : Thread nD τ) R.acc fullShare S ∗ owns (c : Thread nD τ) R.g fullShare g ∗ owns (c : Thread nD τ) R.b fullShare b
        ∗ owns (c : Thread nD τ) R.o fullShare O
        ∗ (owns (c : Thread nD τ) R.x fullShare x ∗ owns (c : Thread nD τ) R.acc fullShare S ∗ owns (c : Thread nD τ) R.g fullShare g ∗ owns (c : Thread nD τ) R.b fullShare b
            ∗ owns (c : Thread nD τ) R.o fullShare (normV x S g b) -∗ Q ⟨⟩))
      ⊢ wp frame (wpE (defs₀ (F := F)) Variants.none (c : Thread nD τ) none) Set.univ (normP R : Body F PUnit) Q := by
  unfold normP
  iintro ⟨Hx, HS, Hg, Hb, HO, HQ⟩
  iapply (load_owned c R.x inb_S1x1024x1024_S1x1024x1024_0_0_0 _ x _ _) $$ Hx; iintro Hx
  iapply (load_owned c R.acc inb_S1024x1024_S1024x1024_0_0 _ S _ _) $$ HS; iintro HS
  iapply (load_owned c R.g inb_S1x1024_S1x1024_0_0 _ g _ _) $$ Hg; iintro Hg
  iapply (load_owned c R.b inb_S1x1024_S1x1024_0_0 _ b _ _) $$ Hb; iintro Hb
  iapply (load_owned c R.o inb_S1x1024x1024_S1x1024x1024_0_0_0 _ O _ _) $$ HO; iintro HO
  iapply (store_owned c R.o inb_S1x1024x1024_S1x1024x1024_0_0_0 _ _ _ O _ _) $$ HO; iintro HO
  rw [wp_pure, put_whole (s := S1x1024x1024) O ![0, 0, 0] (by decide), window_whole (s := S1x1024x1024) x ![0, 0, 0] (by decide), window_whole (s := S1024x1024) S ![0, 0] (by decide),
    window_whole (s := S1x1024) g ![0, 0] (by decide), window_whole (s := S1x1024) b ![0, 0] (by decide)]
  imodintro
  iapply HQ
  isplitl [Hx]; · iexact Hx
  isplitl [HS]; · iexact HS
  isplitl [Hg]; · iexact Hg
  isplitl [Hb]; · iexact Hb
  iexact HO

/-- What the body leaves: the normalised block, and the last rows of every chunk. -/
theorem rest_wp (c : Dev nD) (R : Refs) (V : Vals F) (g b : Vec F S1x1024 .f32) (O : Vec F S1x1024x1024 .f32) (S : Vec F S1024x1024 .f32) (Q : PUnit → sProp 𝕄) :
    iprop(owns (c : Thread nD τ) R.x fullShare V.x ∗ owns (c : Thread nD τ) R.g fullShare g ∗ owns (c : Thread nD τ) R.b fullShare b ∗ owns (c : Thread nD τ) R.o fullShare O
        ∗ StOpen c R V (tailAt V 0) S
        ∗ (owns (c : Thread nD τ) R.x fullShare V.x ∗ owns (c : Thread nD τ) R.g fullShare g ∗ owns (c : Thread nD τ) R.b fullShare b
            ∗ owns (c : Thread nD τ) R.o fullShare (normV V.x (accAt V 44) g b) ∗ StOpen c R V (tailAt V 44) (accAt V 44) -∗ Q ⟨⟩))
      ⊢ wp frame (wpE (defs₀ (F := F)) Variants.none (c : Thread nD τ) none) Set.univ (restP R : Body F PUnit) Q := by
  unfold restP headP StOpen
  iintro ⟨Hx, Hg, Hb, HO, ⟨%Y, %A0, %A1, %A2, %A3, %G0, %G1, %G2, %G3, H⟩, HQ⟩
  iapply (cast_wp c R V Y _ _ _ _ _ _ _ _ _ _ 0 _ _ _) $$ [Hx H]
  · isplitl [Hx]; · iexact Hx
    iexact H
  iintro ⟨Hx, H⟩
  iapply (up0_wp c R V _ _ _ _ _ _ _ _ _ _ _ 0 (holds_copied V _ 0) _ _) $$ H; iintro H
  iapply (cast_wp c R V _ _ _ _ _ _ _ _ _ _ _ 1 _ _ _) $$ [Hx H]
  · isplitl [Hx]; · iexact Hx
    iexact H
  iintro ⟨Hx, H⟩
  iapply (up1_wp c R V _ _ _ _ _ _ _ _ _ _ _ 1 (holds_copied V _ 1) _ _) $$ H; iintro H
  iapply (cast_wp c R V _ _ _ _ _ _ _ _ _ _ _ 2 _ _ _) $$ [Hx H]
  · isplitl [Hx]; · iexact Hx
    iexact H
  iintro ⟨Hx, H⟩
  iapply (cast_wp c R V _ _ _ _ _ _ _ _ _ _ _ 3 _ _ _) $$ [Hx H]
  · isplitl [Hx]; · iexact Hx
    iexact H
  iintro ⟨Hx, H⟩
  iapply (clear_wp c R V _ _ _ _ _ _ _ _ _ _ _ _ _) $$ H; iintro H
  iapply (pair0_wp c R V _ _ _ _ _ _ _ _ _ 0 _ _) $$ H; iintro H
  iapply (up2_wp c R V _ _ _ _ _ _ _ _ _ _ _ 2 (holds_all V Y 2) _ _) $$ H; iintro H
  iapply (pair1_wp c R V _ _ _ _ _ _ _ _ _ 1 _ _) $$ H; iintro H
  iapply (up3_wp c R V _ _ _ _ _ _ _ _ _ _ _ 3 (holds_all V Y 3) _ _) $$ H; iintro H
  iapply (down0_wp c R V _ _ _ _ _ _ _ _ _ 0 _ _) $$ H; iintro H
  rw [wp_bind]
  unfold loopP
  iapply (Scf.wp_for frame (wpE (defs₀ (F := F)) Variants.none (c : Thread nD τ) none) Set.univ _ _ _ _ _ _
    (fun q _ => LoopInv c R V (copied V (copied V (copied V (copied V Y 0) 1) 2) 3) q) (fun q _ => trip_wp c R V _ (holds_all V Y) q))
  isplitl [H]
  · unfold LoopInv
    iexists _; iexists _; iexists _; iexists _; iexists _
    iexact H
  iintro %u H
  unfold LoopInv
  icases H with ⟨%B0, %B1, %E0, %E2, %E3, H⟩
  rw [show Scf.trips k0_t1_loop.lb k0_t1_loop.ub k0_t1_loop.st = 2 from by decide +kernel]
  unfold endP
  iapply (pair2_wp c R V _ _ _ _ _ _ _ _ _ 42 _ _) $$ H; iintro H
  iapply (down1_wp c R V _ _ _ _ _ _ _ _ _ 41 _ _) $$ H; iintro H
  iapply (pair3_wp c R V _ _ _ _ _ _ _ _ _ 43 _ _) $$ H; iintro H
  iapply (down2_wp c R V _ _ _ _ _ _ _ _ _ 42 _ _) $$ H; iintro H
  iapply (down3_wp c R V _ _ _ _ _ _ _ _ _ 43 _ _) $$ H; iintro H
  unfold St
  icases H with ⟨HXb, HWu, HCw, HCb, HWd, HA0, HA1, HA2, HA3, HG0, HG1, HG2, HG3, HT, HS⟩
  iapply (norm_wp c R V.x _ g b O _)
  isplitl [Hx]; · iexact Hx
  isplitl [HS]; · iexact HS
  isplitl [Hg]; · iexact Hg
  isplitl [Hb]; · iexact Hb
  isplitl [HO]; · iexact HO
  iintro ⟨Hx, HS, Hg, Hb, HO⟩
  iapply HQ
  isplitl [Hx]; · iexact Hx
  isplitl [Hg]; · iexact Hg
  isplitl [Hb]; · iexact Hb
  isplitl [HO]; · iexact HO
  iexists _; iexists _; iexists _; iexists _; iexists _; iexists _; iexists _; iexists _; iexists _
  isplitl [HXb]; · iexact HXb
  isplitl [HWu]; · iexact HWu
  isplitl [HCw]; · iexact HCw
  isplitl [HCb]; · iexact HCb
  isplitl [HWd]; · iexact HWd
  isplitl [HA0]; · iexact HA0
  isplitl [HA1]; · iexact HA1
  isplitl [HA2]; · iexact HA2
  isplitl [HA3]; · iexact HA3
  isplitl [HG0]; · iexact HG0
  isplitl [HG1]; · iexact HG1
  isplitl [HG2]; · iexact HG2
  isplitl [HG3]; · iexact HG3
  isplitl [HT]; · iexact HT
  iexact HS

end Cert.Ffn

end
-- ==== Proof.FfnRun.lean ====
/-
  The feed-forward call run on the machine: what each scratch buffer holds between grid points, the body's triple at a
  generic point, the launch, and the two programs' frames.
-/
module

public import proofs.«01_k».proof.Proof.FfnBody
public import proofs.«01_k».proof.Proof.Gen.Kernel2Ideal.Frame
public import Idealize.ShloMosaic.Lib.Claim

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body works in -/

abbrev scr0 : Memref sig .tc .vmem S1024x1024 .f32 := Memref.whole cc0_scratch0
abbrev scr1 : Memref sig .tc .vmem S22x8x256 .f32 := Memref.whole cc0_scratch1
abbrev scr2 : Memref sig .tc .vmem S1024x1024 .bf16 := Memref.whole cc0_scratch2
abbrev scr3 : Memref sig .tc .vmem S2x256x256 .f32 := Memref.whole cc0_scratch3
abbrev scr4 : Memref sig .tc .vmem S2x256x256 .f32 := Memref.whole cc0_scratch4
abbrev scr5 : Memref sig .tc .vmem S2x256x256 .f32 := Memref.whole cc0_scratch5
abbrev scr6 : Memref sig .tc .vmem S2x256x256 .f32 := Memref.whole cc0_scratch6
abbrev scr7 : Memref sig .tc .vmem S256x256 .bf16 := Memref.whole cc0_scratch7
abbrev scr8 : Memref sig .tc .vmem S256x256 .bf16 := Memref.whole cc0_scratch8
abbrev scr9 : Memref sig .tc .vmem S256x256 .bf16 := Memref.whole cc0_scratch9
abbrev scr10 : Memref sig .tc .vmem S256x256 .bf16 := Memref.whole cc0_scratch10

/-- The buffers of point `t`. -/
def refsAt (t : Fin cfg0.N) : Refs :=
  ⟨st0_0 t, st0_1 t, st0_2 t, st0_3 t, st0_4 t, st0_5 t, st0_6 t, st0_8 t, scr0, scr1, scr2, scr3, scr4, scr5, scr6, scr7, scr8, scr9, scr10,
    Memref.isWhole_whole _, Memref.isWhole_whole _, Memref.isWhole_whole _, Memref.isWhole_whole _, Memref.isWhole_whole _⟩

/-- The body on the buffers of point `t`, at coordinates `j`. -/
def bodyWith (j : grid0.Coords) (t : Fin cfg0.N) : Body F PUnit :=
  cc0_conv_ffn j (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _)

theorem bodyWith_first (j : grid0.Coords) (t : Fin cfg0.N) :
    bodyWith (F := F) (Function.update j 1 (⟨0, by decide⟩ : Fin 2)) t = resetP (refsAt t) (restP (refsAt t)) :=
  body_first ..

theorem bodyWith_next (j : grid0.Coords) (t : Fin cfg0.N) :
    bodyWith (F := F) (Function.update j 1 (⟨1, by decide⟩ : Fin 2)) t = restP (refsAt t) :=
  body_next ..

theorem coords_val : ∀ t : Fin grid0.N, (grid0.coords t 1).val = t.val % 2 := by decide +kernel
theorem coords_even (t : Fin grid0.N) (h : t.val % 2 = 0) : grid0.coords t 1 = (⟨0, by decide⟩ : Fin 2) := Fin.ext ((coords_val t).trans h)
theorem coords_odd (t : Fin grid0.N) (h : t.val % 2 = 1) : grid0.coords t 1 = (⟨1, by decide⟩ : Fin 2) := Fin.ext ((coords_val t).trans h)

/-- An even point is a sequence's first tile: the kept rows are cleared. -/
theorem body_even (t : Fin cfg0.N) (h : t.val % 2 = 0) : bodyAt0 (F := F) t = resetP (refsAt t) (restP (refsAt t)) := by
  have e : grid0.coords t = Function.update (grid0.coords t) 1 (⟨0, by decide⟩ : Fin 2) := by
    rw [← coords_even t h, Function.update_eq_self]
  refine Eq.trans (show bodyAt0 (F := F) t = bodyWith (grid0.coords t) t from rfl) ?_
  rw [e]; exact bodyWith_first _ t

/-- An odd point is its second tile: the kept rows are the first's. -/
theorem body_odd (t : Fin cfg0.N) (h : t.val % 2 = 1) : bodyAt0 (F := F) t = restP (refsAt t) := by
  have e : grid0.coords t = Function.update (grid0.coords t) 1 (⟨1, by decide⟩ : Fin 2) := by
    rw [← coords_odd t h, Function.update_eq_self]
  refine Eq.trans (show bodyAt0 (F := F) t = bodyWith (grid0.coords t) t from rfl) ?_
  rw [e]; exact bodyWith_next _ t

/-! ## What each point computes -/

/-- The block and the weights at point `t`, with rows `T` kept. -/
def valsOf (c : Dev nD) (t : Fin cfg0.N) (T : Vec F S22x8x256 .f32) : Vals F :=
  ⟨iblk m c 0 t, iblk m c 1 t, iblk m c 2 t, iblk m c 3 t, iblk m c 4 t, T⟩

/-- The rows a sequence's first tile keeps. -/
def kept (c : Dev nD) (t : Fin cfg0.N) : Vec F S22x8x256 .f32 := tailAt (valsOf m c t (noTailV (F := F))) 44

/-- The point before. -/
def prev (t : Fin cfg0.N) : Fin cfg0.N := ⟨t.val - 1, lt_of_le_of_lt (Nat.sub_le _ _) t.isLt⟩

/-- What point `t` computes from. -/
def curVals (c : Dev nD) (t : Fin cfg0.N) : Vals F :=
  valsOf m c t (if t.val % 2 = 0 then noTailV (F := F) else kept m c (prev t))

/-- What point `t` writes. -/
def outAt (c : Dev nD) (t : Fin cfg0.N) : Vec F S1x1024x1024 .f32 :=
  normV (iblk m c 0 t : Vec F S1x1024x1024 .f32) (accAt (curVals m c t) 44) (iblk m c 5 t) (iblk m c 6 t)

/-! ## What is held between points -/

/-- The scratch buffers, the kept rows at `T` and every other at some contents. -/
def Held (c : Dev nD) (T : Vec F S22x8x256 .f32) : sProp 𝕄 :=
  iprop(((∃ X : Vec F S1024x1024 .f32, owns (c : Thread nD τ) (scr0) fullShare X) ∗ owns (c : Thread nD τ) scr1 fullShare T ∗ (∃ X : Vec F S1024x1024 .bf16, owns (c : Thread nD τ) (scr2) fullShare X) ∗ (∃ X : Vec F S2x256x256 .f32, owns (c : Thread nD τ) (scr3) fullShare X) ∗ (∃ X : Vec F S2x256x256 .f32, owns (c : Thread nD τ) (scr4) fullShare X) ∗ (∃ X : Vec F S2x256x256 .f32, owns (c : Thread nD τ) (scr5) fullShare X) ∗ (∃ X : Vec F S2x256x256 .f32, owns (c : Thread nD τ) (scr6) fullShare X) ∗ (∃ X : Vec F S256x256 .bf16, owns (c : Thread nD τ) (scr7) fullShare X) ∗ (∃ X : Vec F S256x256 .bf16, owns (c : Thread nD τ) (scr8) fullShare X) ∗ (∃ X : Vec F S256x256 .bf16, owns (c : Thread nD τ) (scr9) fullShare X) ∗ (∃ X : Vec F S256x256 .bf16, owns (c : Thread nD τ) (scr10) fullShare X)) ∗ ∃ r, prngReg c r)

/-- Before point `n`: before an odd one the rows its sequence's first tile kept, before an even one any. -/
def Between (c : Dev nD) (n : ℕ) : sProp 𝕄 :=
  if h : n % 2 = 1 ∧ n - 1 < cfg0.N then Held c (kept m c ⟨n - 1, h.2⟩) else iprop(∃ T : Vec F S22x8x256 .f32, Held c T)

theorem between_any (c : Dev nD) (n : ℕ) (h : n % 2 = 0) : Between m c n = iprop(∃ T : Vec F S22x8x256 .f32, Held c T) := by
  unfold Between
  rw [dif_neg (fun e => by omega)]

theorem between_kept (c : Dev nD) (t : Fin cfg0.N) (h : t.val % 2 = 0) : Between m c (t.val + 1) = Held c (kept m c t) := by
  unfold Between
  rw [dif_pos ⟨by omega, by rw [Nat.add_sub_cancel]; exact t.isLt⟩]
  rfl

theorem between_prev (c : Dev nD) (t : Fin cfg0.N) (h : t.val % 2 = 1) : Between m c t.val = Held c (kept m c (prev t)) := by
  unfold Between
  rw [dif_pos ⟨h, lt_of_le_of_lt (Nat.sub_le _ _) t.isLt⟩]
  rfl

/-- The class's invariant is the scratch at some contents. -/
theorem scratch_eq (c : Dev nD) : (Pipeline.ΦA spec0 c : sProp 𝕄)
    = iprop(((∃ X : Vec F S1024x1024 .f32, owns (c : Thread nD τ) (scr0) fullShare X) ∗ (∃ X : Vec F S22x8x256 .f32, owns (c : Thread nD τ) (scr1) fullShare X) ∗ (∃ X : Vec F S1024x1024 .bf16, owns (c : Thread nD τ) (scr2) fullShare X) ∗ (∃ X : Vec F S2x256x256 .f32, owns (c : Thread nD τ) (scr3) fullShare X) ∗ (∃ X : Vec F S2x256x256 .f32, owns (c : Thread nD τ) (scr4) fullShare X) ∗ (∃ X : Vec F S2x256x256 .f32, owns (c : Thread nD τ) (scr5) fullShare X) ∗ (∃ X : Vec F S2x256x256 .f32, owns (c : Thread nD τ) (scr6) fullShare X) ∗ (∃ X : Vec F S256x256 .bf16, owns (c : Thread nD τ) (scr7) fullShare X) ∗ (∃ X : Vec F S256x256 .bf16, owns (c : Thread nD τ) (scr8) fullShare X) ∗ (∃ X : Vec F S256x256 .bf16, owns (c : Thread nD τ) (scr9) fullShare X) ∗ (∃ X : Vec F S256x256 .bf16, owns (c : Thread nD τ) (scr10) fullShare X)) ∗ ∃ r, prngReg c r) := by
  unfold Pipeline.ΦA
  rw [scopedRest0_eq]
  simp only [scr0, scr1, scr2, scr3, scr4, scr5, scr6, scr7, scr8, scr9, scr10, owns_whole]
  rfl

theorem held_in (c : Dev nD) : (Pipeline.ΦA spec0 c : sProp 𝕄) ⊢ iprop(∃ T : Vec F S22x8x256 .f32, Held c T) := by
  rw [scratch_eq]
  unfold Held
  iintro ⟨⟨H0, ⟨%T, H1⟩, H⟩, Hp⟩
  iexists T
  isplitr [Hp]
  · isplitl [H0]; · iexact H0
    isplitl [H1]; · iexact H1
    iexact H
  · iexact Hp

theorem held_out (c : Dev nD) : iprop(∃ T : Vec F S22x8x256 .f32, Held c T) ⊢ (Pipeline.ΦA spec0 c : sProp 𝕄) := by
  rw [scratch_eq]
  unfold Held
  iintro ⟨%T, ⟨H0, H1, H⟩, Hp⟩
  isplitr [Hp]
  · isplitl [H0]; · iexact H0
    isplitl [H1]; · iexists T; iexact H1
    iexact H
  · iexact Hp

/-! ## The proof data -/

/-- The pipeline's proof data: every input block left in place, the output block as computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ n := Between m c n.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d

/-! ## The body at a point -/

/-- The body after any clearing: from the blocks, the weights and the kept rows `T`, the output block and the rows kept. -/
theorem point_wp (c : Dev nD) (t : Fin cfg0.N) (T : Vec F S22x8x256 .f32) (O : Vec F S1x1024x1024 .f32) (Q : PUnit → sProp 𝕄) :
    iprop(Held c T ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare (iblk m c 6 t) ∗ owns (c : Thread nD τ) (st0_8 t) fullShare O
        ∗ (Held c (tailAt (valsOf m c t T) 44) ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare (iblk m c 6 t)
        ∗ owns (c : Thread nD τ) (st0_8 t) fullShare (normV (iblk m c 0 t : Vec F S1x1024x1024 .f32) (accAt (valsOf m c t T) 44) (iblk m c 5 t) (iblk m c 6 t)) -∗ Q ⟨⟩))
      ⊢ wp frame (wpE (defs₀ (F := F)) Variants.none (c : Thread nD τ) none) Set.univ (restP (refsAt t) : Body F PUnit) Q := by
  unfold Held
  iintro ⟨⟨⟨⟨%S, HS⟩, HT, ⟨%XB, HXB⟩, ⟨%A0, HA0⟩, ⟨%A1, HA1⟩, ⟨%A2, HA2⟩, ⟨%A3, HA3⟩, ⟨%G0, HG0⟩, ⟨%G1, HG1⟩, ⟨%G2, HG2⟩, ⟨%G3, HG3⟩⟩, Hp⟩, H0, H1, H2, H3, H4, H5, H6, H8, HQ⟩
  iapply (rest_wp c (refsAt t) (valsOf m c t T) (iblk m c 5 t) (iblk m c 6 t) O S Q)
  isplitl [H0]; · iexact H0
  isplitl [H5]; · iexact H5
  isplitl [H6]; · iexact H6
  isplitl [H8]; · iexact H8
  isplitl [HS HT HXB HA0 HA1 HA2 HA3 HG0 HG1 HG2 HG3 H1 H2 H3 H4]
  · unfold StOpen St
    iexists XB, A0, A1, A2, A3, G0, G1, G2, G3
    isplitl [HXB]; · iexact HXB
    isplitl [H1]; · iexact H1
    isplitl [H2]; · iexact H2
    isplitl [H3]; · iexact H3
    isplitl [H4]; · iexact H4
    isplitl [HA0]; · iexact HA0
    isplitl [HA1]; · iexact HA1
    isplitl [HA2]; · iexact HA2
    isplitl [HA3]; · iexact HA3
    isplitl [HG0]; · iexact HG0
    isplitl [HG1]; · iexact HG1
    isplitl [HG2]; · iexact HG2
    isplitl [HG3]; · iexact HG3
    isplitl [HT]; · iexact HT
    iexact HS
  iintro ⟨H0, H5, H6, H8, H⟩
  unfold StOpen St
  icases H with ⟨%XB', %A0', %A1', %A2', %A3', %G0', %G1', %G2', %G3', HXB, H1, H2, H3, H4, HA0, HA1, HA2, HA3, HG0, HG1, HG2, HG3, HT, HS⟩
  iapply HQ
  isplitr [H0 H1 H2 H3 H4 H5 H6 H8]
  · isplitr [Hp]
    · isplitl [HS]; · iexists _; iexact HS
      isplitl [HT]; · iexact HT
      isplitl [HXB]; · iexists _; iexact HXB
      isplitl [HA0]; · iexists _; iexact HA0
      isplitl [HA1]; · iexists _; iexact HA1
      isplitl [HA2]; · iexists _; iexact HA2
      isplitl [HA3]; · iexists _; iexact HA3
      isplitl [HG0]; · iexists _; iexact HG0
      isplitl [HG1]; · iexists _; iexact HG1
      isplitl [HG2]; · iexists _; iexact HG2
      iexists _; iexact HG3
    · iexact Hp
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H8

/-- The kept rows cleared, on the buffer they are kept in. -/
theorem clear_rows_wp (c : Dev nD) (t : Fin cfg0.N) (T : Vec F S22x8x256 .f32) (k : Body F PUnit) (Q : PUnit → sProp 𝕄) :
    owns (c : Thread nD τ) scr1 fullShare T
      ⊢ iprop((owns (c : Thread nD τ) scr1 fullShare (noTailV (F := F)) -∗ wp frame (wpE (defs₀ (F := F)) Variants.none (c : Thread nD τ) none) Set.univ k Q)
        -∗ wp frame (wpE (defs₀ (F := F)) Variants.none (c : Thread nD τ) none) Set.univ (resetP (refsAt t) k) Q) :=
  reset_wp c (refsAt t) T k Q

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body's triple at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7]
  rw [show (dats m 0 c).owesAt () t.succ = (dats m 0 c).owesAt () t.castSucc from rfl,
    show (dats m 0 c).Φ t.succ = Between m c (t.val + 1) from rfl, show (dats m 0 c).Φ t.castSucc = Between m c t.val from rfl,
    after_0, after_1, after_2, after_3, after_4, after_5, after_6, after_7, after_8]
  rcases Nat.mod_two_eq_zero_or_one t.val with h | h
  · rw [body_even t h, between_any m c t.val h, between_kept m c t h]
    rw [show outAt m c t = normV (iblk m c 0 t : Vec F S1x1024x1024 .f32) (accAt (valsOf m c t (noTailV (F := F))) 44) (iblk m c 5 t) (iblk m c 6 t) from by
      unfold outAt curVals; rw [if_pos h]]
    iintro ⟨⟨%T, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    unfold Held
    icases HΦ with ⟨⟨HS, HT, HR⟩, Hp⟩
    iapply (clear_rows_wp c t T _ _) $$ HT; iintro HT
    iapply (point_wp m c t (noTailV (F := F)) _ _)
    unfold Held
    isplitl [HS HT HR Hp]
    · isplitr [Hp]
      · isplitl [HS]; · iexact HS
        isplitl [HT]; · iexact HT
        iexact HR
      · iexact Hp
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexact H8
    iintro ⟨HΦ, H0, H1, H2, H3, H4, H5, H6, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [body_odd t h, between_prev m c t h, between_any m c (t.val + 1) (by omega)]
    rw [show outAt m c t = normV (iblk m c 0 t : Vec F S1x1024x1024 .f32) (accAt (valsOf m c t (kept m c (prev t))) 44) (iblk m c 5 t) (iblk m c 6 t) from by
      unfold outAt curVals; rw [if_neg (by omega)]]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (point_wp m c t (kept m c (prev t)) _ _)
    isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexact H8
    iintro ⟨HΦ, H0, H1, H2, H3, H4, H5, H6, H8⟩
    isplitl [HΦ]; · iexists _; iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_row (t : Fin cfg0.N) : defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
set_option maxHeartbeats 800000 in
/-- Every weakly fair run ends, with every array of the pipeline at what the blocks written add up to, every other buffer
    as the region found it, and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => (held_in c).trans (Entails.of_eq (between_any m c 0 rfl).symm))
    (hout := fun c => (Entails.of_eq (between_any m c 64 rfl)).trans (held_out c))

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero, at any values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.Ffn

end
-- ==== Proof.FfnValue.lean ====
module

public import proofs.«01_k».proof.Proof.FfnReference
public import proofs.«01_k».proof.Proof.FfnItems
public import proofs.«01_k».proof.Proof.FfnRun
public import Idealize.ShloMosaic.Lib.Pipeline.ValueKit
public import Idealize.ShloMosaic.Lib.Claim

/-!
# The feed-forward kernel's result array

The array the kernel leaves is the reference's function of the arguments.
-/

set_option maxRecDepth 16384

@[expose] public section

noncomputable section

open Idealize.ShloMosaic Idealize.ShloMosaic.TcCoe Idealize.SL.Sem
open Idealize.ShloMosaic.Pipeline (Dat)
open Cert.Kernel2Ideal Cert.Kernel2Ideal.Gen
open Cert.Gmlp (lit layerNorm)
open Cert.Ffn.Spec

namespace Cert.Ffn

/-! ## One tile -/

/-- Column `c` of chunk `q` as a feature. -/
def feat (q : Fin 22) (c : Fin 256) : Fin 5632 := ⟨256 * q + c, by omega⟩

/-- Column `c` of chunk `q` as a gated feature. -/
def gfeat (q : Fin 11) (c : Fin 256) : Fin 2816 := ⟨256 * q + c, by omega⟩

/-- Row `R` of tile `h` as a token of the sequence. -/
def tok (h : Fin 2) (R : Fin 1024) : Fin 2048 := ⟨1024 * h + R, by omega⟩

/-- A sum over the gated features, chunk by chunk. -/
theorem sum_chunks (H : Fin 2816 → EReal) : ∑ q : Fin 11, ∑ c : Fin 256, H (gfeat q c) = ∑ f, H f := by
  refine (Fintype.sum_prod_type fun p : Fin 11 × Fin 256 => H (gfeat p.1 p.2)).symm.trans ?_
  refine Fintype.sum_equiv (finProdFinEquiv (m := 11) (n := 256)) _ _ fun p => congrArg H (Fin.ext ?_)
  show 256 * p.1.val + p.2.val = p.2.val + 256 * p.1.val
  omega

/-- The blocks of tile `h` of a sequence hold the arguments' entries, and the kept rows hold the last eight rows of the
    sequence's projection before the tile, zero at the sequence's start. -/
structure Holding (V : Vals Ideal) (w : Fin 1024 → Fin 5632 → EReal) (cw : Fin 3 → Fin 5632 → EReal) (cb : Fin 5632 → EReal)
    (wd : Fin 2816 → Fin 1024 → EReal) (x : Fin 2048 → Fin 1024 → EReal) (h : Fin 2) : Prop where
  hx : ∀ R k, V.x (ix3 0 R k) = x (tok h R) k
  hwu : ∀ q k c, V.wu (ix3 q k c) = w k (feat q c)
  hcw : ∀ q i c, V.cw (ix3 q i c) = cw i (feat q c)
  hcb : ∀ q c, V.cb (ix3 q 0 c) = cb (feat q c)
  hwd : ∀ q c l, V.wd (ix3 q c l) = wd (gfeat q c) l
  ht : ∀ (q : Fin 22) (e : Fin 8) (c : Fin 256), V.t0 (ix3 q e c) = if h.val = 0 then 0 else up w x (feat q c) ⟨1016 + e, by omega⟩

variable {V : Vals Ideal} {w : Fin 1024 → Fin 5632 → EReal} {cw : Fin 3 → Fin 5632 → EReal} {cb : Fin 5632 → EReal}
    {wd : Fin 2816 → Fin 1024 → EReal} {x : Fin 2048 → Fin 1024 → EReal} {h : Fin 2}

/-- The tile's projection is the sequence's. -/
theorem Holding.pre_eq (H : Holding V w cw cb wd x h) (q : Fin 22) (R : Fin 1024) (c : Fin 256) :
    pre V q R c = up w x (feat q c) (tok h R) :=
  Finset.sum_congr rfl fun k _ => congrArg₂ (· * ·) (H.hx R k) (H.hwu q k c)

/-- The rows behind a row of the tile are the rows behind the token. -/
theorem Holding.behind_eq (H : Holding V w cw cb wd x h) (q : Fin 22) (d : ℕ) (h1 : 1 ≤ d) (h2 : d ≤ 8) (R : Fin 1024) (c : Fin 256) :
    behind V q d R c = back d (up w x (feat q c)) (tok h R) := by
  unfold behind back
  have hv : (tok h R).val = 1024 * h.val + R.val := rfl
  by_cases hd : d ≤ R.val
  · rw [dif_pos hd, if_pos (by omega), H.pre_eq]
    exact congrArg (up w x (feat q c)) (Fin.ext (show 1024 * h.val + (R.val - d) = 1024 * h.val + R.val - d by omega))
  · rw [dif_neg hd, H.ht]
    by_cases h0 : h.val = 0
    · rw [if_pos h0, if_neg (by omega)]
    · rw [if_neg h0, if_pos (by omega)]
      exact congrArg (up w x (feat q c)) (Fin.ext (show 1016 + (8 + R.val - d) % 8 = 1024 * h.val + R.val - d by omega))

/-- The tile's convolution is the sequence's. -/
theorem Holding.conv_eq (H : Holding V w cw cb wd x h) (q : Fin 22) (R : Fin 1024) (c : Fin 256) :
    convAt V q R c = conv w cw cb x (feat q c) (tok h R) := by
  unfold convAt conv
  rw [H.hcw, H.hcw, H.hcw, H.hcb, H.behind_eq q 2 (by omega) (by omega), H.behind_eq q 1 (by omega) (by omega), H.pre_eq]

/-- The accumulator at the end is the gated product projected down. -/
theorem Holding.acc_eq (H : Holding V w cw cb wd x h) (R l : Fin 1024) :
    accAt V 44 (ix2 R l) = ∑ f, glu (conv w cw cb x (lo f) (tok h R)) (conv w cw cb x (hi f) (tok h R)) * wd f l := by
  rw [acc_end, ← sum_chunks]
  refine Finset.sum_congr rfl fun q _ => Finset.sum_congr rfl fun c _ => congrArg₂ (· * ·) (congrArg₂ glu ?_ ?_) (H.hwd q c l)
  · exact (H.conv_eq _ R c).trans (congrArg (fun f => conv w cw cb x f (tok h R)) (Fin.ext rfl))
  · refine (H.conv_eq _ R c).trans (congrArg (fun f => conv w cw cb x f (tok h R)) (Fin.ext ?_))
    show 256 * (11 + q.val) + c.val = 2816 + (256 * q.val + c.val)
    omega

/-- The block written is the layer. -/
theorem Holding.norm_eq (H : Holding V w cw cb wd x h) (g b : FVec Ideal S1x1024 .f32) (R j : Fin 1024) :
    normV (F := Ideal) V.x (accAt V 44) g b (ix3 0 R j) = layer w cw cb wd (fun l => g (ix2 0 l)) (fun l => b (ix2 0 l)) x (tok h R) j := by
  rw [normV_at]
  unfold layer
  refine congrArg (fun y => layerNorm _ y _ _ j) (funext fun l => ?_)
  rw [H.hx, H.acc_eq]

/-! ## The blocks -/

variable (m : (ℓ : Loc nD τ sig) → Buf (Elt Ideal) ℓ)

/-- Where each window sits at each grid point. -/
theorem idx : ∀ t : Fin cfg0.N, win0_0.index t = ![t.val / 2, t.val % 2, 0] ∧ win0_1.index t = ![0, 0, 0] ∧ win0_2.index t = ![0, 0, 0]
    ∧ win0_3.index t = ![0, 0, 0] ∧ win0_4.index t = ![0, 0, 0] ∧ win0_5.index t = ![0, 0] ∧ win0_6.index t = ![0, 0]
    ∧ win0_8.index t = ![t.val / 2, t.val % 2, 0] :=
  (by decide +kernel : ∀ t : Fin grid0.N, _)

/-- The arguments as formulas' arrays. -/
abbrev Xa (c : Dev nD) : FVec Ideal S32x2048x1024 .f32 := m ((c : Thread nD τ).loc main_arg0)
abbrev Wa (c : Dev nD) : FVec Ideal S1024x5632 .f32 := m ((c : Thread nD τ).loc main_arg1)
abbrev CWa (c : Dev nD) : FVec Ideal S3x5632 .f32 := m ((c : Thread nD τ).loc main_arg2)
abbrev CBa (c : Dev nD) : FVec Ideal S5632 .f32 := m ((c : Thread nD τ).loc main_arg3)
abbrev WDa (c : Dev nD) : FVec Ideal S2816x1024 .f32 := m ((c : Thread nD τ).loc main_arg4)
abbrev Ga (c : Dev nD) : FVec Ideal S1024 .f32 := m ((c : Thread nD τ).loc main_arg5)
abbrev Ba (c : Dev nD) : FVec Ideal S1024 .f32 := m ((c : Thread nD τ).loc main_arg6)

/-- The sequence a point works on. -/
def sq (t : Fin cfg0.N) : Fin 32 := ⟨t.val / 2, by have : t.val < 64 := t.isLt; omega⟩

/-- The tile of the sequence a point works on. -/
def half (t : Fin cfg0.N) : Fin 2 := ⟨t.val % 2, by omega⟩

theorem blk_x (c : Dev nD) (t : Fin cfg0.N) (R k : Fin 1024) :
    (iblk m c 0 t : FVec Ideal S1x1024x1024 .f32) (ix3 0 R k) = Xa m c (ix3 (sq t) (tok (half t) R) k) := by
  blk_point [iblk, V, idx t, sq, half, tok]

theorem blk_wu (c : Dev nD) (t : Fin cfg0.N) (q : Fin 22) (k : Fin 1024) (e : Fin 256) :
    (iblk m c 1 t : FVec Ideal S22x1024x256 .bf16) (ix3 q k e) = Wa m c (ix2 k (feat q e)) := by
  blk_point [iblk, V, idx t, feat]

theorem blk_cw (c : Dev nD) (t : Fin cfg0.N) (q : Fin 22) (i : Fin 3) (e : Fin 256) :
    (iblk m c 2 t : FVec Ideal S22x3x256 .f32) (ix3 q i e) = CWa m c (ix2 i (feat q e)) := by
  blk_point [iblk, V, idx t, feat]

theorem blk_cb (c : Dev nD) (t : Fin cfg0.N) (q : Fin 22) (e : Fin 256) :
    (iblk m c 3 t : FVec Ideal S22x1x256 .f32) (ix3 q 0 e) = CBa m c (ix1 (feat q e)) := by
  blk_point [iblk, V, idx t, feat]

theorem blk_wd (c : Dev nD) (t : Fin cfg0.N) (q : Fin 11) (e : Fin 256) (l : Fin 1024) :
    (iblk m c 4 t : FVec Ideal S11x256x1024 .bf16) (ix3 q e l) = WDa m c (ix2 (gfeat q e) l) := by
  blk_point [iblk, V, idx t, gfeat]

theorem blk_g (c : Dev nD) (t : Fin cfg0.N) (l : Fin 1024) :
    (iblk m c 5 t : FVec Ideal S1x1024 .f32) (ix2 0 l) = Ga m c (ix1 l) := by
  blk_point [iblk, V, idx t]

theorem blk_b (c : Dev nD) (t : Fin cfg0.N) (l : Fin 1024) :
    (iblk m c 6 t : FVec Ideal S1x1024 .f32) (ix2 0 l) = Ba m c (ix1 l) := by
  blk_point [iblk, V, idx t]

/-! ## The points -/

/-- The values a point reads hold the arguments' entries, given its kept rows do. -/
theorem holding (c : Dev nD) (t : Fin cfg0.N) (T : FVec Ideal S22x8x256 .f32)
    (hT : ∀ (q : Fin 22) (e : Fin 8) (k : Fin 256), T (ix3 q e k) = if (half t).val = 0 then 0
      else up (fun k f => Wa m c (ix2 k f)) (fun r k => Xa m c (ix3 (sq t) r k)) (feat q k) ⟨1016 + e, by omega⟩) :
    Holding (valsOf m c t T) (fun k f => Wa m c (ix2 k f)) (fun i f => CWa m c (ix2 i f)) (fun f => CBa m c (ix1 f))
      (fun f j => WDa m c (ix2 f j)) (fun r k => Xa m c (ix3 (sq t) r k)) (half t) where
  hx := blk_x m c t
  hwu := blk_wu m c t
  hcw := blk_cw m c t
  hcb := blk_cb m c t
  hwd := blk_wd m c t
  ht := hT

/-- The values a point reads hold the arguments' entries. -/
theorem holding_cur (c : Dev nD) (t : Fin cfg0.N) :
    Holding (curVals m c t) (fun k f => Wa m c (ix2 k f)) (fun i f => CWa m c (ix2 i f)) (fun f => CBa m c (ix1 f))
      (fun f j => WDa m c (ix2 f j)) (fun r k => Xa m c (ix3 (sq t) r k)) (half t) := by
  unfold curVals
  by_cases h : t.val % 2 = 0
  · rw [if_pos h]
    refine holding m c t _ fun q e k => ?_
    rw [if_pos (show (half t).val = 0 from h)]
    exact noTailV_at q e k
  · rw [if_neg h]
    refine holding m c t _ fun q e k => ?_
    rw [if_neg (show ¬ (half t).val = 0 from h)]
    unfold kept
    have hp : (prev t).val = t.val - 1 := rfl
    have hs : sq (prev t) = sq t := Fin.ext (show (prev t).val / 2 = t.val / 2 by omega)
    have h0 : (half (prev t)).val = 0 := show (prev t).val % 2 = 0 by omega
    have H := holding m c (prev t) (noTailV (F := Ideal)) fun q e k => by
      rw [if_pos h0]; exact noTailV_at q e k
    rw [tailAt_at _ q e k 44 le_rfl, dif_pos (by omega), H.pre_eq, hs]
    refine congrArg (up (fun k f => Wa m c (ix2 k f)) (fun r k => Xa m c (ix3 (sq t) r k)) (feat q k)) (Fin.ext ?_)
    show 1024 * (half (prev t)).val + (min (44 - 4 * (q.val % 11)) 4 * 256 - 8 + e.val) = 1016 + e.val
    omega

/-- The result array as the reference's function of the argument arrays. -/
abbrev REF (c : Dev nD) : FVec Ideal S32x2048x1024 .f32 :=
  Ref.whole (Xa m c) (Wa m c) (CWa m c) (CBa m c) (WDa m c) (Ga m c) (Ba m c)

/-- What a grid point leaves in its block is the reference's function there. -/
theorem point (c : Dev nD) (t : Fin cfg0.N) (y : S1x1024x1024.Idx) :
    outAt m c t y = REF m c (((cfg0.win 8).blk t).view.emb y) := by
  have hN : t.val < 64 := t.isLt
  have ex : ((cfg0.win 8).blk t).view.emb y = ix3 (sq t) (tok (half t) (y 1)) (y 2) := by
    have : (y 0 : ℕ) < 1 := (y 0).isLt
    blk_ext [idx t, sq, tok, half]
  rw [ex]
  idx_vars y
  obtain rfl : y0 = 0 := Subsingleton.elim _ _
  refine ((holding_cur m c t).norm_eq (iblk m c 5 t) (iblk m c 6 t) y1 y2).trans ?_
  refine Eq.trans ?_ (Ref.whole_at (Xa m c) (Wa m c) (CWa m c) (CBa m c) (WDa m c) (Ga m c) (Ba m c) (sq t) (tok (half t) y1) y2).symm
  exact congrArg₂ (fun g b => layer _ _ _ _ g b _ _ y2) (funext fun l => blk_g m c t l) (funext fun l => blk_b m c t l)

/-- The result array after the run. -/
theorem final (c : Dev nD) : (dats m 0 c).arrAt 8 (cfgs 0).N = REF m c := by
  refine (dats m 0 c).arrAt_eq_of_covers 8 _ (by decide +kernel) fun t _ y => ?_
  blk_simp
  rw [after_8]
  exact point m c t y

/-- The run ends with the result array named and the arguments unchanged. -/
theorem run_named (ρ : Dev nD → PrngReg) : θ_run defs (onTc (τ := τ) (main (F := Ideal))) ⟨m, fun _ => 0, ρ⟩ (fun r => ∀ c : Dev nD,
      r.2.mem ((c.tc : Thread nD τ).loc main_v13) = (dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h.1 c, h.2.1 c⟩)
    (θ_run_and (Q₁ := fun r => ∀ c : Dev nD, r.2.mem ((c.tc : Thread nD τ).loc main_v13) = (dats m 0 c).arrAt 8 (cfgs 0).N)
      ((θ_run defs _ _).mono (fun r h c => (h c).1 8) (run_main m ρ)) (frame_any m ρ))

end Cert.Ffn

end
-- ==== Proof.QkvReference.lean ====
module

public import proofs.«01_k».proof.Proof.GmlpSpec
public import proofs.«01_k».proof.Proof.Gen.Reference3Ideal.Run

/-!
# What the reference's projections compute

The three results of the reference of the query, key and value projections, read at an entry.
-/

set_option maxRecDepth 16384

@[expose] public section

noncomputable section

open Idealize.ShloMosaic Idealize.ShloMosaic.TcCoe Idealize.SL.Sem

namespace Cert.Qkv

open Cert.Gmlp (lit)

/-- The position dealt to place `r`: within its run of 128, place `8 i + j` holds position `16 j + i`. -/
def dealt (r : Fin 2048) : Fin 2048 := ⟨128 * (r / 128) + (16 * (r % 8) + r % 128 / 8), by omega⟩

/-- An entry of the projection by the block of the weights that starts at column `off`. -/
def proj (off : ℕ) (hoff : off ≤ 2048) (w : Fin 1024 → Fin 3072 → EReal) (x : Fin 1024 → EReal) (j : Fin 1024) : EReal :=
  ∑ k, x k * w k ⟨off + j, by omega⟩

namespace Ref

open Cert.Reference3Ideal Cert.Reference3Ideal.Gen

/-- The three projections of every token, by projection. -/
def allThree (X : FVec Ideal S32x2048x1024 .f32) (W : FVec Ideal S1024x3072 .f32) : FVec Ideal S32x2048x3x1024 .f32 :=
  shapeCast _ (Host.dotGeneral dot_S32x2048x1024_S1024x3072_S32x2048x3072_2_0_01_1_n_n none X W) shapeCasts_S32x2048x3072_S32x2048x3x1024

/-- The queries. -/
def queries (X : FVec Ideal S32x2048x1024 .f32) (W : FVec Ideal S1024x3072 .f32) : FVec Ideal S32x2048x1024 .bf16 :=
  truncf .bf16 (mulf (shapeCast _ (extractStridedSlice S32x2048x1x1024 ![0, 0, 0, 0] (allThree X W) slices_S32x2048x3x1024_S32x2048x1x1024_0_0_0_0)
    shapeCasts_S32x2048x1x1024_S32x2048x1024) (broadcastInDim S32x2048x1024 ![] bcast_S_S32x2048x1024 (constant S_ .f32 0x3E38AA3B#32))) bitsLt_bf16_f32

/-- The positions dealt out within every run of 128. -/
def dealOut (v : FVec Ideal S32x2048x1024 .f32) : FVec Ideal S32x2048x1024 .f32 :=
  shapeCast _ (transpose S32x16x16x8x1024 [0, 1, 3, 2, 4] (shapeCast _ v shapeCasts_S32x2048x1024_S32x16x8x16x1024)
    transposes_S32x16x8x16x1024_S32x16x16x8x1024_0_1_3_2_4) shapeCasts_S32x16x16x8x1024_S32x2048x1024

/-- The keys. -/
def keys (X : FVec Ideal S32x2048x1024 .f32) (W : FVec Ideal S1024x3072 .f32) : FVec Ideal S32x2048x1024 .bf16 :=
  truncf .bf16 (dealOut (shapeCast _ (extractStridedSlice S32x2048x1x1024 ![0, 0, 1, 0] (allThree X W) slices_S32x2048x3x1024_S32x2048x1x1024_0_0_1_0)
    shapeCasts_S32x2048x1x1024_S32x2048x1024)) bitsLt_bf16_f32

/-- The values, positions last. -/
def values (X : FVec Ideal S32x2048x1024 .f32) (W : FVec Ideal S1024x3072 .f32) : FVec Ideal S32x1024x2048 .bf16 :=
  truncf .bf16 (transpose S32x1024x2048 [0, 2, 1] (dealOut (shapeCast _ (extractStridedSlice S32x2048x1x1024 ![0, 0, 2, 0] (allThree X W)
    slices_S32x2048x3x1024_S32x2048x1x1024_0_0_2_0) shapeCasts_S32x2048x1x1024_S32x2048x1024)) transposes_S32x2048x1024_S32x1024x2048_0_2_1) bitsLt_bf16_f32

/-- The dealt-out array holds at place `r` the entry of the position dealt to it. -/
theorem dealOut_at (v : FVec Ideal S32x2048x1024 .f32) (a : Fin 32) (r : Fin 2048) (j : Fin 1024) :
    dealOut v (ix3 a r j) = v (ix3 a (dealt r) j) := by
  pointwise [dealOut, dealt]
  exact congrArg (fun r => v (ix3 a r j)) (Fin.ext (by simp only; omega))

/-- A query. -/
theorem queries_at (X : FVec Ideal S32x2048x1024 .f32) (W : FVec Ideal S1024x3072 .f32) (a : Fin 32) (r : Fin 2048) (j : Fin 1024) :
    queries X W (ix3 a r j) = proj 0 (by omega) (fun k f => W (ix2 k f)) (fun k => X (ix3 a r k)) j * lit 0x3E38AA3B#32 := by
  pointwise [queries, allThree, proj, lit]

/-- A key. -/
theorem keys_at (X : FVec Ideal S32x2048x1024 .f32) (W : FVec Ideal S1024x3072 .f32) (a : Fin 32) (r : Fin 2048) (j : Fin 1024) :
    keys X W (ix3 a r j) = proj 1024 (by omega) (fun k f => W (ix2 k f)) (fun k => X (ix3 a (dealt r) k)) j := by
  have e : keys X W (ix3 a r j) = dealOut (shapeCast _ (extractStridedSlice S32x2048x1x1024 ![0, 0, 1, 0] (allThree X W)
    slices_S32x2048x3x1024_S32x2048x1x1024_0_0_1_0) shapeCasts_S32x2048x1x1024_S32x2048x1024) (ix3 a r j) := rfl
  rw [e, dealOut_at]
  pointwise [allThree, proj]

/-- A value. -/
theorem values_at (X : FVec Ideal S32x2048x1024 .f32) (W : FVec Ideal S1024x3072 .f32) (a : Fin 32) (r : Fin 2048) (j : Fin 1024) :
    values X W (ix3 a j r) = proj 2048 (by omega) (fun k f => W (ix2 k f)) (fun k => X (ix3 a (dealt r) k)) j := by
  have e : values X W (ix3 a j r) = dealOut (shapeCast _ (extractStridedSlice S32x2048x1x1024 ![0, 0, 2, 0] (allThree X W)
    slices_S32x2048x3x1024_S32x2048x1x1024_0_0_2_0) shapeCasts_S32x2048x1x1024_S32x2048x1024) (ix3 a r j) := by
    unfold values
    generalize dealOut _ = d
    pointwise
  rw [e, dealOut_at]
  pointwise [allThree, proj]

end Ref

end Cert.Qkv

end
-- ==== Proof.QkvTile.lean ====
module

public import proofs.«01_k».proof.Proof.QkvReference
public import proofs.«01_k».proof.Proof.Gen.Kernel3Ideal.Value
public import Idealize.ShloMosaic.Lib.WordCmp

/-!
# What the projection kernel computes of a run of tokens

The matrix of zeros and ones deals the rows of a slab out; the three products of a run read at an entry.
-/

set_option maxRecDepth 16384

@[expose] public section

noncomputable section

open Idealize.ShloMosaic Idealize.ShloMosaic.TcCoe Idealize.SL.Sem

namespace Cert.Qkv.Ker

open Cert.Gmlp (lit)
open Cert.Kernel3Ideal Cert.Kernel3Ideal.Gen

/-- The row a row of the matrix of zeros and ones picks. -/
def pick (r : Fin 128) : Fin 128 := ⟨16 * (r % 8) + r / 8, by omega⟩

/-- The words the kernel compares the column numbers with. -/
theorem words_at (r c : Fin 128) : addi k0_pay1 k0_pay2 (ix2 r c) = BitVec.ofNat 32 (pick r) := by
  pointwise [k0_pay1, k0_pay2]
  revert r
  decide +kernel

/-- The matrix of zeros and ones. -/
def perm : FVec Ideal S128x128 .bf16 := k0_pay3 (iota .tc S128x128 32 [1] iota_S128x128_d1_w32) k0_pay1 k0_pay2

/-- Two numbers below 128 are equal as words only if they are equal. -/
theorem word_eq (a b : Fin 128) : ((BitVec.ofNat 32 a : BitVec 32) = BitVec.ofNat 32 b) ↔ a = b := by
  constructor
  · intro h
    have := congrArg BitVec.toNat h
    simp only [BitVec.toNat_ofNat] at this
    ext; omega
  · rintro rfl; rfl

/-- The matrix has a one at the picked row and zeros elsewhere. -/
theorem perm_at (r c : Fin 128) : perm (ix2 r c) = if c = pick r then 1 else 0 := by
  have h : perm (ix2 r c) = FloatOps.sitofp (F := Ideal) FTy.f32
      ((IntOp.cmpi .eq (BitVec.ofNat 32 c) (addi k0_pay1 k0_pay2 (ix2 r c))).setWidth 32) := by
    unfold perm
    generalize k0_pay1 = u
    generalize k0_pay2 = v
    pointwise [k0_pay3]
  rw [h, words_at]
  by_cases e : c = pick r
  · rw [if_pos e, e]
    simp [IntOp.cmpi, FloatOps.sitofp]
  · have : ¬ (BitVec.ofNat 32 c : BitVec 32) = BitVec.ofNat 32 (pick r) := fun x => e ((word_eq _ _).1 x)
    have hb : ((BitVec.ofNat 32 c : BitVec 32) == BitVec.ofNat 32 (pick r)) = false := by rwa [beq_eq_false_iff_ne]
    rw [if_neg e]
    simp [IntOp.cmpi, FloatOps.sitofp, hb]

/-- A sum over the rows of a slab of which the matrix keeps one. -/
theorem sum_pick (p : Fin 128) (f : Fin 128 → EReal) : (∑ c, (if c = p then 1 else 0) * f c) = f p := by
  rw [Finset.sum_eq_single p (fun c _ h => by rw [if_neg h, zero_mul]) (fun h => absurd (Finset.mem_univ p) h), if_pos rfl, one_mul]

/-- A slab's rows dealt out, as the kernel computes them of its two halves. -/
def slab (x : FVec Ideal S1x256x1024 .f32) : FVec Ideal S256x1024 .bf16 :=
  k0_pay5 (iota .tc S128x128 32 [1] iota_S128x128_d1_w32) k0_pay1 k0_pay2 x

/-- The row dealt to a row of a slab. -/
def slabRow (r : Fin 256) : Fin 256 := ⟨128 * (r / 128) + (16 * (r % 8) + r % 128 / 8), by omega⟩

/-- The dealt-out slab holds at row `r` the row dealt to it. -/
theorem slab_at (x : FVec Ideal S1x256x1024 .f32) (r : Fin 256) (k : Fin 1024) :
    slab x (ix2 r k) = x (ix3 0 (slabRow r) k) := by
  have e : k0_pay3 (F := Ideal) (iota .tc S128x128 32 [1] iota_S128x128_d1_w32) k0_pay1 k0_pay2 = perm := rfl
  unfold slab k0_pay5 k0_pay4
  rw [e]
  pointwise
  split
  · rename_i h
    simp only [perm_at]
    refine (sum_pick _ fun c => x (ix3 0 ⟨c, by omega⟩ k)).trans (congrArg (fun r => x (ix3 0 r k)) (Fin.ext ?_))
    simp only [pick, slabRow]
    omega
  · rename_i h
    simp only [perm_at]
    refine (sum_pick _ fun c => x (ix3 0 ⟨128 + c, by omega⟩ k)).trans (congrArg (fun r => x (ix3 0 r k)) (Fin.ext ?_))
    simp only [pick, slabRow]
    omega

/-- The scaled queries of a run. -/
def queryRun (x : FVec Ideal S1x256x1024 .f32) (w : FVec Ideal S1024x1024 .bf16) : FVec Ideal S1x256x1024 .bf16 := k0_pay14 (k0_pay6 x w)

/-- The keys of a run. -/
def keyRun (x : FVec Ideal S1x256x1024 .f32) (w : FVec Ideal S1024x1024 .bf16) : FVec Ideal S1x256x1024 .bf16 :=
  k0_pay15 (k0_pay7 (iota .tc S128x128 32 [1] iota_S128x128_d1_w32) k0_pay1 k0_pay2 x w)

/-- The values of a run, positions last. -/
def valueRun (x : FVec Ideal S1x256x1024 .f32) (w : FVec Ideal S1024x1024 .bf16) : FVec Ideal S1x1024x256 .bf16 :=
  k0_pay16 (k0_pay8 (iota .tc S128x128 32 [1] iota_S128x128_d1_w32) k0_pay1 k0_pay2 x w)

/-- A query of a run. -/
theorem queryRun_at (x : FVec Ideal S1x256x1024 .f32) (w : FVec Ideal S1024x1024 .bf16) (r : Fin 256) (j : Fin 1024) :
    queryRun x w (ix3 0 r j) = (∑ k, x (ix3 0 r k) * w (ix2 k j)) * lit 0x3E38AA3B#32 := by
  pointwise [queryRun, k0_pay14, k0_pay6, k0_pay4, lit]

/-- A key of a run. -/
theorem keyRun_at (x : FVec Ideal S1x256x1024 .f32) (w : FVec Ideal S1024x1024 .bf16) (r : Fin 256) (j : Fin 1024) :
    keyRun x w (ix3 0 r j) = ∑ k, x (ix3 0 (slabRow r) k) * w (ix2 k j) := by
  have e : keyRun x w = k0_pay15 (k0_pay12 (slab x) w) := rfl
  rw [e]
  simp only [← slab_at]
  generalize slab x = s
  pointwise [k0_pay15, k0_pay12]

/-- A value of a run. -/
theorem valueRun_at (x : FVec Ideal S1x256x1024 .f32) (w : FVec Ideal S1024x1024 .bf16) (r : Fin 256) (j : Fin 1024) :
    valueRun x w (ix3 0 j r) = ∑ k, x (ix3 0 (slabRow r) k) * w (ix2 j k) := by
  have e : valueRun x w = k0_pay16 (k0_pay13 (slab x) w) := rfl
  rw [e]
  simp only [← slab_at]
  generalize slab x = s
  pointwise [k0_pay16, k0_pay13]
  exact Finset.sum_congr rfl fun k _ => mul_comm _ _

end Cert.Qkv.Ker

end
-- ==== Proof.QkvValue.lean ====
module

public import proofs.«01_k».proof.Proof.QkvTile
public import Idealize.ShloMosaic.Lib.Pipeline.ValueKit
public import Idealize.ShloMosaic.Lib.Claim

/-!
# The projection kernel's result arrays

The three arrays the kernel leaves are the reference's functions of the arguments.
-/

set_option maxRecDepth 16384

@[expose] public section

noncomputable section

open Idealize.ShloMosaic Idealize.ShloMosaic.TcCoe Idealize.SL.Sem
open Idealize.ShloMosaic.Pipeline (Dat)

namespace Cert.Qkv.Ker

open Cert.Gmlp (lit)
open Cert.Kernel3Ideal Cert.Kernel3Ideal.Gen

variable (m : (ℓ : Loc nD τ sig) → Buf (Elt Ideal) ℓ)

/-- Where each window sits at each grid point. -/
theorem idx : ∀ t : Fin cfg0.N, win0_0.index t = ![t.val / 2, t.val % 2, 0] ∧ win0_1.index t = ![0, 0]
    ∧ win0_2.index t = ![0, 0] ∧ win0_3.index t = ![0, 0] ∧ win0_4.index t = ![t.val / 2, t.val % 2, 0]
    ∧ win0_5.index t = ![t.val / 2, t.val % 2, 0] ∧ win0_6.index t = ![t.val / 2, 0, t.val % 2] :=
  (by decide +kernel : ∀ t : Fin grid0.N, _)

/-- The queries as the reference's function of the argument arrays. -/
abbrev REFQ (c : Dev nD) : FVec Ideal S32x2048x1024 .bf16 :=
  Ref.queries (m ((c : Thread nD τ).loc main_arg0)) (m ((c : Thread nD τ).loc main_arg1))

/-- The keys as the reference's function of the argument arrays. -/
abbrev REFK (c : Dev nD) : FVec Ideal S32x2048x1024 .bf16 :=
  Ref.keys (m ((c : Thread nD τ).loc main_arg0)) (m ((c : Thread nD τ).loc main_arg1))

/-- The values as the reference's function of the argument arrays. -/
abbrev REFV (c : Dev nD) : FVec Ideal S32x1024x2048 .bf16 :=
  Ref.values (m ((c : Thread nD τ).loc main_arg0)) (m ((c : Thread nD τ).loc main_arg1))

section Runs

variable (X : FVec Ideal S32x2048x1024 .f32) (W : FVec Ideal S1024x3072 .f32)
  (x : FVec Ideal S1x256x1024 .f32) (w : FVec Ideal S1024x1024 .bf16) (a : Fin 32) (n : ℕ) (hn : n ≤ 1792)
  (hx : ∀ (r : Fin 256) l, x (ix3 0 r l) = X (ix3 a ⟨n + r, by omega⟩ l)) (r : Fin 256) (j : Fin 1024) (R : Fin 2048) (hR : (R : ℕ) = n + r)

include hx hR

/-- A run's queries are the reference's. -/
theorem query_eq (hw : ∀ k l, w (ix2 k l) = W (ix2 k ⟨l, by omega⟩)) : queryRun x w (ix3 0 r j) = Ref.queries X W (ix3 a R j) := by
  have e : R = ⟨n + r, by omega⟩ := Fin.ext hR
  rw [e, queryRun_at, Ref.queries_at]
  unfold proj
  simp only [hx, hw, Nat.zero_add]

/-- The row dealt within a run that starts at a multiple of 128. -/
theorem dealt_eq (h128 : n % 128 = 0) : (⟨n + slabRow r, by omega⟩ : Fin 2048) = dealt R := by
  ext
  simp only [slabRow, dealt, hR]
  omega

/-- A run's keys are the reference's. -/
theorem key_eq (h128 : n % 128 = 0) (hw : ∀ k l, w (ix2 k l) = W (ix2 k ⟨1024 + l, by omega⟩)) :
    keyRun x w (ix3 0 r j) = Ref.keys X W (ix3 a R j) := by
  rw [keyRun_at, Ref.keys_at, ← dealt_eq X x a n hn hx r R hR h128]
  unfold proj
  simp only [hx, hw]

/-- A run's values are the reference's. -/
theorem value_eq (h128 : n % 128 = 0) (hw : ∀ l k, w (ix2 l k) = W (ix2 k ⟨2048 + l, by omega⟩)) :
    valueRun x w (ix3 0 j r) = Ref.values X W (ix3 a j R) := by
  rw [valueRun_at, Ref.values_at, ← dealt_eq X x a n hn hx r R hR h128]
  unfold proj
  simp only [hx, hw]

end Runs

/-- What a grid point leaves in its block of queries is the reference's function there. -/
theorem pointQ (c : Dev nD) (t : Fin cfg0.N) (y : S1x1024x1024.Idx) :
    out0_4 (F := Ideal) (iblk m c 0 t) (iblk m c 1 t) (iblk m c 2 t) (iblk m c 3 t) y
      = REFQ m c (((cfg0.win 4).blk t).view.emb y) := by
  unfold_out out0_4
  have hN : (t : ℕ) < 64 := t.isLt
  have ex : ((cfg0.win 4).blk t).view.emb y = ix3 (⟨t.val / 2, by omega⟩ : Fin 32) (⟨1024 * (t.val % 2) + (y 1 : ℕ), by have : (y 1 : ℕ) < 1024 := (y 1).isLt; omega⟩ : Fin 2048) (y 2) := by
    have : (y 0 : ℕ) < 1 := (y 0).isLt
    blk_ext [idx t]
  rw [ex]
  canon_tiles y h
  all_goals
    rename_i z
    idx_vars y
    obtain rfl : y0 = 0 := Subsingleton.elim _ _
    have e2 : z 2 = y2 := Fin.ext h2
    rw [e2]
  · refine query_eq _ _ (View.ld (iblk m c 0 t) r0_6) (View.ld (iblk m c 1 t) r0_1) _ (1024 * (t.val % 2) + 768) (by omega) ?_ y1 y2 _ (by simp only; omega) ?_
    all_goals intro u v
    all_goals try pointwise
    all_goals blk_point [iblk, V, idx t]
  · refine query_eq _ _ (View.ld (iblk m c 0 t) r0_4) (View.ld (iblk m c 1 t) r0_1) _ (1024 * (t.val % 2) + 512) (by omega) ?_ y1 y2 _ (by simp only; omega) ?_
    all_goals intro u v
    all_goals try pointwise
    all_goals blk_point [iblk, V, idx t]
  · refine query_eq _ _ (View.ld (iblk m c 0 t) r0_2) (View.ld (iblk m c 1 t) r0_1) _ (1024 * (t.val % 2) + 256) (by omega) ?_ y1 y2 _ (by simp only; omega) ?_
    all_goals intro u v
    all_goals try pointwise
    all_goals blk_point [iblk, V, idx t]
  · refine query_eq _ _ (View.ld (iblk m c 0 t) r0_0) (View.ld (iblk m c 1 t) r0_1) _ (1024 * (t.val % 2) + 0) (by omega) ?_ y1 y2 _ (by simp only; omega) ?_
    all_goals intro u v
    all_goals try pointwise
    all_goals blk_point [iblk, V, idx t]

/-- What a grid point leaves in its block of keys is the reference's function there. -/
theorem pointK (c : Dev nD) (t : Fin cfg0.N) (y : S1x1024x1024.Idx) :
    out0_5 (F := Ideal) (iblk m c 0 t) (iblk m c 1 t) (iblk m c 2 t) (iblk m c 3 t) y
      = REFK m c (((cfg0.win 5).blk t).view.emb y) := by
  unfold_out out0_5
  have hN : (t : ℕ) < 64 := t.isLt
  have ex : ((cfg0.win 5).blk t).view.emb y = ix3 (⟨t.val / 2, by omega⟩ : Fin 32) (⟨1024 * (t.val % 2) + (y 1 : ℕ), by have : (y 1 : ℕ) < 1024 := (y 1).isLt; omega⟩ : Fin 2048) (y 2) := by
    have : (y 0 : ℕ) < 1 := (y 0).isLt
    blk_ext [idx t]
  rw [ex]
  canon_tiles y h
  all_goals
    rename_i z
    idx_vars y
    obtain rfl : y0 = 0 := Subsingleton.elim _ _
    have e2 : z 2 = y2 := Fin.ext h2
    rw [e2]
  · refine key_eq _ _ (View.ld (iblk m c 0 t) r0_6) (View.ld (iblk m c 2 t) r0_1) _ (1024 * (t.val % 2) + 768) (by omega) ?_ y1 y2 _ (by simp only; omega) (by omega) ?_
    all_goals intro u v
    all_goals try pointwise
    all_goals blk_point [iblk, V, idx t]
  · refine key_eq _ _ (View.ld (iblk m c 0 t) r0_4) (View.ld (iblk m c 2 t) r0_1) _ (1024 * (t.val % 2) + 512) (by omega) ?_ y1 y2 _ (by simp only; omega) (by omega) ?_
    all_goals intro u v
    all_goals try pointwise
    all_goals blk_point [iblk, V, idx t]
  · refine key_eq _ _ (View.ld (iblk m c 0 t) r0_2) (View.ld (iblk m c 2 t) r0_1) _ (1024 * (t.val % 2) + 256) (by omega) ?_ y1 y2 _ (by simp only; omega) (by omega) ?_
    all_goals intro u v
    all_goals try pointwise
    all_goals blk_point [iblk, V, idx t]
  · refine key_eq _ _ (View.ld (iblk m c 0 t) r0_0) (View.ld (iblk m c 2 t) r0_1) _ (1024 * (t.val % 2) + 0) (by omega) ?_ y1 y2 _ (by simp only; omega) (by omega) ?_
    all_goals intro u v
    all_goals try pointwise
    all_goals blk_point [iblk, V, idx t]

/-- What a grid point leaves in its block of values is the reference's function there. -/
theorem pointV (c : Dev nD) (t : Fin cfg0.N) (y : S1x1024x1024.Idx) :
    out0_6 (F := Ideal) (iblk m c 0 t) (iblk m c 1 t) (iblk m c 2 t) (iblk m c 3 t) y
      = REFV m c (((cfg0.win 6).blk t).view.emb y) := by
  unfold_out out0_6
  have hN : (t : ℕ) < 64 := t.isLt
  have ex : ((cfg0.win 6).blk t).view.emb y = ix3 (⟨t.val / 2, by omega⟩ : Fin 32) (y 1) (⟨1024 * (t.val % 2) + (y 2 : ℕ), by have : (y 2 : ℕ) < 1024 := (y 2).isLt; omega⟩ : Fin 2048) := by
    have : (y 0 : ℕ) < 1 := (y 0).isLt
    blk_ext [idx t]
  rw [ex]
  canon_tiles y h
  all_goals
    rename_i z
    idx_vars y
    obtain rfl : y0 = 0 := Subsingleton.elim _ _
    have e1 : z 1 = y1 := Fin.ext h1
    rw [e1]
  · refine value_eq _ _ (View.ld (iblk m c 0 t) r0_6) (View.ld (iblk m c 3 t) r0_1) _ (1024 * (t.val % 2) + 768) (by omega) ?_ y2 y1 _ (by simp only; omega) (by omega) ?_
    all_goals intro u v
    all_goals try pointwise
    all_goals blk_point [iblk, V, idx t]
  · refine value_eq _ _ (View.ld (iblk m c 0 t) r0_4) (View.ld (iblk m c 3 t) r0_1) _ (1024 * (t.val % 2) + 512) (by omega) ?_ y2 y1 _ (by simp only; omega) (by omega) ?_
    all_goals intro u v
    all_goals try pointwise
    all_goals blk_point [iblk, V, idx t]
  · refine value_eq _ _ (View.ld (iblk m c 0 t) r0_2) (View.ld (iblk m c 3 t) r0_1) _ (1024 * (t.val % 2) + 256) (by omega) ?_ y2 y1 _ (by simp only; omega) (by omega) ?_
    all_goals intro u v
    all_goals try pointwise
    all_goals blk_point [iblk, V, idx t]
  · refine value_eq _ _ (View.ld (iblk m c 0 t) r0_0) (View.ld (iblk m c 3 t) r0_1) _ (1024 * (t.val % 2) + 0) (by omega) ?_ y2 y1 _ (by simp only; omega) (by omega) ?_
    all_goals intro u v
    all_goals try pointwise
    all_goals blk_point [iblk, V, idx t]

/-- The array of queries after the run. -/
theorem finalQ (c : Dev nD) : (dats m 0 c).arrAt 4 (cfgs 0).N = REFQ m c := by
  refine (dats m 0 c).arrAt_eq_of_covers 4 _ (by decide +kernel) fun t _ y => ?_
  blk_simp
  rw [after0_4]
  exact pointQ m c t y

/-- The array of keys after the run. -/
theorem finalK (c : Dev nD) : (dats m 0 c).arrAt 5 (cfgs 0).N = REFK m c := by
  refine (dats m 0 c).arrAt_eq_of_covers 5 _ (by decide +kernel) fun t _ y => ?_
  blk_simp
  rw [after0_5]
  exact pointK m c t y

/-- The array of values after the run. -/
theorem finalV (c : Dev nD) : (dats m 0 c).arrAt 6 (cfgs 0).N = REFV m c := by
  refine (dats m 0 c).arrAt_eq_of_covers 6 _ (by decide +kernel) fun t _ y => ?_
  blk_simp
  rw [after0_6]
  exact pointV m c t y

end Cert.Qkv.Ker

end
-- ==== Proof.MixOutValue.lean ====
module

public import proofs.«01_k».proof.Proof.GmlpSpec
public import proofs.«01_k».proof.Proof.Gen.Kernel4Ideal.Value
public import proofs.«01_k».proof.Proof.Gen.Reference4Ideal.Run
public import Idealize.ShloMosaic.Lib.Pipeline.ValueKit
public import Idealize.ShloMosaic.Lib.Claim

/-!
# The attention's output projection

The output projection of the attention, the scaled residual and the layer norm: the reference's term read at an entry,
the kernel's tile read at an entry, and the kernel's result array as the reference's function of the arguments.
-/

set_option maxRecDepth 16384

@[expose] public section

noncomputable section

open Idealize.ShloMosaic Idealize.ShloMosaic.TcCoe Idealize.SL.Sem
open Idealize.ShloMosaic.Pipeline (Dat)

namespace Cert.MixOut

open Cert.Gmlp (lit mean layerNorm)

/-- One token: the scaled residual plus the projection, normalised. -/
def token (w : Fin 1024 → Fin 1024 → EReal) (g b : Fin 1024 → EReal) (o h : Fin 1024 → EReal) (j : Fin 1024) : EReal :=
  layerNorm (lit 0x44800000#32) (fun l => lit 0x3FD744FD#32 * h l + ∑ k, o k * w k l) g b j

namespace Ref

open Cert.Reference4Ideal Cert.Reference4Ideal.Gen

/-- The scaled residual plus the output projection. -/
def resid (O : FVec Ideal S32x2048x1024 .bf16) (X : FVec Ideal S32x2048x1024 .f32) (W : FVec Ideal S1024x1024 .f32) : FVec Ideal S32x2048x1024 .f32 :=
  addf (mulf (broadcastInDim S32x2048x1024 ![] bcast_S_S32x2048x1024 (constant S_ .f32 0x3FD744FD#32)) X)
    (Host.dotGeneral dot_S32x2048x1024_S1024x1024_S32x2048x1024_2_0_01_1_n_n none O W)

/-- The row means over 1024 features. -/
def meanOf (v : FVec Ideal S32x2048x1024 .f32) : FVec Ideal S32x2048x1 .f32 :=
  Host.divf (broadcastInDim S32x2048x1 ![0, 1] bcast_S32x2048_S32x2048x1_0_1
      (Host.reduceAdd v (constant S_ .f32 0x00000000#32) reducesTo_S32x2048x1024_S32x2048_d2 h_S_))
    (broadcastInDim S32x2048x1 ![] bcast_S_S32x2048x1 (constant S_ .f32 0x44800000#32))

/-- A row less its mean. -/
def centre (v : FVec Ideal S32x2048x1024 .f32) : FVec Ideal S32x2048x1024 .f32 :=
  subf v (broadcastInDim S32x2048x1024 ![0, 1, 2] bcast_S32x2048x1_S32x2048x1024_0_1_2 (meanOf v))

/-- Layer norm over 1024 features. -/
def normOf (v : FVec Ideal S32x2048x1024 .f32) (g b : FVec Ideal S1024 .f32) : FVec Ideal S32x2048x1024 .f32 :=
  addf (mulf (mulf (centre v) (broadcastInDim S32x2048x1024 ![0, 1, 2] bcast_S32x2048x1_S32x2048x1024_0_1_2
      (Host.rsqrt (addf (meanOf (mulf (centre v) (centre v)))
        (broadcastInDim S32x2048x1 ![] bcast_S_S32x2048x1 (constant S_ .f32 0x3727C5AC#32))))))
      (broadcastInDim S32x2048x1024 ![0, 1, 2] bcast_S1x1x1024_S32x2048x1024_0_1_2 (broadcastInDim S1x1x1024 ![2] bcast_S1024_S1x1x1024_2 g)))
    (broadcastInDim S32x2048x1024 ![0, 1, 2] bcast_S1x1x1024_S32x2048x1024_0_1_2 (broadcastInDim S1x1x1024 ![2] bcast_S1024_S1x1x1024_2 b))

/-- The reference's result as a function of its five arguments. -/
def whole (O : FVec Ideal S32x2048x1024 .bf16) (X : FVec Ideal S32x2048x1024 .f32) (W : FVec Ideal S1024x1024 .f32)
    (g b : FVec Ideal S1024 .f32) : FVec Ideal S32x2048x1024 .f32 :=
  normOf (resid O X W) g b

/-- Every run of the reference ends with `whole` of the arguments in its result and the arguments unchanged. -/
theorem run_whole (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = whole (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1, (h c).2⟩) (Cert.Reference4Ideal.Value.run (F := Ideal) m ρ)

/-- The layer norm at an entry. -/
theorem normOf_at (v : FVec Ideal S32x2048x1024 .f32) (g b : FVec Ideal S1024 .f32) (a : Fin 32) (r : Fin 2048) (j : Fin 1024) :
    normOf v g b (ix3 a r j) = layerNorm (lit 0x44800000#32) (fun l => v (ix3 a r l)) (fun l => g (ix1 l)) (fun l => b (ix1 l)) j := by
  pointwise [normOf, centre, meanOf, layerNorm, mean, lit]

/-- The residual at an entry. -/
theorem resid_at (O : FVec Ideal S32x2048x1024 .bf16) (X : FVec Ideal S32x2048x1024 .f32) (W : FVec Ideal S1024x1024 .f32)
    (a : Fin 32) (r : Fin 2048) (j : Fin 1024) :
    resid O X W (ix3 a r j) = lit 0x3FD744FD#32 * X (ix3 a r j) + ∑ k, O (ix3 a r k) * W (ix2 k j) := by
  pointwise [resid, lit]

/-- The reference's result at token `r` of sequence `a`. -/
theorem whole_at (O : FVec Ideal S32x2048x1024 .bf16) (X : FVec Ideal S32x2048x1024 .f32) (W : FVec Ideal S1024x1024 .f32)
    (g b : FVec Ideal S1024 .f32) (a : Fin 32) (r : Fin 2048) (j : Fin 1024) :
    whole O X W g b (ix3 a r j)
      = token (fun k l => W (ix2 k l)) (fun l => g (ix1 l)) (fun l => b (ix1 l)) (fun k => O (ix3 a r k)) (fun l => X (ix3 a r l)) j := by
  unfold whole token
  rw [normOf_at]
  simp only [resid_at]

end Ref

namespace Ker

open Cert.Kernel4Ideal Cert.Kernel4Ideal.Gen

/-- What the kernel computes of 256 tokens. -/
def tile (o : FVec Ideal S1x256x1024 .bf16) (h : FVec Ideal S1x256x1024 .f32) (w : FVec Ideal S1024x1024 .bf16) (g b : FVec Ideal S1x1024 .f32) :
    FVec Ideal S1x256x1024 .f32 :=
  k0_pay7 (k0_pay3 g) (k0_pay4 b) (k0_pay5 o w h) (k0_pay6 o w h)

/-- The tile at token `r`. -/
theorem tile_at (o : FVec Ideal S1x256x1024 .bf16) (h : FVec Ideal S1x256x1024 .f32) (w : FVec Ideal S1024x1024 .bf16) (g b : FVec Ideal S1x1024 .f32)
    (r : Fin 256) (j : Fin 1024) :
    tile o h w g b (ix3 0 r j)
      = token (fun k l => w (ix2 k l)) (fun l => g (ix2 0 l)) (fun l => b (ix2 0 l)) (fun k => o (ix3 0 r k)) (fun l => h (ix3 0 r l)) j := by
  pointwise [tile, k0_pay7, k0_pay3, k0_pay4, k0_pay5, k0_pay6, token, layerNorm, mean, lit]

variable (m : (ℓ : Loc nD τ sig) → Buf (Elt Ideal) ℓ)

/-- Where each window sits at each grid point. -/
theorem idx : ∀ t : Fin cfg0.N, win0_0.index t = ![t.val, 0, 0] ∧ win0_1.index t = ![t.val, 0, 0]
    ∧ win0_2.index t = ![0, 0] ∧ win0_3.index t = ![0, 0] ∧ win0_4.index t = ![0, 0] ∧ win0_5.index t = ![t.val, 0, 0] :=
  (by decide +kernel : ∀ t : Fin grid0.N, _)

/-- The result array as the reference's function of the argument arrays. -/
abbrev REF (c : Dev nD) : FVec Ideal S32x2048x1024 .f32 :=
  Ref.whole (m ((c : Thread nD τ).loc main_arg0)) (m ((c : Thread nD τ).loc main_arg1)) (m ((c : Thread nD τ).loc main_arg2))
    (m ((c : Thread nD τ).loc main_arg3)) (m ((c : Thread nD τ).loc main_arg4))

/-- When the blocks hold the arguments' entries, the tile is the reference's. -/
theorem run_eq (O : FVec Ideal S32x2048x1024 .bf16) (X : FVec Ideal S32x2048x1024 .f32) (W : FVec Ideal S1024x1024 .f32)
    (G B : FVec Ideal S1024 .f32)
    (o : FVec Ideal S1x256x1024 .bf16) (h : FVec Ideal S1x256x1024 .f32) (w : FVec Ideal S1024x1024 .bf16) (g b : FVec Ideal S1x1024 .f32)
    (a : Fin 32) (n : ℕ) (hn : n ≤ 1792)
    (ho : ∀ (r : Fin 256) l, o (ix3 0 r l) = O (ix3 a ⟨n + r, by omega⟩ l))
    (hh : ∀ (r : Fin 256) l, h (ix3 0 r l) = X (ix3 a ⟨n + r, by omega⟩ l))
    (hw : ∀ k l, w (ix2 k l) = W (ix2 k l)) (hg : ∀ l, g (ix2 0 l) = G (ix1 l)) (hb : ∀ l, b (ix2 0 l) = B (ix1 l))
    (r : Fin 256) (j : Fin 1024) (R : Fin 2048) (hR : (R : ℕ) = n + r) :
    tile o h w g b (ix3 0 r j) = Ref.whole O X W G B (ix3 a R j) := by
  have e : R = ⟨n + r, by omega⟩ := Fin.ext hR
  rw [e, tile_at, Ref.whole_at]
  simp only [ho, hh, hw, hg, hb]

/-- What a grid point leaves in its block is the reference's function there. -/
theorem point (c : Dev nD) (t : Fin cfg0.N) (y : S1x2048x1024.Idx) :
    out0_5 (F := Ideal) (iblk m c 0 t) (iblk m c 1 t) (iblk m c 2 t) (iblk m c 3 t) (iblk m c 4 t) y
      = REF m c (((cfg0.win 5).blk t).view.emb y) := by
  unfold_out out0_5
  have hN : (t : ℕ) < 32 := t.isLt
  have ex : ((cfg0.win 5).blk t).view.emb y = ix3 (⟨t.val, by omega⟩ : Fin 32) (⟨(y 1 : ℕ), (y 1).isLt⟩ : Fin 2048) (y 2) := by
    have : (y 0 : ℕ) < 1 := (y 0).isLt
    blk_ext [idx t]
  rw [ex]
  canon_tiles y h
  all_goals
    rename_i z
    idx_vars y
    obtain rfl : y0 = 0 := Subsingleton.elim _ _
    have e2 : z 2 = y2 := Fin.ext h2
    rw [e2]
  · refine run_eq _ _ _ _ _ (View.ld (iblk m c 0 t) r0_9) (View.ld (iblk m c 1 t) r0_9) (View.ld (iblk m c 2 t) r0_1) (View.ld (iblk m c 3 t) r0_3) (View.ld (iblk m c 4 t) r0_3)
      _ 1792 (by omega) ?_ ?_ ?_ ?_ ?_ y1 y2 _ (by simp only; omega)
    all_goals first | intro u v | intro u
    all_goals pointwise
    all_goals blk_point [iblk, V, idx t]
  · refine run_eq _ _ _ _ _ (View.ld (iblk m c 0 t) r0_8) (View.ld (iblk m c 1 t) r0_8) (View.ld (iblk m c 2 t) r0_1) (View.ld (iblk m c 3 t) r0_3) (View.ld (iblk m c 4 t) r0_3)
      _ 1536 (by omega) ?_ ?_ ?_ ?_ ?_ y1 y2 _ (by simp only; omega)
    all_goals first | intro u v | intro u
    all_goals pointwise
    all_goals blk_point [iblk, V, idx t]
  · refine run_eq _ _ _ _ _ (View.ld (iblk m c 0 t) r0_7) (View.ld (iblk m c 1 t) r0_7) (View.ld (iblk m c 2 t) r0_1) (View.ld (iblk m c 3 t) r0_3) (View.ld (iblk m c 4 t) r0_3)
      _ 1280 (by omega) ?_ ?_ ?_ ?_ ?_ y1 y2 _ (by simp only; omega)
    all_goals first | intro u v | intro u
    all_goals pointwise
    all_goals blk_point [iblk, V, idx t]
  · refine run_eq _ _ _ _ _ (View.ld (iblk m c 0 t) r0_6) (View.ld (iblk m c 1 t) r0_6) (View.ld (iblk m c 2 t) r0_1) (View.ld (iblk m c 3 t) r0_3) (View.ld (iblk m c 4 t) r0_3)
      _ 1024 (by omega) ?_ ?_ ?_ ?_ ?_ y1 y2 _ (by simp only; omega)
    all_goals first | intro u v | intro u
    all_goals pointwise
    all_goals blk_point [iblk, V, idx t]
  · refine run_eq _ _ _ _ _ (View.ld (iblk m c 0 t) r0_5) (View.ld (iblk m c 1 t) r0_5) (View.ld (iblk m c 2 t) r0_1) (View.ld (iblk m c 3 t) r0_3) (View.ld (iblk m c 4 t) r0_3)
      _ 768 (by omega) ?_ ?_ ?_ ?_ ?_ y1 y2 _ (by simp only; omega)
    all_goals first | intro u v | intro u
    all_goals pointwise
    all_goals blk_point [iblk, V, idx t]
  · refine run_eq _ _ _ _ _ (View.ld (iblk m c 0 t) r0_4) (View.ld (iblk m c 1 t) r0_4) (View.ld (iblk m c 2 t) r0_1) (View.ld (iblk m c 3 t) r0_3) (View.ld (iblk m c 4 t) r0_3)
      _ 512 (by omega) ?_ ?_ ?_ ?_ ?_ y1 y2 _ (by simp only; omega)
    all_goals first | intro u v | intro u
    all_goals pointwise
    all_goals blk_point [iblk, V, idx t]
  · refine run_eq _ _ _ _ _ (View.ld (iblk m c 0 t) r0_2) (View.ld (iblk m c 1 t) r0_2) (View.ld (iblk m c 2 t) r0_1) (View.ld (iblk m c 3 t) r0_3) (View.ld (iblk m c 4 t) r0_3)
      _ 256 (by omega) ?_ ?_ ?_ ?_ ?_ y1 y2 _ (by simp only; omega)
    all_goals first | intro u v | intro u
    all_goals pointwise
    all_goals blk_point [iblk, V, idx t]
  · refine run_eq _ _ _ _ _ (View.ld (iblk m c 0 t) r0_0) (View.ld (iblk m c 1 t) r0_0) (View.ld (iblk m c 2 t) r0_1) (View.ld (iblk m c 3 t) r0_3) (View.ld (iblk m c 4 t) r0_3)
      _ 0 (by omega) ?_ ?_ ?_ ?_ ?_ y1 y2 _ (by simp only; omega)
    all_goals first | intro u v | intro u
    all_goals pointwise
    all_goals blk_point [iblk, V, idx t]

/-- The result array after the run. -/
theorem final (c : Dev nD) : (dats m 0 c).arrAt 5 (cfgs 0).N = REF m c := by
  refine (dats m 0 c).arrAt_eq_of_covers 5 _ (by decide +kernel) fun t _ y => ?_
  blk_simp
  rw [after0_5]
  exact point m c t y

end Ker

end Cert.MixOut

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.GmlpValue
public import proofs.«01_k».proof.Proof.FfnValue
public import proofs.«01_k».proof.Proof.QkvValue
public import proofs.«01_k».proof.Proof.MixOutValue
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The mixer kernel and the mixer reference leave the same array over the extended reals. -/
theorem mixer_algebraic : Cert.algebraic_KernelIdeal_ReferenceIdeal := by
  pair_intro
  · run_from Cert.KernelIdeal.Value.run_blocks m g
  · run_from Cert.ReferenceIdeal.Value.run m' g'
    obtain ⟨h0, h1, h2, h3, h4, h5, h6, h7, h8⟩ := hagree c
    refine (Cert.Gmlp.Ref.run_term m' c).trans (Eq.trans ?_ (Cert.Gmlp.Ker.final m c).symm)
    rw [h0, h1, h2, h3, h4, h5, h6, h7, h8]

/-- The reference's run finishes with its arguments unchanged. -/
theorem mixer_frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The feed-forward kernel and the feed-forward reference leave the same array over the extended reals. -/
theorem ffn_algebraic : Cert.algebraic_Kernel2Ideal_Reference2Ideal := by
  pair_intro
  · run_from Cert.Ffn.run_named m g
  · run_from Cert.Reference2Ideal.Value.run m' g'
    obtain ⟨h0, h1, h2, h3, h4, h5, h6⟩ := hagree c
    refine (Cert.Ffn.Ref.run_term m' c).trans (Eq.trans ?_ (Cert.Ffn.final m c).symm)
    rw [h0, h1, h2, h3, h4, h5, h6]

/-- The two prints of the feed-forward program name the same bodies. -/
theorem ffn_bodies : Cert.Kernel2.defs₀ (F := Bits) = Cert.Kernel2Ideal.defs₀ (F := Bits) := by
  unfold Cert.Kernel2.defs₀ Cert.Kernel2Ideal.defs₀
  refine congrArg Defs.onTc (funext fun l => funext fun x => ?_)
  match l, x with
  | ⟨0, _⟩, (t, s) => rfl
  | ⟨_ + 1, h⟩, _ => exact absurd h (Nat.not_lt.2 (Nat.le_add_left _ _))

/-- The two prints of the feed-forward program name the same definitions. -/
theorem ffn_defs : Cert.Kernel2.defs (F := Bits) = Cert.Kernel2Ideal.defs (F := Bits) := by
  unfold Cert.Kernel2.defs Cert.Kernel2Ideal.defs
  rw [ffn_bodies]
  rfl

/-- The feed-forward kernel's run over bit patterns finishes with its arguments unchanged and every counter at zero. -/
theorem ffn_frame_kernel : Cert.quiescent_Kernel2 := fun m ρ _ => by
  rw [ffn_defs]
  exact Cert.Ffn.frame_any (F := Bits) m ρ

/-- The feed-forward kernel's run over the extended reals finishes with its arguments unchanged and every counter at zero. -/
theorem ffn_frame_ideal : Cert.quiescent_Kernel2Ideal := fun m ρ _ => Cert.Ffn.frame_any (F := Ideal) m ρ

/-- The feed-forward reference's run finishes with its arguments unchanged. -/
theorem ffn_frame_reference : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run (F := Ideal) m ρ)

/-- The projection kernel and the projection reference leave the same queries, keys and values over the extended reals. -/
theorem qkv_algebraic : Cert.algebraic_Kernel3Ideal_Reference3Ideal := by
  pair_intro
  · run_from Cert.Kernel3Ideal.Value.run_blocks m g
  · run_from Cert.Reference3Ideal.Value.run m' g'
    · exact (Cert.Qkv.Ker.finalQ m c).symm
    · exact (Cert.Qkv.Ker.finalK m c).symm
    · exact (Cert.Qkv.Ker.finalV m c).symm

/-- The projection reference's run finishes with its arguments unchanged. -/
theorem qkv_frame_reference : Cert.quiescent_Reference3Ideal := by
  intro m ρ _
  exact (θ_run Cert.Reference3Ideal.defs _ _).mono (fun r h => ⟨fun c => (h c).2.2.2, sem_eq_zero_of_no_sems (by decide) r.2⟩)
    (Cert.Reference3Ideal.Value.run (F := Ideal) m ρ)

/-- The output projection's kernel and its reference leave the same array over the extended reals. -/
theorem mixOut_algebraic : Cert.algebraic_Kernel4Ideal_Reference4Ideal := by
  pair_intro
  · run_from Cert.Kernel4Ideal.Value.run_blocks m g
  · run_from Cert.MixOut.Ref.run_whole m' g'
    exact (Cert.MixOut.Ker.final m c).symm

/-- The output projection's reference's run finishes with its arguments unchanged. -/
theorem mixOut_frame_reference : Cert.quiescent_Reference4Ideal := by
  intro m ρ _
  exact (θ_run Cert.Reference4Ideal.defs _ _).mono (fun r h => ⟨fun c => (h c).2, sem_eq_zero_of_no_sems (by decide) r.2⟩)
    (Cert.Reference4Ideal.Value.run (F := Ideal) m ρ)

/-- Everything certified. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Gen.frame m ρ,
  fun m ρ _ => Cert.KernelIdeal.Gen.frame m ρ,
  mixer_frame_reference,
  ffn_frame_kernel, ffn_frame_ideal, ffn_frame_reference,
  fun m ρ _ => Cert.Kernel3.Gen.frame m ρ,
  fun m ρ _ => Cert.Kernel3Ideal.Gen.frame m ρ,
  qkv_frame_reference,
  fun m ρ _ => Cert.Kernel4.Gen.frame m ρ,
  fun m ρ _ => Cert.Kernel4Ideal.Gen.frame m ρ,
  mixOut_frame_reference,
  trivial, mixer_algebraic, trivial, ffn_algebraic, trivial, qkv_algebraic, trivial, mixOut_algebraic⟩

end Cert.Proof

end
